-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v28_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v23_0)) (v1 : (c : Dev Cert.Kernel6Ideal.nD) → Buf (Elt Ideal) ((c.tc : Thread Cert.Kernel6Ideal.nD Cert.Kernel6Ideal.τ).loc Cert.Kernel6Ideal.main_v23_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_0) = v0 c
          ∧ r.2.mem ((c.tc : Thread Cert.Kernel6Ideal.nD Cert.Kernel6Ideal.τ).loc Cert.Kernel6Ideal.main_v23_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_inputs.lean ====
abbrev S8x2048x8x64 : Shape := ⟨4, ![8, 2048, 8, 64]⟩
abbrev S8x2048x8 : Shape := ⟨3, ![8, 2048, 8]⟩
abbrev S_ : Shape := ⟨0, ![]⟩

class Facts : Prop where
  bcast_S_S8x2048x8x64 : S_.BroadcastsInDim S8x2048x8x64 (![] : Fin 0 → Fin S8x2048x8x64.rank)
  bcast_S_S8x2048x8 : S_.BroadcastsInDim S8x2048x8 (![] : Fin 0 → Fin S8x2048x8.rank)

variable [Facts]

def fn {F : FTy → Type} [FloatOps F] (main_arg0 : FVec F S8x2048x8x64 .f32) (main_arg1 : FVec F S8x2048x8x64 .f32) (main_arg2 : FVec F S8x2048x8x64 .f32) (main_arg3 : FVec F S8x2048x8 .f32) : IVec S8x2048x8x64 1 × IVec S8x2048x8x64 1 × IVec S8x2048x8 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_v3 : FVec F S8x2048x8x64 .f32 := Host.absf main_arg1
  let main_cst_0 : FVec F S_ .f32 := constant S_ .f32 0x7F800000#32
  let main_v4 : FVec F S8x2048x8x64 .f32 := broadcastInDim S8x2048x8x64 ![] bcast_S_S8x2048x8x64 main_cst_0
  let main_v5 : IVec S8x2048x8x64 1 := cmpf .olt main_v3 main_v4
  let main_v6 : FVec F S8x2048x8 .f32 := Host.absf main_arg3
  let main_cst_1 : FVec F S_ .f32 := constant S_ .f32 0x7F800000#32
  let main_v7 : FVec F S8x2048x8 .f32 := broadcastInDim S8x2048x8 ![] bcast_S_S8x2048x8 main_cst_1
  let main_v8 : IVec S8x2048x8 1 := cmpf .olt main_v6 main_v7
  (main_v2, main_v5, main_v8)
-- ==== Kernel.lean ====
abbrev S8x2048x8x64 : Shape := ⟨4, ![8, 2048, 8, 64]⟩
abbrev S8x2048x8 : Shape := ⟨3, ![8, 2048, 8]⟩
abbrev S_ : Shape := ⟨0, ![]⟩
abbrev S16384x4096 : Shape := ⟨2, ![16384, 4096]⟩
abbrev S16384x512 : Shape := ⟨2, ![16384, 512]⟩
abbrev S16384x4608 : Shape := ⟨2, ![16384, 4608]⟩
abbrev S8x2048x512 : Shape := ⟨3, ![8, 2048, 512]⟩
abbrev S8x512x2048 : Shape := ⟨3, ![8, 512, 2048]⟩
abbrev S8x128x2048 : Shape := ⟨3, ![8, 128, 2048]⟩
abbrev S8x1152x2048 : Shape := ⟨3, ![8, 1152, 2048]⟩
abbrev S8x8x2048 : Shape := ⟨3, ![8, 8, 2048]⟩
abbrev S16384x8 : Shape := ⟨2, ![16384, 8]⟩
abbrev S16384x128 : Shape := ⟨2, ![16384, 128]⟩
abbrev S256x512 : Shape := ⟨2, ![256, 512]⟩
abbrev S1x512x2048 : Shape := ⟨3, ![1, 512, 2048]⟩
abbrev S1x8x2048 : Shape := ⟨3, ![1, 8, 2048]⟩
abbrev S256x128 : Shape := ⟨2, ![256, 128]⟩
abbrev S512x2048 : Shape := ⟨2, ![512, 2048]⟩
abbrev S8x256x128 : Shape := ⟨3, ![8, 256, 128]⟩
abbrev S8x256x1 : Shape := ⟨3, ![8, 256, 1]⟩
abbrev S256x256 : Shape := ⟨2, ![256, 256]⟩
abbrev S1x256x128 : Shape := ⟨3, ![1, 256, 128]⟩
abbrev S256x1 : Shape := ⟨2, ![256, 1]⟩
abbrev S1x256x1 : Shape := ⟨3, ![1, 256, 1]⟩
abbrev S128x256 : Shape := ⟨2, ![128, 256]⟩
abbrev S1x1x256 : Shape := ⟨3, ![1, 1, 256]⟩
abbrev S1x256 : Shape := ⟨2, ![1, 256]⟩
abbrev S256 : Shape := ⟨1, ![256]⟩

abbrev nBuf : Space → Nat
  | .hbm => 21
  | .vmem => 19
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8, .f32⟩
  | .hbm, ⟨4, _⟩ => ⟨S_, .f32⟩
  | .hbm, ⟨5, _⟩ => ⟨S16384x4096, .f32⟩
  | .hbm, ⟨6, _⟩ => ⟨S16384x512, .f32⟩
  | .hbm, ⟨7, _⟩ => ⟨S16384x4608, .f32⟩
  | .hbm, ⟨8, _⟩ => ⟨S8x2048x512, .f32⟩
  | .hbm, ⟨9, _⟩ => ⟨S8x512x2048, .f32⟩
  | .hbm, ⟨10, _⟩ => ⟨S8x2048x512, .f32⟩
  | .hbm, ⟨11, _⟩ => ⟨S8x512x2048, .f32⟩
  | .hbm, ⟨12, _⟩ => ⟨S_, .f32⟩
  | .hbm, ⟨13, _⟩ => ⟨S8x128x2048, .f32⟩
  | .hbm, ⟨14, _⟩ => ⟨S8x1152x2048, .f32⟩
  | .hbm, ⟨15, _⟩ => ⟨S8x8x2048, .f32⟩
  | .hbm, ⟨16, _⟩ => ⟨S16384x8, .f32⟩
  | .hbm, ⟨17, _⟩ => ⟨S_, .i32⟩
  | .hbm, ⟨18, _⟩ => ⟨S_, .f32⟩
  | .hbm, ⟨19, _⟩ => ⟨S16384x128, .f32⟩
  | .hbm, ⟨20, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x8x2048, .f32⟩
  | .local _ .vmem, ⟨7, _⟩ => ⟨S1x8x2048, .f32⟩
  | .local _ .vmem, ⟨8, _⟩ => ⟨S256x128, .f32⟩
  | .local _ .vmem, ⟨9, _⟩ => ⟨S256x128, .f32⟩
  | .local _ .vmem, ⟨10, _⟩ => ⟨S256x512, .f32⟩
  | .local _ .vmem, ⟨11, _⟩ => ⟨S256x512, .f32⟩
  | .local _ .vmem, ⟨12, _⟩ => ⟨S512x2048, .bf16⟩
  | .local _ .vmem, ⟨13, _⟩ => ⟨S512x2048, .bf16⟩
  | .local _ .vmem, ⟨14, _⟩ => ⟨S8x256x128, .bf16⟩
  | .local _ .vmem, ⟨15, _⟩ => ⟨S8x256x1, .f32⟩
  | .local _ .vmem, ⟨16, _⟩ => ⟨S8x256x1, .f32⟩
  | .local _ .vmem, ⟨17, _⟩ => ⟨S8x256x1, .f32⟩
  | .local _ .vmem, ⟨18, _⟩ => ⟨S8x256x128, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_73 : BitVec 32 := 1#32
  ⟨c0_i32_72, v123, c1_i32_73⟩
def k0_mult1 (i : grid0.Coords) (k0_t1 : Fin (k0_t1_loop i).trips) : BitVec 32 :=
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  v582
def k0_off1 (i : grid0.Coords) (k0_t1 : Fin (k0_t1_loop i).trips) : Fin 2 → Nat :=
  let c0_399 : Index := 0#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v586 : Index := Scalar.indexCast v583
  ![0, v586.toNat]
def k0_off2 (i : grid0.Coords) (k0_t1 : Fin (k0_t1_loop i).trips) : Fin 3 → Nat :=
  let c0_404 : Index := 0#32
  let c0_405 : Index := 0#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v593 : Index := Scalar.indexCast v583
  ![0, 0, v593.toNat]
def k0_off3 (i : grid0.Coords) (k0_t1 : Fin (k0_t1_loop i).trips) : Fin 3 → Nat :=
  let c0_414 : Index := 0#32
  let c1_415 : Index := 1#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v607 : Index := Scalar.indexCast v583
  ![0, 1, v607.toNat]
def k0_off4 (i : grid0.Coords) (k0_t1 : Fin (k0_t1_loop i).trips) : Fin 2 → Nat :=
  let c128_419 : Index := 128#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v614 : Index := Scalar.indexCast v583
  ![128, v614.toNat]
def k0_off5 (i : grid0.Coords) (k0_t1 : Fin (k0_t1_loop i).trips) : Fin 3 → Nat :=
  let c0_424 : Index := 0#32
  let c2_425 : Index := 2#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v621 : Index := Scalar.indexCast v583
  ![0, 2, v621.toNat]
def k0_off6 (i : grid0.Coords) (k0_t1 : Fin (k0_t1_loop i).trips) : Fin 3 → Nat :=
  let c0_434 : Index := 0#32
  let c3_435 : Index := 3#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v635 : Index := Scalar.indexCast v583
  ![0, 3, v635.toNat]
def k0_off7 (i : grid0.Coords) (k0_t1 : Fin (k0_t1_loop i).trips) : Fin 2 → Nat :=
  let c256_439 : Index := 256#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v642 : Index := Scalar.indexCast v583
  ![256, v642.toNat]
def k0_off8 (i : grid0.Coords) (k0_t1 : Fin (k0_t1_loop i).trips) : Fin 3 → Nat :=
  let c0_444 : Index := 0#32
  let c4_445 : Index := 4#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v649 : Index := Scalar.indexCast v583
  ![0, 4, v649.toNat]
def k0_off9 (i : grid0.Coords) (k0_t1 : Fin (k0_t1_loop i).trips) : Fin 3 → Nat :=
  let c0_454 : Index := 0#32
  let c5_455 : Index := 5#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v663 : Index := Scalar.indexCast v583
  ![0, 5, v663.toNat]
def k0_off10 (i : grid0.Coords) (k0_t1 : Fin (k0_t1_loop i).trips) : Fin 2 → Nat :=
  let c384_459 : Index := 384#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v670 : Index := Scalar.indexCast v583
  ![384, v670.toNat]
def k0_off11 (i : grid0.Coords) (k0_t1 : Fin (k0_t1_loop i).trips) : Fin 3 → Nat :=
  let c0_464 : Index := 0#32
  let c6_465 : Index := 6#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v677 : Index := Scalar.indexCast v583
  ![0, 6, v677.toNat]
def k0_off12 (i : grid0.Coords) (k0_t1 : Fin (k0_t1_loop i).trips) : Fin 3 → Nat :=
  let c0_474 : Index := 0#32
  let c7_475 : Index := 7#32
  let c0_i32_72 : BitVec 32 := 0#32
  let c1_i32_73 : BitVec 32 := 1#32
  let arg15 : BitVec 32 := Scf.iv c0_i32_72 c1_i32_73 k0_t1
  let c256_i32_395 : BitVec 32 := 256#32
  let v582 : BitVec 32 := Scalar.muli arg15 c256_i32_395
  let v583 : BitVec 32 := v582
  let v691 : Index := Scalar.indexCast v583
  ![0, 7, v691.toNat]
@[reducible] def k0_t2_loop (i : grid0.Coords) : Scf.Loop 32 :=
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let v120 : BitVec 32 := Scalar.addi c0_i32_72 v119
  let c1_i32_74 : BitVec 32 := 1#32
  ⟨v123, v120, c1_i32_74⟩
def k0_mult2 (i : grid0.Coords) (k0_t2 : Fin (k0_t2_loop i).trips) : BitVec 32 :=
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  v582
def k0_off13 (i : grid0.Coords) (k0_t2 : Fin (k0_t2_loop i).trips) : Fin 2 → Nat :=
  let c0_399 : Index := 0#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v586 : Index := Scalar.indexCast v583
  ![0, v586.toNat]
def k0_off14 (i : grid0.Coords) (k0_t2 : Fin (k0_t2_loop i).trips) : Fin 3 → Nat :=
  let c0_404 : Index := 0#32
  let c0_405 : Index := 0#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v593 : Index := Scalar.indexCast v583
  ![0, 0, v593.toNat]
def k0_off15 (i : grid0.Coords) (k0_t2 : Fin (k0_t2_loop i).trips) : Fin 3 → Nat :=
  let c0_414 : Index := 0#32
  let c1_415 : Index := 1#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v607 : Index := Scalar.indexCast v583
  ![0, 1, v607.toNat]
def k0_off16 (i : grid0.Coords) (k0_t2 : Fin (k0_t2_loop i).trips) : Fin 2 → Nat :=
  let c128_419 : Index := 128#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v614 : Index := Scalar.indexCast v583
  ![128, v614.toNat]
def k0_off17 (i : grid0.Coords) (k0_t2 : Fin (k0_t2_loop i).trips) : Fin 3 → Nat :=
  let c0_424 : Index := 0#32
  let c2_425 : Index := 2#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v621 : Index := Scalar.indexCast v583
  ![0, 2, v621.toNat]
def k0_off18 (i : grid0.Coords) (k0_t2 : Fin (k0_t2_loop i).trips) : Fin 3 → Nat :=
  let c0_434 : Index := 0#32
  let c3_435 : Index := 3#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v635 : Index := Scalar.indexCast v583
  ![0, 3, v635.toNat]
def k0_off19 (i : grid0.Coords) (k0_t2 : Fin (k0_t2_loop i).trips) : Fin 2 → Nat :=
  let c256_439 : Index := 256#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v642 : Index := Scalar.indexCast v583
  ![256, v642.toNat]
def k0_off20 (i : grid0.Coords) (k0_t2 : Fin (k0_t2_loop i).trips) : Fin 3 → Nat :=
  let c0_444 : Index := 0#32
  let c4_445 : Index := 4#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v649 : Index := Scalar.indexCast v583
  ![0, 4, v649.toNat]
def k0_off21 (i : grid0.Coords) (k0_t2 : Fin (k0_t2_loop i).trips) : Fin 3 → Nat :=
  let c0_454 : Index := 0#32
  let c5_455 : Index := 5#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v663 : Index := Scalar.indexCast v583
  ![0, 5, v663.toNat]
def k0_off22 (i : grid0.Coords) (k0_t2 : Fin (k0_t2_loop i).trips) : Fin 2 → Nat :=
  let c384_459 : Index := 384#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v670 : Index := Scalar.indexCast v583
  ![384, v670.toNat]
def k0_off23 (i : grid0.Coords) (k0_t2 : Fin (k0_t2_loop i).trips) : Fin 3 → Nat :=
  let c0_464 : Index := 0#32
  let c6_465 : Index := 6#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v677 : Index := Scalar.indexCast v583
  ![0, 6, v677.toNat]
def k0_off24 (i : grid0.Coords) (k0_t2 : Fin (k0_t2_loop i).trips) : Fin 3 → Nat :=
  let c0_474 : Index := 0#32
  let c7_475 : Index := 7#32
  let c0_i32_72 : BitVec 32 := 0#32
  let arg1 : BitVec 32 := BitVec.ofNat 32 (i 1).val
  let v119 : BitVec 32 := Scalar.subi arg1 c0_i32_72
  let c1_i32 : BitVec 32 := 1#32
  let v121 : BitVec 32 := Scalar.divsi v119 c1_i32
  let v122 : BitVec 32 := Scalar.muli v121 c1_i32
  let v123 : BitVec 32 := Scalar.addi c0_i32_72 v122
  let c1_i32_74 : BitVec 32 := 1#32
  let arg15 : BitVec 32 := Scf.iv v123 c1_i32_74 k0_t2
  let c256_i32_395 : BitVec 32 := 256#32
  let v582 : BitVec 32 := Scalar.muli arg15 c256_i32_395
  let v583 : BitVec 32 := v582
  let v691 : Index := Scalar.indexCast v583
  ![0, 7, v691.toNat]
def k0_mult3 (i : grid0.Coords) : BitVec 32 :=
  let arg1 : BitVec 32 := BitVec.ofNat 32 (i 1).val
  let c256_i32 : BitVec 32 := 256#32
  let v124 : BitVec 32 := Scalar.muli arg1 c256_i32
  v124
def k0_off25 (i : grid0.Coords) : Fin 2 → Nat :=
  let c0_78 : Index := 0#32
  let arg1 : BitVec 32 := BitVec.ofNat 32 (i 1).val
  let c256_i32 : BitVec 32 := 256#32
  let v124 : BitVec 32 := Scalar.muli arg1 c256_i32
  let v125 : BitVec 32 := v124
  let v128 : Index := Scalar.indexCast v125
  ![0, v128.toNat]
def k0_off26 (i : grid0.Coords) : Fin 3 → Nat :=
  let c0_83 : Index := 0#32
  let c0_84 : Index := 0#32
  let arg1 : BitVec 32 := BitVec.ofNat 32 (i 1).val
  let c256_i32 : BitVec 32 := 256#32
  let v124 : BitVec 32 := Scalar.muli arg1 c256_i32
  let v125 : BitVec 32 := v124
  let v135 : Index := Scalar.indexCast v125
  ![0, 0, v135.toNat]
def k0_off27 (i : grid0.Coords) : Fin 3 → Nat :=
  let c0_94 : Index := 0#32
  let c1_95 : Index := 1#32
  let arg1 : BitVec 32 := BitVec.ofNat 32 (i 1).val
  let c256_i32 : BitVec 32 := 256#32
  let v124 : BitVec 32 := Scalar.muli arg1 c256_i32
  let v125 : BitVec 32 := v124
  let v151 : Index := Scalar.indexCast v125
  ![0, 1, v151.toNat]
def k0_off28 (i : grid0.Coords) : Fin 2 → Nat :=
  let c128_100 : Index := 128#32
  let arg1 : BitVec 32 := BitVec.ofNat 32 (i 1).val
  let c256_i32 : BitVec 32 := 256#32
  let v124 : BitVec 32 := Scalar.muli arg1 c256_i32
  let v125 : BitVec 32 := v124
  let v160 : Index := Scalar.indexCast v125
  ![128, v160.toNat]
def k0_off29 (i : grid0.Coords) : Fin 3 → Nat :=
  let c0_105 : Index := 0#32
  let c2_106 : Index := 2#32
  let arg1 : BitVec 32 := BitVec.ofNat 32 (i 1).val
  let c256_i32 : BitVec 32 := 256#32
  let v124 : BitVec 32 := Scalar.muli arg1 c256_i32
  let v125 : BitVec 32 := v124
  let v167 : Index := Scalar.indexCast v125
  ![0, 2, v167.toNat]
def k0_off30 (i : grid0.Coords) : Fin 3 → Nat :=
  let c0_116 : Index := 0#32
  let c3_117 : Index := 3#32
  let arg1 : BitVec 32 := BitVec.ofNat 32 (i 1).val
  let c256_i32 : BitVec 32 := 256#32
  let v124 : BitVec 32 := Scalar.muli arg1 c256_i32
  let v125 : BitVec 32 := v124
  let v183 : Index := Scalar.indexCast v125
  ![0, 3, v183.toNat]
def k0_off31 (i : grid0.Coords) : Fin 2 → Nat :=
  let c256_122 : Index := 256#32
  let arg1 : BitVec 32 := BitVec.ofNat 32 (i 1).val
  let c256_i32 : BitVec 32 := 256#32
  let v124 : BitVec 32 := Scalar.muli arg1 c256_i32
  let v125 : BitVec 32 := v124
  let v192 : Index := Scalar.indexCast v125
  ![256, v192.toNat]
def k0_off32 (i : grid0.Coords) : Fin 3 → Nat :=
  let c0_127 : Index := 0#32
  let c4_128 : Index := 4#32
  let arg1 : BitVec 32 := BitVec.ofNat 32 (i 1).val
  let c256_i32 : BitVec 32 := 256#32
  let v124 : BitVec 32 := Scalar.muli arg1 c256_i32
  let v125 : BitVec 32 := v124
  let v199 : Index := Scalar.indexCast v125
  ![0, 4, v199.toNat]
def k0_off33 (i : grid0.Coords) : Fin 3 → Nat :=
  let c0_138 : Index := 0#32
  let c5_139 : Index := 5#32
  let arg1 : BitVec 32 := BitVec.ofNat 32 (i 1).val
  let c256_i32 : BitVec 32 := 256#32
  let v124 : BitVec 32 := Scalar.muli arg1 c256_i32
  let v125 : BitVec 32 := v124
  let v215 : Index := Scalar.indexCast v125
  ![0, 5, v215.toNat]
def k0_off34 (i : grid0.Coords) : Fin 2 → Nat :=
  let c384_144 : Index := 384#32
  let arg1 : BitVec 32 := BitVec.ofNat 32 (i 1).val
  let c256_i32 : BitVec 32 := 256#32
  let v124 : BitVec 32 := Scalar.muli arg1 c256_i32
  let v125 : BitVec 32 := v124
  let v224 : Index := Scalar.indexCast v125
  ![384, v224.toNat]
def k0_off35 (i : grid0.Coords) : Fin 3 → Nat :=
  let c0_149 : Index := 0#32
  let c6_150 : Index := 6#32
  let arg1 : BitVec 32 := BitVec.ofNat 32 (i 1).val
  let c256_i32 : BitVec 32 := 256#32
  let v124 : BitVec 32 := Scalar.muli arg1 c256_i32
  let v125 : BitVec 32 := v124
  let v231 : Index := Scalar.indexCast v125
  ![0, 6, v231.toNat]
def k0_off36 (i : grid0.Coords) : Fin 3 → Nat :=
  let c0_160 : Index := 0#32
  let c7_161 : Index := 7#32
  let arg1 : BitVec 32 := BitVec.ofNat 32 (i 1).val
  let c256_i32 : BitVec 32 := 256#32
  let v124 : BitVec 32 := Scalar.muli arg1 c256_i32
  let v125 : BitVec 32 := v124
  let v247 : Index := Scalar.indexCast v125
  ![0, 7, v247.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x8x64 : Shape := ⟨4, ![8, 2048, 8, 64]⟩
abbrev S8x2048x8 : Shape := ⟨3, ![8, 2048, 8]⟩
abbrev S8x8x2048 : Shape := ⟨3, ![8, 8, 2048]⟩
abbrev S8x8x2048x2048 : Shape := ⟨4, ![8, 8, 2048, 2048]⟩
abbrev S_ : Shape := ⟨0, ![]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩
abbrev S16384x512 : Shape := ⟨2, ![16384, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8, .f32⟩
  | .hbm, ⟨4, _⟩ => ⟨S8x8x2048, .f32⟩
  | .hbm, ⟨5, _⟩ => ⟨S8x8x2048x2048, .f32⟩
  | .hbm, ⟨6, _⟩ => ⟨S_, .f32⟩
  | .hbm, ⟨7, _⟩ => ⟨S8x8x2048x2048, .f32⟩
  | .hbm, ⟨8, _⟩ => ⟨S8x8x2048x2048, .f32⟩
  | .hbm, ⟨9, _⟩ => ⟨S8x8x2048x1, .f32⟩
  | .hbm, ⟨10, _⟩ => ⟨S8x8x2048x2048, .f32⟩
  | .hbm, ⟨11, _⟩ => ⟨S8x8x2048x2048, .f32⟩
  | .hbm, ⟨12, _⟩ => ⟨S8x8x1x2048, .f32⟩
  | .hbm, ⟨13, _⟩ => ⟨S8x8x2048x2048, .f32⟩
  | .hbm, ⟨14, _⟩ => ⟨S8x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x8x2048x2048, .i1⟩
  | .hbm, ⟨24, _⟩ => ⟨S8x8x2048x2048, .f32⟩
  | .hbm, ⟨25, _⟩ => ⟨S8x8x2048x2048, .f32⟩
  | .hbm, ⟨26, _⟩ => ⟨S_, .f32⟩
  | .hbm, ⟨27, _⟩ => ⟨S8x8x2048, .f32⟩
  | .hbm, ⟨28, _⟩ => ⟨S_, .f32⟩
  | .hbm, ⟨29, _⟩ => ⟨S8x8x2048, .f32⟩
  | .hbm, ⟨30, _⟩ => ⟨S8x8x2048, .f32⟩
  | .hbm, ⟨31, _⟩ => ⟨S8x8x2048x1, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S_, .f32⟩
  | .hbm, ⟨36, _⟩ => ⟨S8x8x2048, .f32⟩
  | .hbm, ⟨37, _⟩ => ⟨S8x8x2048x1, .f32⟩
  | .hbm, ⟨38, _⟩ => ⟨S8x8x2048x2048, .f32⟩
  | .hbm, ⟨39, _⟩ => ⟨S8x8x2048x2048, .f32⟩
  | .hbm, ⟨40, _⟩ => ⟨S8x8x64x2048, .f32⟩
  | .hbm, ⟨41, _⟩ => ⟨S8x2048x8x64, .f32⟩
  | .hbm, ⟨42, _⟩ => ⟨S16384x512, .f32⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S1024x5632 : Shape := ⟨2, ![1024, 5632]⟩
abbrev S2816x1024 : Shape := ⟨2, ![2816, 1024]⟩
abbrev S1024 : Shape := ⟨1, ![1024]⟩
abbrev S8x2048x5632 : Shape := ⟨3, ![8, 2048, 5632]⟩
abbrev S8x2048x2816 : Shape := ⟨3, ![8, 2048, 2816]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8x2048x5632, .f32⟩
  | .hbm, ⟨6, _⟩ => ⟨S8x2048x2816, .f32⟩
  | .hbm, ⟨7, _⟩ => ⟨S8x2048x2816, .f32⟩
  | .hbm, ⟨8, _⟩ => ⟨S_, .f32⟩
  | .hbm, ⟨9, _⟩ => ⟨S8x2048x1024, .f32⟩
  | .hbm, ⟨10, _⟩ => ⟨S8x2048x1024, .f32⟩
  | .hbm, ⟨11, _⟩ => ⟨S8x2048x2816, .f32⟩
  | .hbm, ⟨12, _⟩ => ⟨S8x2048x2816, .f32⟩
  | .hbm, ⟨13, _⟩ => ⟨S_, .f32⟩
  | .hbm, ⟨14, _⟩ => ⟨S8x2048x2816, .f32⟩
  | .hbm, ⟨15, _⟩ => ⟨S8x2048x2816, .f32⟩
  | .hbm, ⟨16, _⟩ => ⟨S_, .f32⟩
  | .hbm, ⟨17, _⟩ => ⟨S8x2048x2816, .f32⟩
  | .hbm, ⟨18, _⟩ => ⟨S8x2048x2816, .f32⟩
  | .hbm, ⟨19, _⟩ => ⟨S8x2048x2816, .f32⟩
  | .hbm, ⟨20, _⟩ => ⟨S8x2048x2816, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S16384x1024 : Shape := ⟨2, ![16384, 1024]⟩
abbrev S_ : Shape := ⟨0, ![]⟩
abbrev S16384x2560 : Shape := ⟨2, ![16384, 2560]⟩
abbrev S16384x4608 : Shape := ⟨2, ![16384, 4608]⟩
abbrev S16384x512 : Shape := ⟨2, ![16384, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 24
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x512, .f32⟩
  | .hbm, ⟨4, _⟩ => ⟨S8x2048x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x2560, .f32⟩
  | .hbm, ⟨19, _⟩ => ⟨S16384x4608, .f32⟩
  | .hbm, ⟨20, _⟩ => ⟨S16384x1024, .f32⟩
  | .hbm, ⟨21, _⟩ => ⟨S16384x512, .f32⟩
  | .hbm, ⟨22, _⟩ => ⟨S16384x512, .f32⟩
  | .hbm, ⟨23, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x2048x1024 : Shape := ⟨3, ![8, 2048, 1024]⟩
abbrev S8x2048x512 : Shape := ⟨3, ![8, 2048, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x512, .f32⟩
  | .hbm, ⟨4, _⟩ => ⟨S8x2048x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024x5416 : Shape := ⟨2, ![1024, 5416]⟩
abbrev S5416x1024 : Shape := ⟨2, ![5416, 1024]⟩
abbrev S512x1024 : Shape := ⟨2, ![512, 1024]⟩
abbrev S64x1024 : Shape := ⟨2, ![64, 1024]⟩
abbrev S160x1024 : Shape := ⟨2, ![160, 1024]⟩
abbrev S8x1024 : Shape := ⟨2, ![8, 1024]⟩
abbrev S1024x1024 : Shape := ⟨2, ![1024, 1024]⟩
abbrev S_ : Shape := ⟨0, ![]⟩
abbrev S96x1024 : Shape := ⟨2, ![96, 1024]⟩
abbrev S120x1024 : Shape := ⟨2, ![120, 1024]⟩
abbrev S128x1024 : Shape := ⟨2, ![128, 1024]⟩
abbrev S4608x1024 : Shape := ⟨2, ![4608, 1024]⟩
abbrev S1152x1024 : Shape := ⟨2, ![1152, 1024]⟩
abbrev S16384x1024 : Shape := ⟨2, ![16384, 1024]⟩
abbrev S16384x4608 : Shape := ⟨2, ![16384, 4608]⟩
abbrev S8x1152x2048 : Shape := ⟨3, ![8, 1152, 2048]⟩
abbrev S256x1024 : Shape := ⟨2, ![256, 1024]⟩
abbrev S256x4608 : Shape := ⟨2, ![256, 4608]⟩
abbrev S1x1152x256 : Shape := ⟨3, ![1, 1152, 256]⟩
abbrev S256x512 : Shape := ⟨2, ![256, 512]⟩
abbrev S1152x256 : Shape := ⟨2, ![1152, 256]⟩

abbrev nBuf : Space → Nat
  | .hbm => 30
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x5416, .f32⟩
  | .hbm, ⟨2, _⟩ => ⟨S5416x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S64x1024, .f32⟩
  | .hbm, ⟨7, _⟩ => ⟨S64x1024, .f32⟩
  | .hbm, ⟨8, _⟩ => ⟨S160x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S8x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S96x1024, .f32⟩
  | .hbm, ⟨17, _⟩ => ⟨S_, .f32⟩
  | .hbm, ⟨18, _⟩ => ⟨S120x1024, .f32⟩
  | .hbm, ⟨19, _⟩ => ⟨S512x1024, .f32⟩
  | .hbm, ⟨20, _⟩ => ⟨S_, .f32⟩
  | .hbm, ⟨21, _⟩ => ⟨S120x1024, .f32⟩
  | .hbm, ⟨22, _⟩ => ⟨S128x1024, .f32⟩
  | .hbm, ⟨23, _⟩ => ⟨S4608x1024, .f32⟩
  | .hbm, ⟨24, _⟩ => ⟨S1152x1024, .f32⟩
  | .hbm, ⟨25, _⟩ => ⟨S16384x1024, .f32⟩
  | .hbm, ⟨26, _⟩ => ⟨S4608x1024, .bf16⟩
  | .hbm, ⟨27, _⟩ => ⟨S1152x1024, .bf16⟩
  | .hbm, ⟨28, _⟩ => ⟨S16384x4608, .f32⟩
  | .hbm, ⟨29, _⟩ => ⟨S8x1152x2048, .f32⟩
  | .local _ .vmem, ⟨0, _⟩ => ⟨S256x1024, .f32⟩
  | .local _ .vmem, ⟨1, _⟩ => ⟨S256x1024, .f32⟩
  | .local _ .vmem, ⟨2, _⟩ => ⟨S4608x1024, .bf16⟩
  | .local _ .vmem, ⟨3, _⟩ => ⟨S1152x1024, .bf16⟩
  | .local _ .vmem, ⟨4, _⟩ => ⟨S256x4608, .f32⟩
  | .local _ .vmem, ⟨5, _⟩ => ⟨S256x4608, .f32⟩
  | .local _ .vmem, ⟨6, _⟩ => ⟨S1x1152x256, .f32⟩
  | .local _ .vmem, ⟨7, _⟩ => ⟨S1x1152x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1152x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8x2048x1024 : Shape := ⟨3, ![8, 2048, 1024]⟩
abbrev S1024x5416 : Shape := ⟨2, ![1024, 5416]⟩
abbrev S8x2048x5416 : Shape := ⟨3, ![8, 2048, 5416]⟩
abbrev S8x2048x1824 : Shape := ⟨3, ![8, 2048, 1824]⟩
abbrev S8x2048x1544 : Shape := ⟨3, ![8, 2048, 1544]⟩
abbrev S8x2048x2048 : Shape := ⟨3, ![8, 2048, 2048]⟩
abbrev S8x2048x512 : Shape := ⟨3, ![8, 2048, 512]⟩
abbrev S8x2048x1032 : Shape := ⟨3, ![8, 2048, 1032]⟩
abbrev S8x2048x8 : Shape := ⟨3, ![8, 2048, 8]⟩
abbrev S_ : Shape := ⟨0, ![]⟩
abbrev S8x2048x96 : Shape := ⟨3, ![8, 2048, 96]⟩
abbrev S8x2048x120 : Shape := ⟨3, ![8, 2048, 120]⟩
abbrev S8x2048x4608 : Shape := ⟨3, ![8, 2048, 4608]⟩
abbrev S8x2048x1152 : Shape := ⟨3, ![8, 2048, 1152]⟩
abbrev S16384x4608 : Shape := ⟨2, ![16384, 4608]⟩
abbrev S8x1152x2048 : Shape := ⟨3, ![8, 1152, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x5416, .f32⟩
  | .hbm, ⟨2, _⟩ => ⟨S8x2048x5416, .f32⟩
  | .hbm, ⟨3, _⟩ => ⟨S8x2048x1824, .f32⟩
  | .hbm, ⟨4, _⟩ => ⟨S8x2048x1544, .f32⟩
  | .hbm, ⟨5, _⟩ => ⟨S8x2048x2048, .f32⟩
  | .hbm, ⟨6, _⟩ => ⟨S8x2048x512, .f32⟩
  | .hbm, ⟨7, _⟩ => ⟨S8x2048x1032, .f32⟩
  | .hbm, ⟨8, _⟩ => ⟨S8x2048x8, .f32⟩
  | .hbm, ⟨9, _⟩ => ⟨S_, .f32⟩
  | .hbm, ⟨10, _⟩ => ⟨S8x2048x96, .f32⟩
  | .hbm, ⟨11, _⟩ => ⟨S_, .f32⟩
  | .hbm, ⟨12, _⟩ => ⟨S8x2048x120, .f32⟩
  | .hbm, ⟨13, _⟩ => ⟨S8x2048x4608, .f32⟩
  | .hbm, ⟨14, _⟩ => ⟨S_, .f32⟩
  | .hbm, ⟨15, _⟩ => ⟨S8x2048x120, .f32⟩
  | .hbm, ⟨16, _⟩ => ⟨S8x2048x1152, .f32⟩
  | .hbm, ⟨17, _⟩ => ⟨S16384x4608, .f32⟩
  | .hbm, ⟨18, _⟩ => ⟨S8x1152x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S8x2048x8 : Shape := ⟨3, ![8, 2048, 8]⟩
abbrev S8 : Shape := ⟨1, ![8]⟩
abbrev S_ : Shape := ⟨0, ![]⟩
abbrev S16384x3968 : Shape := ⟨2, ![16384, 3968]⟩
abbrev S16384x8 : Shape := ⟨2, ![16384, 8]⟩
abbrev S16384x632 : Shape := ⟨2, ![16384, 632]⟩
abbrev S16384x4608 : Shape := ⟨2, ![16384, 4608]⟩
abbrev S8x1024x2048 : Shape := ⟨3, ![8, 1024, 2048]⟩
abbrev S8x8x2048 : Shape := ⟨3, ![8, 8, 2048]⟩
abbrev S8x120x2048 : Shape := ⟨3, ![8, 120, 2048]⟩
abbrev S8x1152x2048 : Shape := ⟨3, ![8, 1152, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1 : Shape := ⟨2, ![8, 1]⟩
abbrev S8x128 : Shape := ⟨2, ![8, 128]⟩
abbrev S1x8 : Shape := ⟨2, ![1, 8]⟩
abbrev S128x256 : Shape := ⟨2, ![128, 256]⟩
abbrev S256x128 : Shape := ⟨2, ![256, 128]⟩
abbrev S16384x128 : Shape := ⟨2, ![16384, 128]⟩
abbrev S1x128x2048 : Shape := ⟨3, ![1, 128, 2048]⟩
abbrev S2048x128 : Shape := ⟨2, ![2048, 128]⟩
abbrev S1x8x2048 : Shape := ⟨3, ![1, 8, 2048]⟩
abbrev S128x2048 : Shape := ⟨2, ![128, 2048]⟩
abbrev S8x2048 : Shape := ⟨2, ![8, 2048]⟩
abbrev S8x256 : Shape := ⟨2, ![8, 256]⟩
abbrev S1x8x128 : Shape := ⟨3, ![1, 8, 128]⟩

abbrev nBuf : Space → Nat
  | .hbm => 40
  | .vmem => 14
  | .smem => 0
  | _ => 0

abbrev bufTy : (tb : Table) → Fin (tcTables nBuf tb) → BufTy
  | .hbm, ⟨0, _⟩ => ⟨S8x2048x8, .f32⟩
  | .hbm, ⟨1, _⟩ => ⟨S8, .f32⟩
  | .hbm, ⟨2, _⟩ => ⟨S_, .f32⟩
  | .hbm, ⟨3, _⟩ => ⟨S16384x3968, .f32⟩
  | .hbm, ⟨4, _⟩ => ⟨S16384x8, .f32⟩
  | .hbm, ⟨5, _⟩ => ⟨S_, .f32⟩
  | .hbm, ⟨6, _⟩ => ⟨S16384x632, .f32⟩
  | .hbm, ⟨7, _⟩ => ⟨S16384x4608, .f32⟩
  | .hbm, ⟨8, _⟩ => ⟨S_, .f32⟩
  | .hbm, ⟨9, _⟩ => ⟨S8x1024x2048, .f32⟩
  | .hbm, ⟨10, _⟩ => ⟨S8x8x2048, .f32⟩
  | .hbm, ⟨11, _⟩ => ⟨S_, .f32⟩
  | .hbm, ⟨12, _⟩ => ⟨S8x120x2048, .f32⟩
  | .hbm, ⟨13, _⟩ => ⟨S8x1152x2048, .f32⟩
  | .hbm, ⟨14, _⟩ => ⟨S128, .i32⟩
  | .hbm, ⟨15, _⟩ => ⟨S128x1, .i32⟩
  | .hbm, ⟨16, _⟩ => ⟨S1x128, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S128x1, .i32⟩
  | .hbm, ⟨21, _⟩ => ⟨S1x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S_, .i1⟩
  | .hbm, ⟨26, _⟩ => ⟨S128x128, .i1⟩
  | .hbm, ⟨27, _⟩ => ⟨S8x1, .f32⟩
  | .hbm, ⟨28, _⟩ => ⟨S8x128, .f32⟩
  | .hbm, ⟨29, _⟩ => ⟨S1x8, .f32⟩
  | .hbm, ⟨30, _⟩ => ⟨S_, .i32⟩
  | .hbm, ⟨31, _⟩ => ⟨S_, .f32⟩
  | .hbm, ⟨32, _⟩ => ⟨S1x128, .f32⟩
  | .hbm, ⟨33, _⟩ => ⟨S128x256, .i1⟩
  | .hbm, ⟨34, _⟩ => ⟨S128x256, .bf16⟩
  | .hbm, ⟨35, _⟩ => ⟨S256x128, .i1⟩
  | .hbm, ⟨36, _⟩ => ⟨S256x128, .bf16⟩
  | .hbm, ⟨37, _⟩ => ⟨S8x8x2048, .f32⟩
  | .hbm, ⟨38, _⟩ => ⟨S8x8x2048, .f32⟩
  | .hbm, ⟨39, _⟩ => ⟨S16384x128, .f32⟩
  | .local _ .vmem, ⟨0, _⟩ => ⟨S1x128x2048, .f32⟩
  | .local _ .vmem, ⟨1, _⟩ => ⟨S1x128x2048, .f32⟩
  | .local _ .vmem, ⟨2, _⟩ => ⟨S2048x128, .f32⟩
  | .local _ .vmem, ⟨3, _⟩ => ⟨S2048x128, .f32⟩
  | .local _ .vmem, ⟨4, _⟩ => ⟨S8x128, .f32⟩
  | .local _ .vmem, ⟨5, _⟩ => ⟨S1x128, .f32⟩
  | .local _ .vmem, ⟨6, _⟩ => ⟨S128x256, .bf16⟩
  | .local _ .vmem, ⟨7, _⟩ => ⟨S256x128, .bf16⟩
  | .local _ .vmem, ⟨8, _⟩ => ⟨S1x8x2048, .f32⟩
  | .local _ .vmem, ⟨9, _⟩ => ⟨S1x8x2048, .f32⟩
  | .local _ .vmem, ⟨10, _⟩ => ⟨S1x8x2048, .f32⟩
  | .local _ .vmem, ⟨11, _⟩ => ⟨S1x8x2048, .f32⟩
  | .local _ .vmem, ⟨12, _⟩ => ⟨S2048x128, .f32⟩
  | .local _ .vmem, ⟨13, _⟩ => ⟨S2048x128, .f32⟩
  | _, _ => ⟨S8x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![arg0.toNat, c8_i32.toNat, c0_i32.toNat]

def cc0_transform_1 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8x2048x8 : Shape := ⟨3, ![8, 2048, 8]⟩
abbrev S8 : Shape := ⟨1, ![8]⟩
abbrev S1x1x8 : Shape := ⟨3, ![1, 1, 8]⟩
abbrev S_ : Shape := ⟨0, ![]⟩
abbrev S8x8x2048 : Shape := ⟨3, ![8, 8, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x8, .f32⟩
  | .hbm, ⟨1, _⟩ => ⟨S8, .f32⟩
  | .hbm, ⟨2, _⟩ => ⟨S1x1x8, .f32⟩
  | .hbm, ⟨3, _⟩ => ⟨S8x2048x8, .f32⟩
  | .hbm, ⟨4, _⟩ => ⟨S8x2048x8, .f32⟩
  | .hbm, ⟨5, _⟩ => ⟨S8x2048x8, .f32⟩
  | .hbm, ⟨6, _⟩ => ⟨S_, .f32⟩
  | .hbm, ⟨7, _⟩ => ⟨S8x2048x8, .f32⟩
  | .hbm, ⟨8, _⟩ => ⟨S8x2048x8, .f32⟩
  | .hbm, ⟨9, _⟩ => ⟨S8x2048x8, .f32⟩
  | .hbm, ⟨10, _⟩ => ⟨S8x2048x8, .f32⟩
  | .hbm, ⟨11, _⟩ => ⟨S8x2048x8, .i1⟩
  | .hbm, ⟨12, _⟩ => ⟨S8x2048x8, .f32⟩
  | .hbm, ⟨13, _⟩ => ⟨S8x2048x8, .f32⟩
  | .hbm, ⟨14, _⟩ => ⟨S8x2048x8, .f32⟩
  | .hbm, ⟨15, _⟩ => ⟨S8x2048x8, .f32⟩
  | .hbm, ⟨16, _⟩ => ⟨S8x2048x8, .f32⟩
  | .hbm, ⟨17, _⟩ => ⟨S8x2048x8, .f32⟩
  | .hbm, ⟨18, _⟩ => ⟨S8x2048x8, .f32⟩
  | .hbm, ⟨19, _⟩ => ⟨S8x2048x8, .f32⟩
  | .hbm, ⟨20, _⟩ => ⟨S8x2048x8, .f32⟩
  | .hbm, ⟨21, _⟩ => ⟨S8x8x2048, .f32⟩
  | _, _ => ⟨S8x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩

abbrev nD : Nat := 1
abbrev τ : Topo := Topo.v7x

variable {F : FTy → Type} [FloatOps F]
-- ==== Kernel6.lean ====
abbrev S128x1x1024 : Shape := ⟨3, ![128, 1, 1024]⟩
abbrev S1024x5416 : Shape := ⟨2, ![1024, 5416]⟩
abbrev S5416x1024 : Shape := ⟨2, ![5416, 1024]⟩
abbrev S512x1024 : Shape := ⟨2, ![512, 1024]⟩
abbrev S64x1024 : Shape := ⟨2, ![64, 1024]⟩
abbrev S160x1024 : Shape := ⟨2, ![160, 1024]⟩
abbrev S8x1024 : Shape := ⟨2, ![8, 1024]⟩
abbrev S1024x1024 : Shape := ⟨2, ![1024, 1024]⟩
abbrev S_ : Shape := ⟨0, ![]⟩
abbrev S96x1024 : Shape := ⟨2, ![96, 1024]⟩
abbrev S120x1024 : Shape := ⟨2, ![120, 1024]⟩
abbrev S128x1024 : Shape := ⟨2, ![128, 1024]⟩
abbrev S4608x1024 : Shape := ⟨2, ![4608, 1024]⟩
abbrev S1664x1024 : Shape := ⟨2, ![1664, 1024]⟩
abbrev S128x4608 : Shape := ⟨2, ![128, 4608]⟩
abbrev S1x1664x128 : Shape := ⟨3, ![1, 1664, 128]⟩
abbrev S128x512 : Shape := ⟨2, ![128, 512]⟩
abbrev S1664x128 : Shape := ⟨2, ![1664, 128]⟩

abbrev nBuf : Space → Nat
  | .hbm => 30
  | .vmem => 5
  | .smem => 0
  | _ => 0

abbrev bufTy : (tb : Table) → Fin (tcTables nBuf tb) → BufTy
  | .hbm, ⟨0, _⟩ => ⟨S128x1x1024, .f32⟩
  | .hbm, ⟨1, _⟩ => ⟨S1024x5416, .f32⟩
  | .hbm, ⟨2, _⟩ => ⟨S5416x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S64x1024, .f32⟩
  | .hbm, ⟨7, _⟩ => ⟨S64x1024, .f32⟩
  | .hbm, ⟨8, _⟩ => ⟨S160x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S8x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S96x1024, .f32⟩
  | .hbm, ⟨17, _⟩ => ⟨S_, .f32⟩
  | .hbm, ⟨18, _⟩ => ⟨S120x1024, .f32⟩
  | .hbm, ⟨19, _⟩ => ⟨S512x1024, .f32⟩
  | .hbm, ⟨20, _⟩ => ⟨S_, .f32⟩
  | .hbm, ⟨21, _⟩ => ⟨S120x1024, .f32⟩
  | .hbm, ⟨22, _⟩ => ⟨S128x1024, .f32⟩
  | .hbm, ⟨23, _⟩ => ⟨S4608x1024, .f32⟩
  | .hbm, ⟨24, _⟩ => ⟨S1664x1024, .f32⟩
  | .hbm, ⟨25, _⟩ => ⟨S128x1024, .f32⟩
  | .hbm, ⟨26, _⟩ => ⟨S4608x1024, .bf16⟩
  | .hbm, ⟨27, _⟩ => ⟨S1664x1024, .bf16⟩
  | .hbm, ⟨28, _⟩ => ⟨S128x4608, .f32⟩
  | .hbm, ⟨29, _⟩ => ⟨S1x1664x128, .f32⟩
  | .local _ .vmem, ⟨0, _⟩ => ⟨S128x1024, .f32⟩
  | .local _ .vmem, ⟨1, _⟩ => ⟨S4608x1024, .bf16⟩
  | .local _ .vmem, ⟨2, _⟩ => ⟨S1664x1024, .bf16⟩
  | .local _ .vmem, ⟨3, _⟩ => ⟨S128x4608, .f32⟩
  | .local _ .vmem, ⟨4, _⟩ => ⟨S1x1664x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1664x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1664x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference6Ideal.lean ====
abbrev S128x1x1024 : Shape := ⟨3, ![128, 1, 1024]⟩
abbrev S1024x5416 : Shape := ⟨2, ![1024, 5416]⟩
abbrev S128x1x5416 : Shape := ⟨3, ![128, 1, 5416]⟩
abbrev S128x1x1824 : Shape := ⟨3, ![128, 1, 1824]⟩
abbrev S128x1x1544 : Shape := ⟨3, ![128, 1, 1544]⟩
abbrev S128x1x2048 : Shape := ⟨3, ![128, 1, 2048]⟩
abbrev S128x1x512 : Shape := ⟨3, ![128, 1, 512]⟩
abbrev S128x1x8 : Shape := ⟨3, ![128, 1, 8]⟩
abbrev S_ : Shape := ⟨0, ![]⟩
abbrev S128x1x96 : Shape := ⟨3, ![128, 1, 96]⟩
abbrev S128x1x120 : Shape := ⟨3, ![128, 1, 120]⟩
abbrev S128x1x4608 : Shape := ⟨3, ![128, 1, 4608]⟩
abbrev S128x1x1664 : Shape := ⟨3, ![128, 1, 1664]⟩
abbrev S128x4608 : Shape := ⟨2, ![128, 4608]⟩
abbrev S1x1664x128 : Shape := ⟨3, ![1, 1664, 128]⟩

abbrev nBuf : Space → Nat
  | .hbm => 18
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x5416, .f32⟩
  | .hbm, ⟨2, _⟩ => ⟨S128x1x5416, .f32⟩
  | .hbm, ⟨3, _⟩ => ⟨S128x1x1824, .f32⟩
  | .hbm, ⟨4, _⟩ => ⟨S128x1x1544, .f32⟩
  | .hbm, ⟨5, _⟩ => ⟨S128x1x2048, .f32⟩
  | .hbm, ⟨6, _⟩ => ⟨S128x1x512, .f32⟩
  | .hbm, ⟨7, _⟩ => ⟨S128x1x8, .f32⟩
  | .hbm, ⟨8, _⟩ => ⟨S_, .f32⟩
  | .hbm, ⟨9, _⟩ => ⟨S128x1x96, .f32⟩
  | .hbm, ⟨10, _⟩ => ⟨S_, .f32⟩
  | .hbm, ⟨11, _⟩ => ⟨S128x1x120, .f32⟩
  | .hbm, ⟨12, _⟩ => ⟨S128x1x4608, .f32⟩
  | .hbm, ⟨13, _⟩ => ⟨S_, .f32⟩
  | .hbm, ⟨14, _⟩ => ⟨S128x1x120, .f32⟩
  | .hbm, ⟨15, _⟩ => ⟨S128x1x1664, .f32⟩
  | .hbm, ⟨16, _⟩ => ⟨S128x4608, .f32⟩
  | .hbm, ⟨17, _⟩ => ⟨S1x1664x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S128x1x1024 : Shape := ⟨3, ![128, 1, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S128x1024 : Shape := ⟨2, ![128, 1024]⟩
abbrev S1024x256 : Shape := ⟨2, ![1024, 256]⟩
abbrev S128x256 : Shape := ⟨2, ![128, 256]⟩
abbrev S256x1024 : Shape := ⟨2, ![256, 1024]⟩
abbrev S128 : Shape := ⟨1, ![128]⟩
abbrev S128x1 : Shape := ⟨2, ![128, 1]⟩

abbrev nBuf : Space → Nat
  | .hbm => 11
  | .vmem => 6
  | .smem => 0
  | _ => 0

abbrev bufTy : (tb : Table) → Fin (tcTables nBuf tb) → BufTy
  | .hbm, ⟨0, _⟩ => ⟨S128x1x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S1024x5632, .bf16⟩
  | .local _ .vmem, ⟨2, _⟩ => ⟨S2816x1024, .bf16⟩
  | .local _ .vmem, ⟨3, _⟩ => ⟨S1x1024, .f32⟩
  | .local _ .vmem, ⟨4, _⟩ => ⟨S1x1024, .f32⟩
  | .local _ .vmem, ⟨5, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference7Ideal.lean ====
abbrev S128x1x1024 : Shape := ⟨3, ![128, 1, 1024]⟩
abbrev S1024x5632 : Shape := ⟨2, ![1024, 5632]⟩
abbrev S2816x1024 : Shape := ⟨2, ![2816, 1024]⟩
abbrev S1024 : Shape := ⟨1, ![1024]⟩
abbrev S128x1x5632 : Shape := ⟨3, ![128, 1, 5632]⟩
abbrev S128x1x2816 : Shape := ⟨3, ![128, 1, 2816]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S128x1x5632, .f32⟩
  | .hbm, ⟨6, _⟩ => ⟨S128x1x2816, .f32⟩
  | .hbm, ⟨7, _⟩ => ⟨S128x1x2816, .f32⟩
  | .hbm, ⟨8, _⟩ => ⟨S_, .f32⟩
  | .hbm, ⟨9, _⟩ => ⟨S128x1x1024, .f32⟩
  | .hbm, ⟨10, _⟩ => ⟨S128x1x1024, .f32⟩
  | .hbm, ⟨11, _⟩ => ⟨S128x1x2816, .f32⟩
  | .hbm, ⟨12, _⟩ => ⟨S128x1x2816, .f32⟩
  | .hbm, ⟨13, _⟩ => ⟨S_, .f32⟩
  | .hbm, ⟨14, _⟩ => ⟨S128x1x2816, .f32⟩
  | .hbm, ⟨15, _⟩ => ⟨S128x1x2816, .f32⟩
  | .hbm, ⟨16, _⟩ => ⟨S_, .f32⟩
  | .hbm, ⟨17, _⟩ => ⟨S128x1x2816, .f32⟩
  | .hbm, ⟨18, _⟩ => ⟨S128x1x2816, .f32⟩
  | .hbm, ⟨19, _⟩ => ⟨S128x1x2816, .f32⟩
  | .hbm, ⟨20, _⟩ => ⟨S128x1x2816, .f32⟩
  | .hbm, ⟨21, _⟩ => ⟨S128x1x1024, .f32⟩
  | .hbm, ⟨22, _⟩ => ⟨S128x1x1024, .f32⟩
  | .hbm, ⟨23, _⟩ => ⟨S_, .f32⟩
  | .hbm, ⟨24, _⟩ => ⟨S128x1, .f32⟩
  | .hbm, ⟨25, _⟩ => ⟨S128x1x1, .f32⟩
  | .hbm, ⟨26, _⟩ => ⟨S_, .f32⟩
  | .hbm, ⟨27, _⟩ => ⟨S128x1x1, .f32⟩
  | .hbm, ⟨28, _⟩ => ⟨S128x1x1, .f32⟩
  | .hbm, ⟨29, _⟩ => ⟨S128x1x1024, .f32⟩
  | .hbm, ⟨30, _⟩ => ⟨S128x1x1024, .f32⟩
  | .hbm, ⟨31, _⟩ => ⟨S128x1x1024, .f32⟩
  | .hbm, ⟨32, _⟩ => ⟨S_, .f32⟩
  | .hbm, ⟨33, _⟩ => ⟨S128x1, .f32⟩
  | .hbm, ⟨34, _⟩ => ⟨S128x1x1, .f32⟩
  | .hbm, ⟨35, _⟩ => ⟨S_, .f32⟩
  | .hbm, ⟨36, _⟩ => ⟨S128x1x1, .f32⟩
  | .hbm, ⟨37, _⟩ => ⟨S128x1x1, .f32⟩
  | .hbm, ⟨38, _⟩ => ⟨S128x1x1024, .f32⟩
  | .hbm, ⟨39, _⟩ => ⟨S128x1x1024, .f32⟩
  | .hbm, ⟨40, _⟩ => ⟨S_, .f32⟩
  | .hbm, ⟨41, _⟩ => ⟨S128x1x1, .f32⟩
  | .hbm, ⟨42, _⟩ => ⟨S128x1x1, .f32⟩
  | .hbm, ⟨43, _⟩ => ⟨S128x1x1, .f32⟩
  | .hbm, ⟨44, _⟩ => ⟨S128x1x1024, .f32⟩
  | .hbm, ⟨45, _⟩ => ⟨S128x1x1024, .f32⟩
  | .hbm, ⟨46, _⟩ => ⟨S1x1x1024, .f32⟩
  | .hbm, ⟨47, _⟩ => ⟨S128x1x1024, .f32⟩
  | .hbm, ⟨48, _⟩ => ⟨S128x1x1024, .f32⟩
  | .hbm, ⟨49, _⟩ => ⟨S1x1x1024, .f32⟩
  | .hbm, ⟨50, _⟩ => ⟨S128x1x1024, .f32⟩
  | .hbm, ⟨51, _⟩ => ⟨S128x1x1024, .f32⟩
  | .hbm, ⟨52, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Proof.Online.lean ====
/-
  The softmax that is accumulated block by block, over the extended reals: a running maximum, a running sum of
  exponentials and a running weighted sum, each rescaled when the maximum moves. `M x n`, `A x w n` name the three after
  the first `n` scores; `M_add` and `A_add` are the step over a block of `b` scores, `A_add_bot` says that masked scores
  (at minus infinity) change nothing, and `quot` turns the final quotient into the weighted sum of the normalised weights.
-/
module

public import Idealize.ShloMosaic.PureOps.Ideal
public import Idealize.ShloMosaic.PureOps.Ideal.Laws

@[expose] public section

noncomputable section

namespace Cert.Proof.Online

open Idealize.ShloMosaic

/-- Weights at two maxima: moving the maximum from `b` up to `c` multiplies the weight by `exp (b - c)`. -/
theorem exp_sub_mul {a b c : EReal} (hab : a ≤ b) (hbc : b ≤ c) (hc : c ≠ ⊤) :
    Ideal.exp (a - b) * Ideal.exp (b - c) = Ideal.exp (a - c) := by
  have hb : b ≠ ⊤ := fun h => hc (top_le_iff.mp (h ▸ hbc))
  have ha : a ≠ ⊤ := fun h => hb (top_le_iff.mp (h ▸ hab))
  induction a with
  | top => exact absurd rfl ha
  | bot =>
    simp only [sub_eq_add_neg, EReal.bot_add, Ideal.exp_bot, zero_mul]
  | coe a =>
    induction b with
    | top => exact absurd rfl hb
    | bot => exact absurd hab (by simp)
    | coe b =>
      induction c with
      | top => exact absurd rfl hc
      | bot => exact absurd hbc (by simp)
      | coe c =>
        rw [← EReal.coe_sub, ← EReal.coe_sub, ← EReal.coe_sub, Ideal.exp_coe, Ideal.exp_coe, Ideal.exp_coe,
          ← EReal.coe_mul, ← Real.exp_add]
        congr 2; ring

theorem exp_nonneg (a : EReal) : 0 ≤ Ideal.exp a := by
  induction a with
  | top => simp
  | bot => simp
  | coe a => rw [Ideal.exp_coe]; exact_mod_cast (Real.exp_pos a).le

theorem exp_ne_top {a : EReal} (h : a ≠ ⊤) : Ideal.exp a ≠ ⊤ := by
  induction a with
  | top => exact absurd rfl h
  | bot => simp
  | coe a => rw [Ideal.exp_coe]; exact EReal.coe_ne_top _

/-- A difference of two numbers below plus infinity that does not pass plus infinity. -/
theorem sub_ne_top {a b : EReal} (hab : a ≤ b) (hb : b ≠ ⊤) : a - b ≠ ⊤ := by
  have ha : a ≠ ⊤ := fun h => hb (top_le_iff.mp (h ▸ hab))
  induction a with
  | top => exact absurd rfl ha
  | bot => rw [sub_eq_add_neg, EReal.bot_add]; exact bot_ne_top
  | coe a =>
    induction b with
    | top => exact absurd rfl hb
    | bot => exact absurd hab (by simp)
    | coe b => rw [← EReal.coe_sub]; exact EReal.coe_ne_top _

/-- A factor that is neither negative nor plus infinity distributes over a sum, whatever the terms. -/
theorem sum_mul {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

theorem mul_sum {ι : Type} (s : Finset ι) (f : ι → EReal) {c : EReal} (h0 : 0 ≤ c) (ht : c ≠ ⊤) :
    c * (∑ i ∈ s, f i) = ∑ i ∈ s, c * f i := by
  rw [mul_comm, sum_mul s f h0 ht]; exact Finset.sum_congr rfl fun i _ => mul_comm _ _

/-- The maximum of the first `n` scores, minus infinity for none. -/
def M (x : ℕ → EReal) (n : ℕ) : EReal := (Finset.range n).sup x

/-- The first `n` weights `exp (x j - M x n)`, each times `w j`, summed. -/
def A (x w : ℕ → EReal) (n : ℕ) : EReal := ∑ j ∈ Finset.range n, Ideal.exp (x j - M x n) * w j

theorem le_M (x : ℕ → EReal) {j n : ℕ} (h : j < n) : x j ≤ M x n := Finset.le_sup (f := x) (Finset.mem_range.mpr h)

theorem M_mono (x : ℕ → EReal) {m n : ℕ} (h : m ≤ n) : M x m ≤ M x n :=
  Finset.sup_mono (Finset.range_mono h)

theorem M_ne_top (x : ℕ → EReal) {n : ℕ} (h : ∀ j, j < n → x j ≠ ⊤) : M x n ≠ ⊤ := by
  rw [← lt_top_iff_ne_top]
  exact (Finset.sup_lt_iff bot_lt_top).mpr fun j hj => lt_top_iff_ne_top.mpr (h j (Finset.mem_range.mp hj))

@[simp] theorem M_zero (x : ℕ → EReal) : M x 0 = ⊥ := by simp [M]
@[simp] theorem A_zero (x w : ℕ → EReal) : A x w 0 = 0 := by simp [A]

/-- The running maximum over one more block. -/
theorem M_add (x : ℕ → EReal) (n b : ℕ) : M x (n + b) = max (M x n) (Finset.univ.sup fun j : Fin b => x (n + j)) := by
  apply le_antisymm
  · refine Finset.sup_le fun j hj => ?_
    by_cases h : j < n
    · exact le_max_of_le_left (le_M x h)
    · have hj := Finset.mem_range.mp hj
      refine le_max_of_le_right ?_
      have := Finset.le_sup (f := fun j : Fin b => x (n + j)) (Finset.mem_univ (⟨j - n, by omega⟩ : Fin b))
      simpa [show n + (j - n) = j by omega] using this
  · refine max_le (M_mono x (by omega)) (Finset.sup_le fun j _ => le_M x (by have := j.isLt; omega))

/-- The running sum over one more block: what there was, rescaled to the new maximum, plus the block's weights. -/
theorem A_add (x w : ℕ → EReal) (n b : ℕ) (h : ∀ j, j < n + b → x j ≠ ⊤) :
    A x w (n + b) = A x w n * Ideal.exp (M x n - M x (n + b))
      + ∑ j : Fin b, Ideal.exp (x (n + j) - M x (n + b)) * w (n + j) := by
  have ht := M_ne_top x h
  have hle := M_mono x (Nat.le_add_right n b)
  unfold A
  rw [Finset.sum_range_add, sum_mul _ _ (exp_nonneg _) (exp_ne_top (sub_ne_top hle ht)),
    Finset.sum_range (n := b) fun j => Ideal.exp (x (n + j) - M x (n + b)) * w (n + j)]
  refine congrArg (· + _) (Finset.sum_congr rfl fun j hj => ?_)
  rw [← exp_sub_mul (le_M x (Finset.mem_range.mp hj)) hle ht, mul_assoc, mul_assoc, mul_comm (w j)]

theorem M_add_bot (x : ℕ → EReal) (n b : ℕ) (h : ∀ j, n ≤ j → j < n + b → x j = ⊥) : M x (n + b) = M x n := by
  rw [M_add, Finset.sup_eq_bot_iff _ _ |>.mpr fun j _ => h _ (by omega) (by have := j.isLt; omega)]
  exact max_bot_right _

/-- Scores at minus infinity weigh nothing. -/
theorem A_add_bot (x w : ℕ → EReal) (n b : ℕ) (h : ∀ j, n ≤ j → j < n + b → x j = ⊥) : A x w (n + b) = A x w n := by
  unfold A
  rw [M_add_bot x n b h, Finset.sum_range_add]
  refine (congrArg (_ + ·) (Finset.sum_eq_zero fun j hj => ?_)).trans (add_zero _)
  rw [h _ (by omega) (by have := Finset.mem_range.mp hj; omega), sub_eq_add_neg, EReal.bot_add, Ideal.exp_bot, zero_mul]

/-- The sum of the weights is not zero once one score is a number: the greatest weighs one. -/
theorem A_one_ne_zero (x : ℕ → EReal) {n : ℕ} (hn : 0 < n) (h : ∀ j, j < n → x j ≠ ⊤) (h0 : x 0 ≠ ⊥) :
    A x (fun _ => 1) n ≠ 0 := by
  obtain ⟨j, hj, e⟩ := Finset.exists_mem_eq_sup (Finset.range n) ⟨0, Finset.mem_range.mpr hn⟩ x
  have hj' := Finset.mem_range.mp hj
  have hb : x j ≠ ⊥ := fun hb => h0 (le_bot_iff.mp ((le_M x hn).trans (by unfold M; rw [e, hb])))
  have h1 : Ideal.exp (x j - M x n) = 1 := by
    unfold M; rw [e]
    have hx := h j hj'
    generalize x j = y at hx hb
    induction y with
    | top => exact absurd rfl hx
    | bot => exact absurd rfl hb
    | coe y => rw [← EReal.coe_sub, Ideal.exp_coe]; simp
  have : (1 : EReal) ≤ A x (fun _ => 1) n := by
    unfold A
    simp only [mul_one]
    exact h1.symm.le.trans (Finset.single_le_sum (f := fun j => Ideal.exp (x j - M x n)) (fun i _ => exp_nonneg _) hj)
  exact fun hz => absurd (hz ▸ this) (by norm_num)

theorem A_one_nonneg (x : ℕ → EReal) (n : ℕ) : 0 ≤ A x (fun _ => 1) n :=
  Finset.sum_nonneg fun j _ => by simpa using exp_nonneg _

theorem inv_ne_top (y : EReal) : y⁻¹ ≠ ⊤ := by
  induction y with
  | top => simp
  | bot => simp
  | coe y => rw [← EReal.coe_inv]; exact EReal.coe_ne_top _

/-- The final quotient is the sum of the normalised weights times the values. -/
theorem quot (x w : ℕ → EReal) {n : ℕ} (hn : 0 < n) (h : ∀ j, j < n → x j ≠ ⊤) (h0 : x 0 ≠ ⊥) :
    Ideal.div (A x w n) (A x (fun _ => 1) n)
      = ∑ j ∈ Finset.range n, Ideal.div (Ideal.exp (x j - M x n)) (A x (fun _ => 1) n) * w j := by
  have hz := A_one_ne_zero x hn h h0
  simp only [Ideal.div, if_neg hz]
  conv_lhs => rw [show A x w n = ∑ j ∈ Finset.range n, Ideal.exp (x j - M x n) * w j from rfl]
  rw [sum_mul _ _ (EReal.inv_nonneg_of_nonneg (A_one_nonneg x n)) (inv_ne_top _)]
  exact Finset.sum_congr rfl fun j _ => by rw [mul_assoc, mul_comm (w j), ← mul_assoc]

end Cert.Proof.Online

end
-- ==== Proof.Attn.Steps.lean ====
module

public import proofs.«01_k».proof.Proof.Gen.KernelIdeal.Loops
public import proofs.«01_k».proof.Proof.Online
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.KernelIdeal.Gen

open Idealize.ShloMosaic Idealize.ShloMosaic.TcCoe Idealize.ShloMosaic.Tactic

section Ops

variable {F : FTy → Type} [FloatOps F] [Named F]

/-- The scores of one head's 256 queries against 256 keys: the product, plus the query's decay, less the key's. -/
def score (q : Vec F S1x256x128 .bf16) (k : Vec F S128x256 .bf16) (cq : Vec F S1x256x1 .f32) (ck : Vec F S1x1x256 .f32) :
    FVec F S256x256 .f32 :=
  subf (addf (matmul dot_S256x128_S128x256_S256x256_1_0_0_1_n_n none
      (shapeCast S256x128 q shapeCasts_S1x256x128_S256x128) k (constant S256x256 .f32 0x00000000#32))
    (broadcastTo S256x256 (shapeCast S256x1 cq shapeCasts_S1x256x1_S256x1) broadcasts_S256x1_S256x256))
    (broadcastTo S256x256 (shapeCast S1x256 ck shapeCasts_S1x1x256_S1x256) broadcasts_S1x256_S256x256)

/-- The scores of the diagonal block: those of later keys are the mask. -/
def scoreD (q : Vec F S1x256x128 .bf16) (k : Vec F S128x256 .bf16) (cq : Vec F S1x256x1 .f32) (ck : Vec F S1x1x256 .f32) :
    FVec F S256x256 .f32 :=
  select k0_pay151 (score q k cq ck) (broadcast S256x256 (Named.named κ "mask" 0xF149F2CA#32))

/-- The running maximum after a block of scores. -/
def newMax (s : FVec F S256x256 .f32) (mo : Vec F S1x256x1 .f32) : FVec F S256x1 .f32 :=
  maximumf (shapeCast S256x1 mo shapeCasts_S1x256x1_S256x1)
    (shapeCast S256x1 (multiReduction .maximumf [1] S256 s 0xFF800000#32 reduces_S256x256_S256 (.inl rfl) rfl)
      shapeCasts_S256_S256x1)

/-- What rescales the sums of the blocks before. -/
def rescale (s : FVec F S256x256 .f32) (mo : Vec F S1x256x1 .f32) : FVec F S256x1 .f32 :=
  exp (subf (shapeCast S256x1 mo shapeCasts_S1x256x1_S256x1) (newMax s mo))

/-- The block's weights. -/
def weights (s : FVec F S256x256 .f32) (mo : Vec F S1x256x1 .f32) : FVec F S256x256 .f32 :=
  exp (subf s (broadcastTo S256x256 (newMax s mo) broadcasts_S256x1_S256x256))

/-- The stored maximum. -/
def stM (s : FVec F S256x256 .f32) (mo : Vec F S1x256x1 .f32) : FVec F S1x256x1 .f32 :=
  shapeCast S1x256x1 (newMax s mo) shapeCasts_S256x1_S1x256x1

/-- The stored sum of the weights. -/
def stL (s : FVec F S256x256 .f32) (mo lo : Vec F S1x256x1 .f32) : FVec F S1x256x1 .f32 :=
  shapeCast S1x256x1 (addf (mulf (shapeCast S256x1 lo shapeCasts_S1x256x1_S256x1) (rescale s mo))
    (shapeCast S256x1 (multiReduction .add [1] S256 (weights s mo) 0x00000000#32 reduces_S256x256_S256 (.inl rfl) rfl)
      shapeCasts_S256_S256x1)) shapeCasts_S256x1_S1x256x1

/-- The stored weighted sum of the values. -/
def stA (s : FVec F S256x256 .f32) (mo : Vec F S1x256x1 .f32) (ao : Vec F S1x256x128 .f32) (v : Vec F S128x256 .bf16) :
    FVec F S1x256x128 .f32 :=
  shapeCast S1x256x128 (addf (mulf (shapeCast S256x128 ao shapeCasts_S1x256x128_S256x128)
      (broadcastTo S256x128 (rescale s mo) broadcasts_S256x1_S256x128))
    (matmul dot_S256x256_S128x256_S256x128_1_1_0_0_n_n none (truncf .bf16 (weights s mo) bitsLt_bf16_f32) v
      (constant S256x128 .f32 0x00000000#32))) shapeCasts_S256x128_S1x256x128

end Ops

/-- The word of minus infinity is the least extended real. -/
theorem ofBits_negInf : Ideal.ofBits FTy.f32 0xFF800000#32 = ⊥ := by
  simp [Ideal.ofBits, Ideal.ieee]

/-- The named mask is the least extended real. -/
theorem mask_eq : (Named.named κ "mask" 0xF149F2CA#32 : Ideal .f32) = ⊥ := rfl

theorem score_apply (q : Vec Ideal S1x256x128 .bf16) (k : Vec Ideal S128x256 .bf16) (cq : Vec Ideal S1x256x1 .f32)
    (ck : Vec Ideal S1x1x256 .f32) (r j : Fin 256) :
    score q k cq ck (ix2 r j) = (∑ d : Fin 128, q (ix3 0 r d) * k (ix2 d j)) + cq (ix3 0 r 0) - ck (ix3 0 0 j) := by
  pointwise [score]

theorem newMax_apply (s : FVec Ideal S256x256 .f32) (mo : Vec Ideal S1x256x1 .f32) (r : Fin 256) :
    newMax s mo (ix2 r 0) = max (mo (ix3 0 r 0)) (Finset.univ.sup fun j : Fin 256 => s (ix2 r j)) := by
  pointwise [newMax]
  rw [show Ideal.ofBits FTy.f32 4286578688#32 = ⊥ from ofBits_negInf]
  rfl

theorem rescale_apply (s : FVec Ideal S256x256 .f32) (mo : Vec Ideal S1x256x1 .f32) (r : Fin 256) :
    rescale s mo (ix2 r 0) = Ideal.exp (mo (ix3 0 r 0) - newMax s mo (ix2 r 0)) := by
  pointwise [rescale]

theorem weights_apply (s : FVec Ideal S256x256 .f32) (mo : Vec Ideal S1x256x1 .f32) (r j : Fin 256) :
    weights s mo (ix2 r j) = Ideal.exp (s (ix2 r j) - newMax s mo (ix2 r 0)) := by
  pointwise [weights]

theorem stM_apply (s : FVec Ideal S256x256 .f32) (mo : Vec Ideal S1x256x1 .f32) (r : Fin 256) :
    stM s mo (ix3 0 r 0) = newMax s mo (ix2 r 0) := by
  pointwise [stM]

theorem stL_apply (s : FVec Ideal S256x256 .f32) (mo lo : Vec Ideal S1x256x1 .f32) (r : Fin 256) :
    stL s mo lo (ix3 0 r 0) = lo (ix3 0 r 0) * rescale s mo (ix2 r 0) + ∑ j : Fin 256, weights s mo (ix2 r j) := by
  pointwise [stL]

theorem stA_apply (s : FVec Ideal S256x256 .f32) (mo : Vec Ideal S1x256x1 .f32) (ao : Vec Ideal S1x256x128 .f32)
    (v : Vec Ideal S128x256 .bf16) (r : Fin 256) (l : Fin 128) :
    stA s mo ao v (ix3 0 r l) = ao (ix3 0 r l) * rescale s mo (ix2 r 0) + ∑ j : Fin 256, weights s mo (ix2 r j) * v (ix2 l j) := by
  pointwise [stA]

theorem scoreD_apply (q : Vec Ideal S1x256x128 .bf16) (k : Vec Ideal S128x256 .bf16) (cq : Vec Ideal S1x256x1 .f32)
    (ck : Vec Ideal S1x1x256 .f32) (r j : Fin 256) :
    scoreD q k cq ck (ix2 r j) = if j ≤ r then score q k cq ck (ix2 r j) else ⊥ := by
  pointwise [scoreD, k0_pay151]
  rw [mask_eq]
  rw [Idealize.ShloMosaic.WordCmp.cmpi_sle_ofNat (by omega) (by omega)]
  by_cases h : j ≤ r
  · rw [if_pos h, decide_eq_true (show (j : ℕ) ≤ r from h)]; rfl
  · rw [if_neg h, decide_eq_false (show ¬ (j : ℕ) ≤ r from h)]; rfl

end Cert.KernelIdeal.Gen
-- ==== Proof.Attn.Block.lean ====
module

public import proofs.«01_k».proof.Proof.Attn.Steps

@[expose] public section

set_option maxRecDepth 16384

noncomputable section

namespace Cert.KernelIdeal.Gen

open Idealize.ShloMosaic Idealize.ShloMosaic.TcCoe Idealize.ShloMosaic.Tactic
open Cert.Proof.Online

/-! ## One block of 256 keys, on one head -/

section Head

variable (x : Fin 256 → ℕ → EReal) (w : Fin 128 → ℕ → EReal) (n : ℕ)
  (s : FVec Ideal S256x256 .f32) (mo lo : Vec Ideal S1x256x1 .f32) (ao : Vec Ideal S1x256x128 .f32) (v : Vec Ideal S128x256 .bf16)
  (hx : ∀ r j, x r j ≠ ⊤) (hs : ∀ r j : Fin 256, s (ix2 r j) = x r (n + j))
  (hm : ∀ r, mo (ix3 0 r 0) = M (x r) n)

include hs hm in
theorem newMax_run (r : Fin 256) : newMax s mo (ix2 r 0) = M (x r) (n + 256) := by
  rw [newMax_apply, hm, M_add]
  simp only [hs]

include hs hm in
theorem stM_run (r : Fin 256) : stM s mo (ix3 0 r 0) = M (x r) (n + 256) := by
  rw [stM_apply, newMax_run x n s mo hs hm]

include hx hs hm in
theorem stL_run (hl : ∀ r, lo (ix3 0 r 0) = A (x r) (fun _ => 1) n) (r : Fin 256) :
    stL s mo lo (ix3 0 r 0) = A (x r) (fun _ => 1) (n + 256) := by
  rw [stL_apply, rescale_apply, A_add _ _ _ _ (fun j _ => hx r j), hm, hl]
  simp only [weights_apply, newMax_run x n s mo hs hm, hs, mul_one]

include hx hs hm in
theorem stA_run (ha : ∀ r l, ao (ix3 0 r l) = A (x r) (w l) n) (hv : ∀ (l : Fin 128) (j : Fin 256), v (ix2 l j) = w l (n + j))
    (r : Fin 256) (l : Fin 128) : stA s mo ao v (ix3 0 r l) = A (x r) (w l) (n + 256) := by
  rw [stA_apply, rescale_apply, A_add _ _ _ _ (fun j _ => hx r j), hm, ha]
  simp only [weights_apply, newMax_run x n s mo hs hm, hs, hv]

end Head

/-! ## The eight heads' stores -/

/-- Head `h` of a column per head. -/
abbrev r1 (h : Fin 8) : Rect S8x256x1 :=
  Rect.unit (s := S8x256x1) ![h.val, 0, 0] S1x256x1.size (by intro a; have := h.isLt; fin_cases a <;> simp <;> omega)

/-- Head `h` of a matrix per head. -/
abbrev rA (h : Fin 8) : Rect S8x256x128 :=
  Rect.unit (s := S8x256x128) ![h.val, 0, 0] S1x256x128.size (by intro a; have := h.isLt; fin_cases a <;> simp <;> omega)

/-- The heads, the last first. -/
abbrev heads : List (Fin 8) := [7, 6, 5, 4, 3, 2, 1, 0]

section Lists

variable {F : FTy → Type} [FloatOps F] [Named F]
variable (a12 a13 : Memref sig .tc .vmem S8x256x1 .f32) (a14 : Memref sig .tc .vmem S8x256x128 .f32)
  (s : Fin 8 → FVec F S256x256 .f32) (v : Fin 8 → Vec F S128x256 .bf16)
  (f12 : BufTy.Contents (Elt F) a12.view.ty) (f13 : BufTy.Contents (Elt F) a13.view.ty) (f14 : BufTy.Contents (Elt F) a14.view.ty)

/-- The stored maxima. -/
def lsM : List (View.Piece (Elt F) S8x256x1 .f32) :=
  heads.map fun h => ⟨r1 h, stM (s h) (View.readAt (Elt F) a12.view (r1 h).toLoadRect f12)⟩

/-- The stored sums. -/
def lsL : List (View.Piece (Elt F) S8x256x1 .f32) :=
  heads.map fun h => ⟨r1 h, stL (s h) (View.readAt (Elt F) a12.view (r1 h).toLoadRect f12)
    (View.readAt (Elt F) a13.view (r1 h).toLoadRect f13)⟩

/-- The stored weighted sums. -/
def lsA : List (View.Piece (Elt F) S8x256x128 .f32) :=
  heads.map fun h => ⟨rA h, stA (s h) (View.readAt (Elt F) a12.view (r1 h).toLoadRect f12)
    (View.readAt (Elt F) a14.view (rA h).toLoadRect f14) (v h)⟩

end Lists

theorem mem_heads (h : Fin 8) : h ∈ heads := by fin_cases h <;> simp [heads]

theorem rd1 {a : Memref sig .tc .vmem S8x256x1 .f32} (f : BufTy.Contents (Elt Ideal) a.view.ty) (h : Fin 8) (r : Fin 256) :
    (View.readAt (Elt Ideal) a.view (r1 h).toLoadRect f : Vec Ideal S1x256x1 .f32) (ix3 0 r 0) = a.view.read (Elt Ideal) f (ix3 h r 0) := by
  rw [View.readAt_eq_ld]
  exact View.ld_unit_apply_of _ _ _ _ _ _ (by intro a; fin_cases a <;> simp)

theorem rdA {e : EltTy} {a : Memref sig .tc .vmem S8x256x128 e} (f : BufTy.Contents (Elt Ideal) a.view.ty) (h : Fin 8) (r : Fin 256) (l : Fin 128) :
    (View.readAt (Elt Ideal) a.view (rA h).toLoadRect f : Vec Ideal S1x256x128 e) (ix3 0 r l) = a.view.read (Elt Ideal) f (ix3 h r l) := by
  rw [View.readAt_eq_ld]
  exact View.ld_unit_apply_of _ _ _ _ _ _ (by intro a; fin_cases a <;> simp)

theorem idx1 (x : S1x256x1.Idx) : x = ix3 0 (x 1) 0 := by
  funext a
  fin_cases a
  · exact Subsingleton.elim (α := Fin 1) _ _
  · rfl
  · exact Subsingleton.elim (α := Fin 1) _ _

theorem idxA (x : S1x256x128.Idx) : x = ix3 0 (x 1) (x 2) := by
  funext a
  fin_cases a
  · exact Subsingleton.elim (α := Fin 1) _ _
  · rfl
  · rfl

/-- Eight stores, one per head, read back at a head. -/
theorem read_heads1 {a : Memref sig .tc .vmem S8x256x1 .f32} (f : BufTy.Contents (Elt Ideal) a.view.ty)
    (p : Fin 8 → Vec Ideal S1x256x1 .f32) (L : List (View.Piece (Elt Ideal) S8x256x1 .f32)) (hL : L = heads.map fun h => ⟨r1 h, p h⟩)
    (h : Fin 8) (r : Fin 256) :
    a.view.read (Elt Ideal) (a.view.writes (Elt Ideal) f L) (ix3 h r 0) = p h (ix3 0 r 0) := by
  subst hL
  refine View.read_writes_apply_of_pieces _ _ (fun y : S8x256x1.Idx => p (y 0) (ix3 0 (y 1) 0)) _ ?_ (ix3 h r 0) ?_
  · intro pc hpc x
    obtain ⟨h', -, rfl⟩ := List.mem_map.mp hpc
    obtain ⟨r', rfl⟩ : ∃ r' : Fin 256, x = (ix3 0 r' 0 : S1x256x1.Idx) :=
      ⟨x 1, idx1 x⟩
    have e : (r1 h').emb (ix3 0 r' 0 : S1x256x1.Idx) = (ix3 h' r' 0 : S8x256x1.Idx) :=
      Rect.emb_eq_of_coords _ _ _ (by intro a; fin_cases a <;> simp)
    show p h' (ix3 0 r' 0) = p (((r1 h').emb (ix3 0 r' 0 : S1x256x1.Idx)) 0) (ix3 0 (((r1 h').emb (ix3 0 r' 0 : S1x256x1.Idx)) 1) 0)
    rw [e]; rfl
  · refine ⟨_, List.mem_map.mpr ⟨h, mem_heads h, rfl⟩, ?_⟩
    exact (r1 h).mem_set.mpr fun a => by
      fin_cases a
      · exact ⟨0, by simp, by simp⟩
      · exact ⟨r, by simp, by simp⟩
      · exact ⟨0, by simp, by simp⟩

theorem read_headsA {e : EltTy} {a : Memref sig .tc .vmem S8x256x128 e} (f : BufTy.Contents (Elt Ideal) a.view.ty)
    (p : Fin 8 → Vec Ideal S1x256x128 e) (L : List (View.Piece (Elt Ideal) S8x256x128 e)) (hL : L = heads.map fun h => ⟨rA h, p h⟩)
    (h : Fin 8) (r : Fin 256) (l : Fin 128) :
    a.view.read (Elt Ideal) (a.view.writes (Elt Ideal) f L) (ix3 h r l) = p h (ix3 0 r l) := by
  subst hL
  refine View.read_writes_apply_of_pieces _ _ (fun y : S8x256x128.Idx => p (y 0) (ix3 0 (y 1) (y 2))) _ ?_ (ix3 h r l) ?_
  · intro pc hpc x
    obtain ⟨h', -, rfl⟩ := List.mem_map.mp hpc
    obtain ⟨r', l', rfl⟩ : ∃ (r' : Fin 256) (l' : Fin 128), x = (ix3 0 r' l' : S1x256x128.Idx) :=
      ⟨x 1, x 2, idxA x⟩
    have e : (rA h').emb (ix3 0 r' l' : S1x256x128.Idx) = (ix3 h' r' l' : S8x256x128.Idx) :=
      Rect.emb_eq_of_coords _ _ _ (by intro a; fin_cases a <;> simp)
    show p h' (ix3 0 r' l') = p (((rA h').emb (ix3 0 r' l' : S1x256x128.Idx)) 0) (ix3 0 (((rA h').emb (ix3 0 r' l' : S1x256x128.Idx)) 1) (((rA h').emb (ix3 0 r' l' : S1x256x128.Idx)) 2))
    rw [e]; rfl
  · refine ⟨_, List.mem_map.mpr ⟨h, mem_heads h, rfl⟩, ?_⟩
    exact (rA h).mem_set.mpr fun a => by
      fin_cases a
      · exact ⟨0, by simp, by simp⟩
      · exact ⟨r, by simp, by simp⟩
      · exact ⟨l, by simp, by simp⟩

/-! ## The state after the first `n` keys -/

section State

variable (a12 a13 : Memref sig .tc .vmem S8x256x1 .f32) (a14 : Memref sig .tc .vmem S8x256x128 .f32)
  (X : Fin 8 → Fin 256 → ℕ → EReal) (W : Fin 8 → Fin 128 → ℕ → EReal)

/-- The running maxima, sums and weighted sums are those of the first `n` keys. -/
def Inv (n : ℕ) (f12 : BufTy.Contents (Elt Ideal) a12.view.ty) (f13 : BufTy.Contents (Elt Ideal) a13.view.ty)
    (f14 : BufTy.Contents (Elt Ideal) a14.view.ty) : Prop :=
  (∀ h r, a12.view.read (Elt Ideal) f12 (ix3 h r 0) = M (X h r) n)
    ∧ (∀ h r, a13.view.read (Elt Ideal) f13 (ix3 h r 0) = A (X h r) (fun _ => 1) n)
    ∧ ∀ h r l, a14.view.read (Elt Ideal) f14 (ix3 h r l) = A (X h r) (W h l) n

/-- One block of keys on all heads. -/
theorem inv_step (n : ℕ) (s : Fin 8 → FVec Ideal S256x256 .f32) (v : Fin 8 → Vec Ideal S128x256 .bf16)
    (f12 : BufTy.Contents (Elt Ideal) a12.view.ty) (f13 : BufTy.Contents (Elt Ideal) a13.view.ty)
    (f14 : BufTy.Contents (Elt Ideal) a14.view.ty)
    (hX : ∀ h r j, X h r j ≠ ⊤) (hs : ∀ h (r j : Fin 256), s h (ix2 r j) = X h r (n + j))
    (hv : ∀ h (l : Fin 128) (j : Fin 256), v h (ix2 l j) = W h l (n + j)) (hi : Inv a12 a13 a14 X W n f12 f13 f14) :
    Inv a12 a13 a14 X W (n + 256) (a12.view.writes (Elt Ideal) f12 (lsM a12 s f12))
      (a13.view.writes (Elt Ideal) f13 (lsL a12 a13 s f12 f13)) (a14.view.writes (Elt Ideal) f14 (lsA a12 a14 s v f12 f14)) := by
  obtain ⟨hm, hl, ha⟩ := hi
  refine ⟨fun h r => ?_, fun h r => ?_, fun h r l => ?_⟩
  · rw [read_heads1 _ _ _ (by rw [lsM])]
    exact stM_run (X h) n (s h) _ (hs h) (fun r => (rd1 _ _ _).trans (hm h r)) r
  · rw [read_heads1 _ _ _ (by rw [lsL])]
    exact stL_run (X h) n (s h) _ _ (hX h) (hs h) (fun r => (rd1 _ _ _).trans (hm h r)) (fun r => (rd1 _ _ _).trans (hl h r)) r
  · rw [read_headsA _ _ _ (by rw [lsA])]
    exact stA_run (X h) (W h) n (s h) _ _ _ (hX h) (hs h) (fun r => (rd1 _ _ _).trans (hm h r))
      (fun r l => (rdA _ _ _ _).trans (ha h r l)) (hv h) r l

end State

end Cert.KernelIdeal.Gen
-- ==== Proof.Attn.Trip.lean ====
module

public import proofs.«01_k».proof.Proof.Attn.Block

@[expose] public section

set_option maxRecDepth 16384

noncomputable section

namespace Cert.KernelIdeal.Gen

open Idealize.ShloMosaic Idealize.ShloMosaic.TcCoe Idealize.ShloMosaic.Tactic Idealize.SL.Sem
open Cert.Proof.Online

/-! ## The loop's trips -/

section Trip

variable {F : FTy → Type} [FloatOps F] [Named F]

/-- The block of keys, or of values, of head `h`'s pair. -/
abbrev rK (o : Fin 2 → ℕ) (ho : ∀ a, o a + S128x256.size a ≤ S512x2048.size a) : Rect S512x2048 :=
  Rect.unit (s := S512x2048) o S128x256.size ho

/-- The block of the keys' decays. -/
abbrev rC (o : Fin 3 → ℕ) (ho : ∀ a, o a + S1x1x256.size a ≤ S1x8x2048.size a) : Rect S1x8x2048 :=
  Rect.unit (s := S1x8x2048) o S1x1x256.size ho

/-- Where trip `k` reads head `h`'s keys and values. -/
def oK (i : grid0.Coords) (k : Fin (k0_t1_loop i).trips) (h : Fin 8) : Fin 2 → ℕ :=
  match h with
  | 0 => k0_off1 i k | 1 => k0_off1 i k | 2 => k0_off4 i k | 3 => k0_off4 i k
  | 4 => k0_off7 i k | 5 => k0_off7 i k | 6 => k0_off10 i k | 7 => k0_off10 i k

/-- Where trip `k` reads the decays of head `h`'s keys. -/
def oC (i : grid0.Coords) (k : Fin (k0_t1_loop i).trips) (h : Fin 8) : Fin 3 → ℕ :=
  match h with
  | 0 => k0_off2 i k | 1 => k0_off3 i k | 2 => k0_off5 i k | 3 => k0_off6 i k
  | 4 => k0_off8 i k | 5 => k0_off9 i k | 6 => k0_off11 i k | 7 => k0_off12 i k

theorem oK_eq (i : grid0.Coords) (k : Fin (k0_t1_loop i).trips) (h : Fin 8) : oK i k h = ![128 * (h.val / 2), 256 * k.val] := by
  fin_cases h <;> simp only [oK]
  · exact k0_off1_eq i k
  · exact k0_off1_eq i k
  · exact k0_off4_eq i k
  · exact k0_off4_eq i k
  · exact k0_off7_eq i k
  · exact k0_off7_eq i k
  · exact k0_off10_eq i k
  · exact k0_off10_eq i k

theorem oC_eq (i : grid0.Coords) (k : Fin (k0_t1_loop i).trips) (h : Fin 8) : oC i k h = ![0, h.val, 256 * k.val] := by
  fin_cases h <;> simp only [oC]
  · exact k0_off2_eq i k
  · exact k0_off3_eq i k
  · exact k0_off5_eq i k
  · exact k0_off6_eq i k
  · exact k0_off8_eq i k
  · exact k0_off9_eq i k
  · exact k0_off11_eq i k
  · exact k0_off12_eq i k

theorem oK_inb (i : grid0.Coords) (k : Fin (k0_t1_loop i).trips) (h : Fin 8) : ∀ a, oK i k h a + S128x256.size a ≤ S512x2048.size a := by
  fin_cases h <;> simp only [oK]
  · exact k0_off1_inb i k
  · exact k0_off1_inb i k
  · exact k0_off4_inb i k
  · exact k0_off4_inb i k
  · exact k0_off7_inb i k
  · exact k0_off7_inb i k
  · exact k0_off10_inb i k
  · exact k0_off10_inb i k

theorem oC_inb (i : grid0.Coords) (k : Fin (k0_t1_loop i).trips) (h : Fin 8) : ∀ a, oC i k h a + S1x1x256.size a ≤ S1x8x2048.size a := by
  fin_cases h <;> simp only [oC]
  · exact k0_off2_inb i k
  · exact k0_off3_inb i k
  · exact k0_off5_inb i k
  · exact k0_off6_inb i k
  · exact k0_off8_inb i k
  · exact k0_off9_inb i k
  · exact k0_off11_inb i k
  · exact k0_off12_inb i k

variable (arg5 : Memref sig .tc .vmem S1x8x2048 .f32) (arg8 arg9 : Memref sig .tc .vmem S512x2048 .bf16)
  (arg10 : Memref sig .tc .vmem S8x256x128 .bf16) (arg11 : Memref sig .tc .vmem S8x256x1 .f32)
  (X_arg5 : BufTy.Contents (Elt F) arg5.view.ty) (X_arg8 : BufTy.Contents (Elt F) arg8.view.ty)
  (X_arg9 : BufTy.Contents (Elt F) arg9.view.ty)
  (X_arg10 : BufTy.Contents (Elt F) arg10.view.ty) (X_arg11 : BufTy.Contents (Elt F) arg11.view.ty)

/-- Head `h`'s scores against the keys read at `o`, their decays at `o'`. -/
def scAt (h : Fin 8) (o : Fin 2 → ℕ) (ho : ∀ a, o a + S128x256.size a ≤ S512x2048.size a) (o' : Fin 3 → ℕ)
    (ho' : ∀ a, o' a + S1x1x256.size a ≤ S1x8x2048.size a) : FVec F S256x256 .f32 :=
  score (View.readAt (Elt F) arg10.view (rA h).toLoadRect X_arg10) (View.readAt (Elt F) arg8.view (rK o ho).toLoadRect X_arg8)
    (View.readAt (Elt F) arg11.view (r1 h).toLoadRect X_arg11) (View.readAt (Elt F) arg5.view (rC o' ho').toLoadRect X_arg5)

/-- Head `h`'s scores on the diagonal. -/
def scAtD (h : Fin 8) (o : Fin 2 → ℕ) (ho : ∀ a, o a + S128x256.size a ≤ S512x2048.size a) (o' : Fin 3 → ℕ)
    (ho' : ∀ a, o' a + S1x1x256.size a ≤ S1x8x2048.size a) : FVec F S256x256 .f32 :=
  scoreD (View.readAt (Elt F) arg10.view (rA h).toLoadRect X_arg10) (View.readAt (Elt F) arg8.view (rK o ho).toLoadRect X_arg8)
    (View.readAt (Elt F) arg11.view (r1 h).toLoadRect X_arg11) (View.readAt (Elt F) arg5.view (rC o' ho').toLoadRect X_arg5)

/-- The values read at `o`. -/
def vAt (o : Fin 2 → ℕ) (ho : ∀ a, o a + S128x256.size a ≤ S512x2048.size a) : Vec F S128x256 .bf16 :=
  View.readAt (Elt F) arg9.view (rK o ho).toLoadRect X_arg9

end Trip

section TripEq

variable {F : FTy → Type} [FloatOps F] [Named F]

set_option maxHeartbeats 4000000 in
/-- What one trip stores. -/
theorem trip_eq (𝒱 : Variants) (c : Dev nD) (bd : Option 𝒱.V) (i : grid0.Coords) (arg2 : Memref sig .tc .vmem S256x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x8x2048 .f32) (harg5 : arg5.IsWhole) (arg6 : Memref sig .tc .vmem S256x128 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S8x256x128 .bf16) (harg10 : arg10.IsWhole) (arg11 : Memref sig .tc .vmem S8x256x1 .f32) (harg11 : arg11.IsWhole) (arg12 : Memref sig .tc .vmem S8x256x1 .f32) (harg12 : arg12.IsWhole) (arg13 : Memref sig .tc .vmem S8x256x1 .f32) (harg13 : arg13.IsWhole) (arg14 : Memref sig .tc .vmem S8x256x128 .f32) (harg14 : arg14.IsWhole) (arg1 : BitVec 32) (v10 : FVec F S256x128 .f32) (v95 : FVec F S256x1 .f32) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin (k0_t1_loop i).trips) (f_arg12 : BufTy.Contents (Elt F) arg12.view.ty) (f_arg13 : BufTy.Contents (Elt F) arg13.view.ty) (f_arg14 : BufTy.Contents (Elt F) arg14.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v10 v95 X_arg5 X_arg8 X_arg9 X_arg10 X_arg11 k f_arg12 f_arg13 f_arg14
      = (lsM arg12 (fun h => scAt arg5 arg8 arg10 arg11 X_arg5 X_arg8 X_arg10 X_arg11 h _ (oK_inb i k h) _ (oC_inb i k h)) f_arg12,
        lsL arg12 arg13 (fun h => scAt arg5 arg8 arg10 arg11 X_arg5 X_arg8 X_arg10 X_arg11 h _ (oK_inb i k h) _ (oC_inb i k h)) f_arg12 f_arg13,
        lsA arg12 arg14 (fun h => scAt arg5 arg8 arg10 arg11 X_arg5 X_arg8 X_arg10 X_arg11 h _ (oK_inb i k h) _ (oC_inb i k h))
          (fun h => vAt arg9 X_arg9 _ (oK_inb i k h)) f_arg12 f_arg14) := by
  unfold tripL_k0_t1 trip_k0_t1; dsimp only
  sl_unfold_run_names
  rfl

end TripEq

end Cert.KernelIdeal.Gen
-- ==== Proof.Attn.Diag.lean ====
module

public import proofs.«01_k».proof.Proof.Attn.Trip

@[expose] public section

set_option maxRecDepth 16384

noncomputable section

namespace Cert.KernelIdeal.Gen

open Idealize.ShloMosaic Idealize.ShloMosaic.TcCoe Idealize.ShloMosaic.Tactic Idealize.SL.Sem
open Cert.Proof.Online

/-! ## The diagonal block's reads -/

/-- Where the diagonal step reads head `h`'s keys and values. -/
def oKD (i : grid0.Coords) (h : Fin 8) : Fin 2 → ℕ :=
  match h with
  | 0 => k0_off25 i | 1 => k0_off25 i | 2 => k0_off28 i | 3 => k0_off28 i | 4 => k0_off31 i | 5 => k0_off31 i | 6 => k0_off34 i | 7 => k0_off34 i

/-- Where the diagonal step reads the decays of head `h`'s keys. -/
def oCD (i : grid0.Coords) (h : Fin 8) : Fin 3 → ℕ :=
  match h with
  | 0 => k0_off26 i | 1 => k0_off27 i | 2 => k0_off29 i | 3 => k0_off30 i | 4 => k0_off32 i | 5 => k0_off33 i | 6 => k0_off35 i | 7 => k0_off36 i

theorem oKD_eq (i : grid0.Coords) (h : Fin 8) : oKD i h = ![128 * (h.val / 2), 256 * (i 1).val] := by
  fin_cases h <;> simp only [oKD]
  · exact k0_off25_eq i
  · exact k0_off25_eq i
  · exact k0_off28_eq i
  · exact k0_off28_eq i
  · exact k0_off31_eq i
  · exact k0_off31_eq i
  · exact k0_off34_eq i
  · exact k0_off34_eq i

theorem oCD_eq (i : grid0.Coords) (h : Fin 8) : oCD i h = ![0, h.val, 256 * (i 1).val] := by
  fin_cases h <;> simp only [oCD]
  · exact k0_off26_eq i
  · exact k0_off27_eq i
  · exact k0_off29_eq i
  · exact k0_off30_eq i
  · exact k0_off32_eq i
  · exact k0_off33_eq i
  · exact k0_off35_eq i
  · exact k0_off36_eq i

theorem oKD_inb (i : grid0.Coords) (h : Fin 8) : ∀ a, oKD i h a + S128x256.size a ≤ S512x2048.size a := by
  fin_cases h <;> simp only [oKD]
  · exact k0_off25_inb i
  · exact k0_off25_inb i
  · exact k0_off28_inb i
  · exact k0_off28_inb i
  · exact k0_off31_inb i
  · exact k0_off31_inb i
  · exact k0_off34_inb i
  · exact k0_off34_inb i

theorem oCD_inb (i : grid0.Coords) (h : Fin 8) : ∀ a, oCD i h a + S1x1x256.size a ≤ S1x8x2048.size a := by
  fin_cases h <;> simp only [oCD]
  · exact k0_off26_inb i
  · exact k0_off27_inb i
  · exact k0_off29_inb i
  · exact k0_off30_inb i
  · exact k0_off32_inb i
  · exact k0_off33_inb i
  · exact k0_off35_inb i
  · exact k0_off36_inb i

/-! ## The loop -/

/-- The loop makes as many trips as there are blocks of earlier keys. -/
theorem trips1 : ∀ i : grid0.Coords, (k0_t1_loop i).trips = (i 1).val := by decide +kernel

/-- What is left of the loop after its steps of one makes no trip. -/
theorem trips2 (i : grid0.Coords) : Scf.trips (k0_t2_loop i).lb (k0_t2_loop i).ub (k0_t2_loop i).st = 0 :=
  Nat.le_zero.mp (k0_t2_abs i).2.1

section Loop

variable {F : FTy → Type} [FloatOps F] [Named F]

theorem pb2_zero (𝒱 : Variants) (c : Dev nD) (bd : Option 𝒱.V) (i : grid0.Coords) (arg2 : Memref sig .tc .vmem S256x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x8x2048 .f32) (harg5 : arg5.IsWhole) (arg6 : Memref sig .tc .vmem S256x128 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S8x256x128 .bf16) (harg10 : arg10.IsWhole) (arg11 : Memref sig .tc .vmem S8x256x1 .f32) (harg11 : arg11.IsWhole) (arg12 : Memref sig .tc .vmem S8x256x1 .f32) (harg12 : arg12.IsWhole) (arg13 : Memref sig .tc .vmem S8x256x1 .f32) (harg13 : arg13.IsWhole) (arg14 : Memref sig .tc .vmem S8x256x128 .f32) (harg14 : arg14.IsWhole) (arg1 : BitVec 32) (v10 : FVec F S256x128 .f32) (v95 : FVec F S256x1 .f32) (v123 : BitVec 32) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v10 v95 v123 X_arg5 X_arg8 X_arg9 X_arg10 X_arg11 G_arg12 G_arg13 G_arg14 0 = ([], [], []) := rfl

theorem pb2_any (𝒱 : Variants) (c : Dev nD) (bd : Option 𝒱.V) (i : grid0.Coords) (arg2 : Memref sig .tc .vmem S256x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x8x2048 .f32) (harg5 : arg5.IsWhole) (arg6 : Memref sig .tc .vmem S256x128 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S8x256x128 .bf16) (harg10 : arg10.IsWhole) (arg11 : Memref sig .tc .vmem S8x256x1 .f32) (harg11 : arg11.IsWhole) (arg12 : Memref sig .tc .vmem S8x256x1 .f32) (harg12 : arg12.IsWhole) (arg13 : Memref sig .tc .vmem S8x256x1 .f32) (harg13 : arg13.IsWhole) (arg14 : Memref sig .tc .vmem S8x256x128 .f32) (harg14 : arg14.IsWhole) (arg1 : BitVec 32) (v10 : FVec F S256x128 .f32) (v95 : FVec F S256x1 .f32) (v123 : BitVec 32) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (n : ℕ) (hn : n = 0) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v10 v95 v123 X_arg5 X_arg8 X_arg9 X_arg10 X_arg11 G_arg12 G_arg13 G_arg14 n = ([], [], []) := by
  subst hn
  rfl

/-- The first maxima. -/
abbrev ls4 : List (View.Piece (Elt F) S8x256x1 .f32) := [⟨Rect.unit ![0, 0, 0] S8x256x1.size inb_S8x256x1_S8x256x1_0_0_0, k0_pay167⟩]
/-- The first sums. -/
abbrev ls5 : List (View.Piece (Elt F) S8x256x1 .f32) := [⟨Rect.unit ![0, 0, 0] S8x256x1.size inb_S8x256x1_S8x256x1_0_0_0, k0_pay168⟩]
/-- The first weighted sums. -/
abbrev ls6 : List (View.Piece (Elt F) S8x256x128 .f32) := [⟨Rect.unit ![0, 0, 0] S8x256x128.size inb_S8x256x128_S8x256x128_0_0_0, k0_pay169⟩]

/-- What the whole loop stores. -/
abbrev pbAll (c : Dev nD) (i : grid0.Coords) (arg2 : Memref sig .tc .vmem S256x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x8x2048 .f32) (harg5 : arg5.IsWhole) (arg6 : Memref sig .tc .vmem S256x128 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S8x256x128 .bf16) (harg10 : arg10.IsWhole) (arg11 : Memref sig .tc .vmem S8x256x1 .f32) (harg11 : arg11.IsWhole) (arg12 : Memref sig .tc .vmem S8x256x1 .f32) (harg12 : arg12.IsWhole) (arg13 : Memref sig .tc .vmem S8x256x1 .f32) (harg13 : arg13.IsWhole) (arg14 : Memref sig .tc .vmem S8x256x128 .f32) (harg14 : arg14.IsWhole) (v10 : FVec F S256x128 .f32) (v95 : FVec F S256x1 .f32) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) :
    List (View.Piece (Elt F) S8x256x1 .f32) × List (View.Piece (Elt F) S8x256x1 .f32) × List (View.Piece (Elt F) S8x256x128 .f32) :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) v10 v95 X_arg5 X_arg8 X_arg9 X_arg10 X_arg11
    (arg12.view.writes (Elt F) arg12.view.junk ls4) (arg13.view.writes (Elt F) arg13.view.junk ls5) (arg14.view.writes (Elt F) arg14.view.junk ls6)
    (Scf.trips (k0_t1_loop i).lb (k0_t1_loop i).ub (k0_t1_loop i).st)

end Loop

end Cert.KernelIdeal.Gen
-- ==== Proof.Attn.Loop.lean ====
module

public import proofs.«01_k».proof.Proof.Attn.Diag

@[expose] public section

set_option maxRecDepth 16384

noncomputable section

namespace Cert.KernelIdeal.Gen

open Idealize.ShloMosaic Idealize.ShloMosaic.TcCoe Idealize.ShloMosaic.Tactic Idealize.SL.Sem
open Cert.Proof.Online

/-- Lane `d` of the pair of heads that head `h` is in. -/
def lane (h : Fin 8) (d : Fin 128) : Fin 512 := ⟨128 * (h.val / 2) + d.val, by omega⟩

/-- Position `n`, taken round the sequence. -/
def pos (n : ℕ) : Fin 2048 := ⟨n % 2048, Nat.mod_lt _ (by omega)⟩

section Scores

variable {arg2 : Memref sig .tc .vmem S256x512 .f32} {harg2 : arg2.IsWhole} {arg3 : Memref sig .tc .vmem S1x512x2048 .f32} {harg3 : arg3.IsWhole} {arg4 : Memref sig .tc .vmem S1x512x2048 .f32} {harg4 : arg4.IsWhole} {arg5 : Memref sig .tc .vmem S1x8x2048 .f32} {harg5 : arg5.IsWhole} {arg6 : Memref sig .tc .vmem S256x128 .f32} {harg6 : arg6.IsWhole} {arg7 : Memref sig .tc .vmem S256x512 .f32} {harg7 : arg7.IsWhole} {arg8 : Memref sig .tc .vmem S512x2048 .bf16} {harg8 : arg8.IsWhole} {arg9 : Memref sig .tc .vmem S512x2048 .bf16} {harg9 : arg9.IsWhole} {arg10 : Memref sig .tc .vmem S8x256x128 .bf16} {harg10 : arg10.IsWhole} {arg11 : Memref sig .tc .vmem S8x256x1 .f32} {harg11 : arg11.IsWhole} {arg12 : Memref sig .tc .vmem S8x256x1 .f32} {harg12 : arg12.IsWhole} {arg13 : Memref sig .tc .vmem S8x256x1 .f32} {harg13 : arg13.IsWhole} {arg14 : Memref sig .tc .vmem S8x256x128 .f32} {harg14 : arg14.IsWhole}
variable (X_arg5 : BufTy.Contents (Elt Ideal) arg5.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty)

/-- Head `h`'s score of row `r` against position `n`. -/
def sc (h : Fin 8) (r : Fin 256) (n : ℕ) : EReal :=
  (∑ d : Fin 128, (arg10.view.read (Elt Ideal) X_arg10 (ix3 h r d) : EReal) * arg8.view.read (Elt Ideal) X_arg8 (ix2 (lane h d) (pos n)))
    + arg11.view.read (Elt Ideal) X_arg11 (ix3 h r 0) - arg5.view.read (Elt Ideal) X_arg5 (ix3 0 h (pos n))

/-- The value of position `n` at a lane. -/
def va (h : Fin 8) (l : Fin 128) (n : ℕ) : EReal := arg9.view.read (Elt Ideal) X_arg9 (ix2 (lane h l) (pos n))

theorem rdK {a : Memref sig .tc .vmem S512x2048 .bf16} (f : BufTy.Contents (Elt Ideal) a.view.ty) (h : Fin 8) (n : ℕ) (hn : n + 256 ≤ 2048)
    (o : Fin 2 → ℕ) (ho : ∀ a, o a + S128x256.size a ≤ S512x2048.size a) (e : o = ![128 * (h.val / 2), n]) (d : Fin 128) (j : Fin 256) :
    (View.readAt (Elt Ideal) a.view (rK o ho).toLoadRect f : Vec Ideal S128x256 .bf16) (ix2 d j)
      = a.view.read (Elt Ideal) f (ix2 (lane h d) (pos (n + j))) := by
  subst e
  rw [View.readAt_eq_ld]
  refine View.ld_unit_apply_of _ _ _ _ _ _ ?_
  intro a
  have := j.isLt
  fin_cases a
  · simp [lane]
  · simp [pos, Nat.mod_eq_of_lt (show n + j.val < 2048 by omega)]

theorem rdC (h : Fin 8) (n : ℕ) (hn : n + 256 ≤ 2048)
    (o : Fin 3 → ℕ) (ho : ∀ a, o a + S1x1x256.size a ≤ S1x8x2048.size a) (e : o = ![0, h.val, n]) (j : Fin 256) :
    (View.readAt (Elt Ideal) arg5.view (rC o ho).toLoadRect X_arg5 : Vec Ideal S1x1x256 .f32) (ix3 0 0 j)
      = arg5.view.read (Elt Ideal) X_arg5 (ix3 0 h (pos (n + j))) := by
  subst e
  rw [View.readAt_eq_ld]
  refine View.ld_unit_apply_of _ _ _ _ _ _ ?_
  intro a
  have := j.isLt
  fin_cases a
  · simp
  · simp
  · simp [pos, Nat.mod_eq_of_lt (show n + j.val < 2048 by omega)]

theorem scAt_apply (h : Fin 8) (n : ℕ) (hn : n + 256 ≤ 2048) (o : Fin 2 → ℕ) (ho : ∀ a, o a + S128x256.size a ≤ S512x2048.size a)
    (e : o = ![128 * (h.val / 2), n]) (o' : Fin 3 → ℕ) (ho' : ∀ a, o' a + S1x1x256.size a ≤ S1x8x2048.size a) (e' : o' = ![0, h.val, n])
    (r j : Fin 256) :
    scAt arg5 arg8 arg10 arg11 X_arg5 X_arg8 X_arg10 X_arg11 h o ho o' ho' (ix2 r j) = sc X_arg5 X_arg8 X_arg10 X_arg11 h r (n + j) := by
  unfold scAt sc
  rw [score_apply, rd1, rdC X_arg5 h n hn o' ho' e']
  simp only [rdA, rdK X_arg8 h n hn o ho e]

theorem scAtD_apply (h : Fin 8) (n : ℕ) (hn : n + 256 ≤ 2048) (o : Fin 2 → ℕ) (ho : ∀ a, o a + S128x256.size a ≤ S512x2048.size a)
    (e : o = ![128 * (h.val / 2), n]) (o' : Fin 3 → ℕ) (ho' : ∀ a, o' a + S1x1x256.size a ≤ S1x8x2048.size a) (e' : o' = ![0, h.val, n])
    (r j : Fin 256) :
    scAtD arg5 arg8 arg10 arg11 X_arg5 X_arg8 X_arg10 X_arg11 h o ho o' ho' (ix2 r j) = if j ≤ r then sc X_arg5 X_arg8 X_arg10 X_arg11 h r (n + j) else ⊥ := by
  unfold scAtD
  rw [scoreD_apply]
  exact if_congr Iff.rfl (scAt_apply X_arg5 X_arg8 X_arg10 X_arg11 h n hn o ho e o' ho' e' r j) rfl

theorem vAt_apply (h : Fin 8) (n : ℕ) (hn : n + 256 ≤ 2048) (o : Fin 2 → ℕ) (ho : ∀ a, o a + S128x256.size a ≤ S512x2048.size a)
    (e : o = ![128 * (h.val / 2), n]) (l : Fin 128) (j : Fin 256) :
    vAt arg9 X_arg9 o ho (ix2 l j) = va X_arg9 h l (n + j) := rdK X_arg9 h n hn o ho e l j

/-- The scores of the rows of block `q`, those of later positions at minus infinity. -/
def xm (q : ℕ) (h : Fin 8) (r : Fin 256) (n : ℕ) : EReal :=
  if n ≤ 256 * q + r.val then sc X_arg5 X_arg8 X_arg10 X_arg11 h r n else ⊥

variable {X_arg5 X_arg8 X_arg10 X_arg11} in
theorem xm_ne_top (hR : ∀ h r n, sc X_arg5 X_arg8 X_arg10 X_arg11 h r n ≠ ⊤) (q : ℕ) (h : Fin 8) (r : Fin 256) (n : ℕ) :
    xm X_arg5 X_arg8 X_arg10 X_arg11 q h r n ≠ ⊤ := by
  unfold xm
  split
  · exact hR h r n
  · exact bot_ne_top

variable (c : Dev nD) (i : grid0.Coords) (arg1 : BitVec 32) (v10 : FVec Ideal S256x128 .f32) (v95 : FVec Ideal S256x1 .f32)
variable (G_arg12 : BufTy.Contents (Elt Ideal) arg12.view.ty) (G_arg13 : BufTy.Contents (Elt Ideal) arg13.view.ty) (G_arg14 : BufTy.Contents (Elt Ideal) arg14.view.ty)

include harg2 in
theorem loop_inv (hR : ∀ h r n, sc X_arg5 X_arg8 X_arg10 X_arg11 h r n ≠ ⊤)
    (h0 : Inv arg12 arg13 arg14 (xm X_arg5 X_arg8 X_arg10 X_arg11 (i 1).val) (va X_arg9) 0 G_arg12 G_arg13 G_arg14) :
    ∀ k : ℕ, k ≤ (i 1).val → Inv arg12 arg13 arg14 (xm X_arg5 X_arg8 X_arg10 X_arg11 (i 1).val) (va X_arg9) (256 * k)
      (arg12.view.writes (Elt Ideal) G_arg12 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v10 v95 X_arg5 X_arg8 X_arg9 X_arg10 X_arg11 G_arg12 G_arg13 G_arg14 k).1)
      (arg13.view.writes (Elt Ideal) G_arg13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v10 v95 X_arg5 X_arg8 X_arg9 X_arg10 X_arg11 G_arg12 G_arg13 G_arg14 k).2.1)
      (arg14.view.writes (Elt Ideal) G_arg14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v10 v95 X_arg5 X_arg8 X_arg9 X_arg10 X_arg11 G_arg12 G_arg13 G_arg14 k).2.2)
  | 0, _ => h0
  | k + 1, hk => by
    have ih := loop_inv hR h0 k (by omega)
    have hq : (i 1).val < 8 := (i 1).isLt
    have hkt : k < (k0_t1_loop i).trips := by rw [trips1]; omega
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 arg1 v10 v95 X_arg5 X_arg8 X_arg9 X_arg10 X_arg11 G_arg12 G_arg13 G_arg14 ⟨k, hkt⟩]
    rw [trip_eq]
    dsimp only
    rw [View.writes_append, View.writes_append, View.writes_append]
    refine inv_step _ _ _ _ _ (256 * k) _ _ _ _ _ (fun h r j => xm_ne_top hR _ h r j) (fun h r j => ?_) (fun h l j => ?_) ih
    · rw [scAt_apply X_arg5 X_arg8 X_arg10 X_arg11 h (256 * k) (by omega) _ _ (oK_eq i ⟨k, hkt⟩ h) _ _ (oC_eq i ⟨k, hkt⟩ h)]
      have := j.isLt
      unfold xm
      rw [if_pos (by omega)]
    · exact vAt_apply X_arg9 h (256 * k) (by omega) _ _ (oK_eq i ⟨k, hkt⟩ h) l j

/-- What the stores of the loop and of the diagonal block leave. -/
theorem all_inv (hR : ∀ h r n, sc X_arg5 X_arg8 X_arg10 X_arg11 h r n ≠ ⊤)
    (h0 : Inv arg12 arg13 arg14 (xm X_arg5 X_arg8 X_arg10 X_arg11 (i 1).val) (va X_arg9) 0
      (arg12.view.writes (Elt Ideal) arg12.view.junk ls4) (arg13.view.writes (Elt Ideal) arg13.view.junk ls5) (arg14.view.writes (Elt Ideal) arg14.view.junk ls6)) :
    Inv arg12 arg13 arg14 (xm X_arg5 X_arg8 X_arg10 X_arg11 (i 1).val) (va X_arg9) (256 * (i 1).val + 256)
      (arg12.view.writes (Elt Ideal) (arg12.view.writes (Elt Ideal) arg12.view.junk ((pbAll (F := Ideal) c i arg2 harg2 arg3 harg3 arg4 harg4 arg5 harg5 arg6 harg6 arg7 harg7 arg8 harg8 arg9 harg9 arg10 harg10 arg11 harg11 arg12 harg12 arg13 harg13 arg14 harg14 v10 v95 X_arg5 X_arg8 X_arg9 X_arg10 X_arg11).1 ++ ls4)) (lsM arg12 (fun h => scAtD arg5 arg8 arg10 arg11 X_arg5 X_arg8 X_arg10 X_arg11 h _ (oKD_inb i h) _ (oCD_inb i h)) (arg12.view.writes (Elt Ideal) arg12.view.junk ((pbAll (F := Ideal) c i arg2 harg2 arg3 harg3 arg4 harg4 arg5 harg5 arg6 harg6 arg7 harg7 arg8 harg8 arg9 harg9 arg10 harg10 arg11 harg11 arg12 harg12 arg13 harg13 arg14 harg14 v10 v95 X_arg5 X_arg8 X_arg9 X_arg10 X_arg11).1 ++ ls4))))
      (arg13.view.writes (Elt Ideal) (arg13.view.writes (Elt Ideal) arg13.view.junk ((pbAll (F := Ideal) c i arg2 harg2 arg3 harg3 arg4 harg4 arg5 harg5 arg6 harg6 arg7 harg7 arg8 harg8 arg9 harg9 arg10 harg10 arg11 harg11 arg12 harg12 arg13 harg13 arg14 harg14 v10 v95 X_arg5 X_arg8 X_arg9 X_arg10 X_arg11).2.1 ++ ls5)) (lsL arg12 arg13 (fun h => scAtD arg5 arg8 arg10 arg11 X_arg5 X_arg8 X_arg10 X_arg11 h _ (oKD_inb i h) _ (oCD_inb i h)) (arg12.view.writes (Elt Ideal) arg12.view.junk ((pbAll (F := Ideal) c i arg2 harg2 arg3 harg3 arg4 harg4 arg5 harg5 arg6 harg6 arg7 harg7 arg8 harg8 arg9 harg9 arg10 harg10 arg11 harg11 arg12 harg12 arg13 harg13 arg14 harg14 v10 v95 X_arg5 X_arg8 X_arg9 X_arg10 X_arg11).1 ++ ls4)) (arg13.view.writes (Elt Ideal) arg13.view.junk ((pbAll (F := Ideal) c i arg2 harg2 arg3 harg3 arg4 harg4 arg5 harg5 arg6 harg6 arg7 harg7 arg8 harg8 arg9 harg9 arg10 harg10 arg11 harg11 arg12 harg12 arg13 harg13 arg14 harg14 v10 v95 X_arg5 X_arg8 X_arg9 X_arg10 X_arg11).2.1 ++ ls5))))
      (arg14.view.writes (Elt Ideal) (arg14.view.writes (Elt Ideal) arg14.view.junk ((pbAll (F := Ideal) c i arg2 harg2 arg3 harg3 arg4 harg4 arg5 harg5 arg6 harg6 arg7 harg7 arg8 harg8 arg9 harg9 arg10 harg10 arg11 harg11 arg12 harg12 arg13 harg13 arg14 harg14 v10 v95 X_arg5 X_arg8 X_arg9 X_arg10 X_arg11).2.2 ++ ls6)) (lsA arg12 arg14 (fun h => scAtD arg5 arg8 arg10 arg11 X_arg5 X_arg8 X_arg10 X_arg11 h _ (oKD_inb i h) _ (oCD_inb i h)) (fun h => vAt arg9 X_arg9 _ (oKD_inb i h)) (arg12.view.writes (Elt Ideal) arg12.view.junk ((pbAll (F := Ideal) c i arg2 harg2 arg3 harg3 arg4 harg4 arg5 harg5 arg6 harg6 arg7 harg7 arg8 harg8 arg9 harg9 arg10 harg10 arg11 harg11 arg12 harg12 arg13 harg13 arg14 harg14 v10 v95 X_arg5 X_arg8 X_arg9 X_arg10 X_arg11).1 ++ ls4)) (arg14.view.writes (Elt Ideal) arg14.view.junk ((pbAll (F := Ideal) c i arg2 harg2 arg3 harg3 arg4 harg4 arg5 harg5 arg6 harg6 arg7 harg7 arg8 harg8 arg9 harg9 arg10 harg10 arg11 harg11 arg12 harg12 arg13 harg13 arg14 harg14 v10 v95 X_arg5 X_arg8 X_arg9 X_arg10 X_arg11).2.2 ++ ls6)))) := by
  have hq : (i 1).val < 8 := (i 1).isLt
  have ht : Scf.trips (k0_t1_loop i).lb (k0_t1_loop i).ub (k0_t1_loop i).st = (i 1).val := trips1 i
  have hl := loop_inv (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14)
    X_arg5 X_arg8 X_arg9 X_arg10 X_arg11 c i (BitVec.ofNat 32 (i 1).val) v10 v95 _ _ _ hR h0 _ ht.le
  rw [← View.writes_append, ← View.writes_append, ← View.writes_append, congrArg (256 * ·) ht] at hl
  beta_reduce at hl
  refine inv_step _ _ _ _ _ (256 * (i 1).val) _ _ _ _ _ (fun h r j => xm_ne_top hR _ h r j) (fun h r j => ?_) (fun h l j => ?_) hl
  · rw [scAtD_apply X_arg5 X_arg8 X_arg10 X_arg11 h (256 * (i 1).val) (by omega) _ _ (oKD_eq i h) _ _ (oCD_eq i h)]
    unfold xm
    exact if_congr (by rw [Fin.le_def]; omega) rfl rfl
  · exact vAt_apply X_arg9 h (256 * (i 1).val) (by omega) _ _ (oKD_eq i h) l j

end Scores

end Cert.KernelIdeal.Gen
-- ==== Proof.Attn.RunA.lean ====
module

public import proofs.«01_k».proof.Proof.Attn.Diag
public import proofs.«01_k».proof.Proof.Gen.KernelIdeal.Frame
public import Idealize.ShloMosaic.Lib.Tactic.RunNames

@[expose] public section

set_option maxRecDepth 16384

noncomputable section

namespace Cert.KernelIdeal.Gen

open Idealize.ShloMosaic Idealize.ShloMosaic.TcCoe Idealize.ShloMosaic.Tactic Idealize.SL.Sem

variable {F : FTy → Type} [FloatOps F] [Named F]
variable {c : Dev nD} {i : grid0.Coords} {arg2 : Memref sig .tc .vmem S256x512 .f32} {harg2 : arg2.IsWhole} {arg3 : Memref sig .tc .vmem S1x512x2048 .f32} {harg3 : arg3.IsWhole} {arg4 : Memref sig .tc .vmem S1x512x2048 .f32} {harg4 : arg4.IsWhole} {arg5 : Memref sig .tc .vmem S1x8x2048 .f32} {harg5 : arg5.IsWhole} {arg6 : Memref sig .tc .vmem S256x128 .f32} {harg6 : arg6.IsWhole} {arg7 : Memref sig .tc .vmem S256x512 .f32} {harg7 : arg7.IsWhole} {arg8 : Memref sig .tc .vmem S512x2048 .bf16} {harg8 : arg8.IsWhole} {arg9 : Memref sig .tc .vmem S512x2048 .bf16} {harg9 : arg9.IsWhole} {arg10 : Memref sig .tc .vmem S8x256x128 .bf16} {harg10 : arg10.IsWhole} {arg11 : Memref sig .tc .vmem S8x256x1 .f32} {harg11 : arg11.IsWhole} {arg12 : Memref sig .tc .vmem S8x256x1 .f32} {harg12 : arg12.IsWhole} {arg13 : Memref sig .tc .vmem S8x256x1 .f32} {harg13 : arg13.IsWhole} {arg14 : Memref sig .tc .vmem S8x256x128 .f32} {harg14 : arg14.IsWhole} {x0 : Vec F S256x512 .f32} {x1 : Vec F S1x512x2048 .f32} {x2 : Vec F S1x512x2048 .f32} {x3 : Vec F S1x8x2048 .f32} {x4 : Vec F S256x128 .f32}

/-! ## A head's sums are read as the loop left them -/

theorem runA_at4_0 :
    kernelRun0_A.sl.v254 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg12.view.readAt (Elt F) (r1 0).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) := by
  unfold kernelRun0_A.sl.v254
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (r1 0).toLoadRect) (pb2_any _ _ _ _ _ _ _ _ _ _ _ _ _ _ _ _ _ _ _ _ _ _ _ _ _ _ _ _ _ _ _ _ _ _ _ _ _ _ _ _ _ _ _ (trips2 i))

theorem runA_at4_1 :
    kernelRun0_A.sl.v256 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg12.view.readAt (Elt F) (r1 1).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) := by
  unfold kernelRun0_A.sl.v256
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (r1 1).toLoadRect) (pb2_any _ _ _ _ _ _ _ _ _ _ _ _ _ _ _ _ _ _ _ _ _ _ _ _ _ _ _ _ _ _ _ _ _ _ _ _ _ _ _ _ _ _ _ (trips2 i))

theorem runA_at4_2 :
    kernelRun0_A.sl.v258 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg12.view.readAt (Elt F) (r1 2).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) := by
  unfold kernelRun0_A.sl.v258
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (r1 2).toLoadRect) (pb2_any _ _ _ _ _ _ _ _ _ _ _ _ _ _ _ _ _ _ _ _ _ _ _ _ _ _ _ _ _ _ _ _ _ _ _ _ _ _ _ _ _ _ _ (trips2 i))

theorem runA_at4_3 :
    kernelRun0_A.sl.v260 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg12.view.readAt (Elt F) (r1 3).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) := by
  unfold kernelRun0_A.sl.v260
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (r1 3).toLoadRect) (pb2_any _ _ _ _ _ _ _ _ _ _ _ _ _ _ _ _ _ _ _ _ _ _ _ _ _ _ _ _ _ _ _ _ _ _ _ _ _ _ _ _ _ _ _ (trips2 i))

theorem runA_at4_4 :
    kernelRun0_A.sl.v262 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg12.view.readAt (Elt F) (r1 4).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) := by
  unfold kernelRun0_A.sl.v262
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (r1 4).toLoadRect) (pb2_any _ _ _ _ _ _ _ _ _ _ _ _ _ _ _ _ _ _ _ _ _ _ _ _ _ _ _ _ _ _ _ _ _ _ _ _ _ _ _ _ _ _ _ (trips2 i))

theorem runA_at4_5 :
    kernelRun0_A.sl.v264 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg12.view.readAt (Elt F) (r1 5).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) := by
  unfold kernelRun0_A.sl.v264
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (r1 5).toLoadRect) (pb2_any _ _ _ _ _ _ _ _ _ _ _ _ _ _ _ _ _ _ _ _ _ _ _ _ _ _ _ _ _ _ _ _ _ _ _ _ _ _ _ _ _ _ _ (trips2 i))

theorem runA_at4_6 :
    kernelRun0_A.sl.v266 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg12.view.readAt (Elt F) (r1 6).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) := by
  unfold kernelRun0_A.sl.v266
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (r1 6).toLoadRect) (pb2_any _ _ _ _ _ _ _ _ _ _ _ _ _ _ _ _ _ _ _ _ _ _ _ _ _ _ _ _ _ _ _ _ _ _ _ _ _ _ _ _ _ _ _ (trips2 i))

theorem runA_at4_7 :
    kernelRun0_A.sl.v268 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg12.view.readAt (Elt F) (r1 7).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) := by
  unfold kernelRun0_A.sl.v268
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (r1 7).toLoadRect) (pb2_any _ _ _ _ _ _ _ _ _ _ _ _ _ _ _ _ _ _ _ _ _ _ _ _ _ _ _ _ _ _ _ _ _ _ _ _ _ _ _ _ _ _ _ (trips2 i))

theorem runA_at5_0 :
    kernelRun0_A.sl.v337 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg13.view.readAt (Elt F) (r1 0).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) := by
  unfold kernelRun0_A.sl.v337
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) (r1 0).toLoadRect) (pb2_any _ _ _ _ _ _ _ _ _ _ _ _ _ _ _ _ _ _ _ _ _ _ _ _ _ _ _ _ _ _ _ _ _ _ _ _ _ _ _ _ _ _ _ (trips2 i))

theorem runA_at5_1 :
    kernelRun0_A.sl.v349 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg13.view.readAt (Elt F) (r1 1).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) := by
  unfold kernelRun0_A.sl.v349
  unfold kernelRun0_A.sl.HS5_1_1
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) (r1 1).toLoadRect) (pb2_any _ _ _ _ _ _ _ _ _ _ _ _ _ _ _ _ _ _ _ _ _ _ _ _ _ _ _ _ _ _ _ _ _ _ _ _ _ _ _ _ _ _ _ (trips2 i))

theorem runA_at5_2 :
    kernelRun0_A.sl.v361 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg13.view.readAt (Elt F) (r1 2).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) := by
  unfold kernelRun0_A.sl.v361
  unfold kernelRun0_A.sl.HS5_2 kernelRun0_A.sl.HS5_1_1
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) (r1 2).toLoadRect) (pb2_any _ _ _ _ _ _ _ _ _ _ _ _ _ _ _ _ _ _ _ _ _ _ _ _ _ _ _ _ _ _ _ _ _ _ _ _ _ _ _ _ _ _ _ (trips2 i))

theorem runA_at5_3 :
    kernelRun0_A.sl.v373 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg13.view.readAt (Elt F) (r1 3).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) := by
  unfold kernelRun0_A.sl.v373
  unfold kernelRun0_A.sl.HS5_3 kernelRun0_A.sl.HS5_2 kernelRun0_A.sl.HS5_1_1
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) (r1 3).toLoadRect) (pb2_any _ _ _ _ _ _ _ _ _ _ _ _ _ _ _ _ _ _ _ _ _ _ _ _ _ _ _ _ _ _ _ _ _ _ _ _ _ _ _ _ _ _ _ (trips2 i))

theorem runA_at5_4 :
    kernelRun0_A.sl.v385 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg13.view.readAt (Elt F) (r1 4).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) := by
  unfold kernelRun0_A.sl.v385
  unfold kernelRun0_A.sl.HS5_4 kernelRun0_A.sl.HS5_3 kernelRun0_A.sl.HS5_2 kernelRun0_A.sl.HS5_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) (r1 4).toLoadRect) (pb2_any _ _ _ _ _ _ _ _ _ _ _ _ _ _ _ _ _ _ _ _ _ _ _ _ _ _ _ _ _ _ _ _ _ _ _ _ _ _ _ _ _ _ _ (trips2 i))

theorem runA_at5_5 :
    kernelRun0_A.sl.v397 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg13.view.readAt (Elt F) (r1 5).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) := by
  unfold kernelRun0_A.sl.v397
  unfold kernelRun0_A.sl.HS5_5 kernelRun0_A.sl.HS5_4 kernelRun0_A.sl.HS5_3 kernelRun0_A.sl.HS5_2 kernelRun0_A.sl.HS5_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) (r1 5).toLoadRect) (pb2_any _ _ _ _ _ _ _ _ _ _ _ _ _ _ _ _ _ _ _ _ _ _ _ _ _ _ _ _ _ _ _ _ _ _ _ _ _ _ _ _ _ _ _ (trips2 i))

theorem runA_at5_6 :
    kernelRun0_A.sl.v409 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg13.view.readAt (Elt F) (r1 6).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) := by
  unfold kernelRun0_A.sl.v409
  unfold kernelRun0_A.sl.HS5_6 kernelRun0_A.sl.HS5_5 kernelRun0_A.sl.HS5_4 kernelRun0_A.sl.HS5_3 kernelRun0_A.sl.HS5_2 kernelRun0_A.sl.HS5_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) (r1 6).toLoadRect) (pb2_any _ _ _ _ _ _ _ _ _ _ _ _ _ _ _ _ _ _ _ _ _ _ _ _ _ _ _ _ _ _ _ _ _ _ _ _ _ _ _ _ _ _ _ (trips2 i))

theorem runA_at5_7 :
    kernelRun0_A.sl.v421 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg13.view.readAt (Elt F) (r1 7).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) := by
  unfold kernelRun0_A.sl.v421
  unfold kernelRun0_A.sl.HS5_7 kernelRun0_A.sl.HS5_6 kernelRun0_A.sl.HS5_5 kernelRun0_A.sl.HS5_4 kernelRun0_A.sl.HS5_3 kernelRun0_A.sl.HS5_2 kernelRun0_A.sl.HS5_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) (r1 7).toLoadRect) (pb2_any _ _ _ _ _ _ _ _ _ _ _ _ _ _ _ _ _ _ _ _ _ _ _ _ _ _ _ _ _ _ _ _ _ _ _ _ _ _ _ _ _ _ _ (trips2 i))

theorem runA_at6_0 :
    kernelRun0_A.sl.v430 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg14.view.readAt (Elt F) (rA 0).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) := by
  unfold kernelRun0_A.sl.v430
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) (rA 0).toLoadRect) (pb2_any _ _ _ _ _ _ _ _ _ _ _ _ _ _ _ _ _ _ _ _ _ _ _ _ _ _ _ _ _ _ _ _ _ _ _ _ _ _ _ _ _ _ _ (trips2 i))

theorem runA_at6_1 :
    kernelRun0_A.sl.v442 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg14.view.readAt (Elt F) (rA 1).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) := by
  unfold kernelRun0_A.sl.v442
  unfold kernelRun0_A.sl.HS6_1_1
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) (rA 1).toLoadRect) (pb2_any _ _ _ _ _ _ _ _ _ _ _ _ _ _ _ _ _ _ _ _ _ _ _ _ _ _ _ _ _ _ _ _ _ _ _ _ _ _ _ _ _ _ _ (trips2 i))

theorem runA_at6_2 :
    kernelRun0_A.sl.v454 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg14.view.readAt (Elt F) (rA 2).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) := by
  unfold kernelRun0_A.sl.v454
  unfold kernelRun0_A.sl.HS6_2 kernelRun0_A.sl.HS6_1_1
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) (rA 2).toLoadRect) (pb2_any _ _ _ _ _ _ _ _ _ _ _ _ _ _ _ _ _ _ _ _ _ _ _ _ _ _ _ _ _ _ _ _ _ _ _ _ _ _ _ _ _ _ _ (trips2 i))

theorem runA_at6_3 :
    kernelRun0_A.sl.v466 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg14.view.readAt (Elt F) (rA 3).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) := by
  unfold kernelRun0_A.sl.v466
  unfold kernelRun0_A.sl.HS6_3 kernelRun0_A.sl.HS6_2 kernelRun0_A.sl.HS6_1_1
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) (rA 3).toLoadRect) (pb2_any _ _ _ _ _ _ _ _ _ _ _ _ _ _ _ _ _ _ _ _ _ _ _ _ _ _ _ _ _ _ _ _ _ _ _ _ _ _ _ _ _ _ _ (trips2 i))

theorem runA_at6_4 :
    kernelRun0_A.sl.v478 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg14.view.readAt (Elt F) (rA 4).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) := by
  unfold kernelRun0_A.sl.v478
  unfold kernelRun0_A.sl.HS6_4 kernelRun0_A.sl.HS6_3 kernelRun0_A.sl.HS6_2 kernelRun0_A.sl.HS6_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) (rA 4).toLoadRect) (pb2_any _ _ _ _ _ _ _ _ _ _ _ _ _ _ _ _ _ _ _ _ _ _ _ _ _ _ _ _ _ _ _ _ _ _ _ _ _ _ _ _ _ _ _ (trips2 i))

theorem runA_at6_5 :
    kernelRun0_A.sl.v490 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg14.view.readAt (Elt F) (rA 5).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) := by
  unfold kernelRun0_A.sl.v490
  unfold kernelRun0_A.sl.HS6_5 kernelRun0_A.sl.HS6_4 kernelRun0_A.sl.HS6_3 kernelRun0_A.sl.HS6_2 kernelRun0_A.sl.HS6_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) (rA 5).toLoadRect) (pb2_any _ _ _ _ _ _ _ _ _ _ _ _ _ _ _ _ _ _ _ _ _ _ _ _ _ _ _ _ _ _ _ _ _ _ _ _ _ _ _ _ _ _ _ (trips2 i))

theorem runA_at6_6 :
    kernelRun0_A.sl.v502 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg14.view.readAt (Elt F) (rA 6).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) := by
  unfold kernelRun0_A.sl.v502
  unfold kernelRun0_A.sl.HS6_6 kernelRun0_A.sl.HS6_5 kernelRun0_A.sl.HS6_4 kernelRun0_A.sl.HS6_3 kernelRun0_A.sl.HS6_2 kernelRun0_A.sl.HS6_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) (rA 6).toLoadRect) (pb2_any _ _ _ _ _ _ _ _ _ _ _ _ _ _ _ _ _ _ _ _ _ _ _ _ _ _ _ _ _ _ _ _ _ _ _ _ _ _ _ _ _ _ _ (trips2 i))

theorem runA_at6_7 :
    kernelRun0_A.sl.v514 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4 = arg14.view.readAt (Elt F) (rA 7).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) := by
  unfold kernelRun0_A.sl.v514
  unfold kernelRun0_A.sl.HS6_7 kernelRun0_A.sl.HS6_6 kernelRun0_A.sl.HS6_5 kernelRun0_A.sl.HS6_4 kernelRun0_A.sl.HS6_3 kernelRun0_A.sl.HS6_2 kernelRun0_A.sl.HS6_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) (rA 7).toLoadRect) (pb2_any _ _ _ _ _ _ _ _ _ _ _ _ _ _ _ _ _ _ _ _ _ _ _ _ _ _ _ _ _ _ _ _ _ _ _ _ _ _ _ _ _ _ _ (trips2 i))

theorem runA_score0 :
    kernelRun0_A.sl.r_6 (F := F) c i arg2 harg2 arg3 harg3 arg5 harg5 arg6 harg6 arg8 arg10 arg11 x0 x1 x3 x4 = scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) 0 _ (oKD_inb i 0) _ (oCD_inb i 0) := by
  sl_unfold_run_values
  rfl

theorem runA_score1 :
    kernelRun0_A.sl.r_7 (F := F) c i arg2 harg2 arg3 harg3 arg5 harg5 arg6 harg6 arg8 arg10 arg11 x0 x1 x3 x4 = scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) 1 _ (oKD_inb i 1) _ (oCD_inb i 1) := by
  sl_unfold_run_values
  rfl

theorem runA_score2 :
    kernelRun0_A.sl.r_9 (F := F) c i arg2 harg2 arg3 harg3 arg5 harg5 arg6 harg6 arg8 arg10 arg11 x0 x1 x3 x4 = scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) 2 _ (oKD_inb i 2) _ (oCD_inb i 2) := by
  sl_unfold_run_values
  rfl

theorem runA_score3 :
    kernelRun0_A.sl.r_10 (F := F) c i arg2 harg2 arg3 harg3 arg5 harg5 arg6 harg6 arg8 arg10 arg11 x0 x1 x3 x4 = scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) 3 _ (oKD_inb i 3) _ (oCD_inb i 3) := by
  sl_unfold_run_values
  rfl

theorem runA_score4 :
    kernelRun0_A.sl.r_12 (F := F) c i arg2 harg2 arg3 harg3 arg5 harg5 arg6 harg6 arg8 arg10 arg11 x0 x1 x3 x4 = scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) 4 _ (oKD_inb i 4) _ (oCD_inb i 4) := by
  sl_unfold_run_values
  rfl

theorem runA_score5 :
    kernelRun0_A.sl.r_13 (F := F) c i arg2 harg2 arg3 harg3 arg5 harg5 arg6 harg6 arg8 arg10 arg11 x0 x1 x3 x4 = scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) 5 _ (oKD_inb i 5) _ (oCD_inb i 5) := by
  sl_unfold_run_values
  rfl

theorem runA_score6 :
    kernelRun0_A.sl.r_15 (F := F) c i arg2 harg2 arg3 harg3 arg5 harg5 arg6 harg6 arg8 arg10 arg11 x0 x1 x3 x4 = scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) 6 _ (oKD_inb i 6) _ (oCD_inb i 6) := by
  sl_unfold_run_values
  rfl

theorem runA_score7 :
    kernelRun0_A.sl.r_16 (F := F) c i arg2 harg2 arg3 harg3 arg5 harg5 arg6 harg6 arg8 arg10 arg11 x0 x1 x3 x4 = scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) 7 _ (oKD_inb i 7) _ (oCD_inb i 7) := by
  sl_unfold_run_values
  rfl

set_option maxHeartbeats 8000000 in
/-- The stores of the diagonal block, over the loop's. -/
theorem runA_sums :
    kernelRun0_A.sl.HS5_8 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4
      = lsL arg12 arg13 (fun h => scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) h _ (oKD_inb i h) _ (oCD_inb i h)) (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5) := by
  unfold kernelRun0_A.sl.HS5_8 kernelRun0_A.sl.HS5_7 kernelRun0_A.sl.HS5_6 kernelRun0_A.sl.HS5_5 kernelRun0_A.sl.HS5_4 kernelRun0_A.sl.HS5_3 kernelRun0_A.sl.HS5_2 kernelRun0_A.sl.HS5_1_1
  refine congrArg₂ List.cons (congrArg (fun w => (⟨r1 7, w⟩ : View.Piece (Elt F) S8x256x1 .f32)) ?_) ?_
  · unfold kernelRun0_A.sl.r_39 kernelRun0_A.sl.r_47 kernelRun0_A.sl.r_30 kernelRun0_A.sl.r_22
    rw [runA_score7, runA_at4_7, runA_at5_7]
    rfl
  refine congrArg₂ List.cons (congrArg (fun w => (⟨r1 6, w⟩ : View.Piece (Elt F) S8x256x1 .f32)) ?_) ?_
  · unfold kernelRun0_A.sl.r_38 kernelRun0_A.sl.r_46 kernelRun0_A.sl.r_29 kernelRun0_A.sl.r_21
    rw [runA_score6, runA_at4_6, runA_at5_6]
    rfl
  refine congrArg₂ List.cons (congrArg (fun w => (⟨r1 5, w⟩ : View.Piece (Elt F) S8x256x1 .f32)) ?_) ?_
  · unfold kernelRun0_A.sl.r_37 kernelRun0_A.sl.r_36 kernelRun0_A.sl.r_45 kernelRun0_A.sl.r_28
    rw [runA_score5, runA_at4_5, runA_at5_5]
    rfl
  refine congrArg₂ List.cons (congrArg (fun w => (⟨r1 4, w⟩ : View.Piece (Elt F) S8x256x1 .f32)) ?_) ?_
  · unfold kernelRun0_A.sl.r_35 kernelRun0_A.sl.r_44 kernelRun0_A.sl.r_27
    rw [runA_score4, runA_at4_4, runA_at5_4]
    rfl
  refine congrArg₂ List.cons (congrArg (fun w => (⟨r1 3, w⟩ : View.Piece (Elt F) S8x256x1 .f32)) ?_) ?_
  · unfold kernelRun0_A.sl.r_48 kernelRun0_A.sl.r_34 kernelRun0_A.sl.r_43 kernelRun0_A.sl.r_26 kernelRun0_A.sl.r_20
    rw [runA_score3, runA_at4_3, runA_at5_3]
    rfl
  refine congrArg₂ List.cons (congrArg (fun w => (⟨r1 2, w⟩ : View.Piece (Elt F) S8x256x1 .f32)) ?_) ?_
  · unfold kernelRun0_A.sl.r_33 kernelRun0_A.sl.r_42 kernelRun0_A.sl.r_25 kernelRun0_A.sl.r_19
    rw [runA_score2, runA_at4_2, runA_at5_2]
    rfl
  refine congrArg₂ List.cons (congrArg (fun w => (⟨r1 1, w⟩ : View.Piece (Elt F) S8x256x1 .f32)) ?_) ?_
  · unfold kernelRun0_A.sl.r_32 kernelRun0_A.sl.r_41 kernelRun0_A.sl.r_24 kernelRun0_A.sl.r_18
    rw [runA_score1, runA_at4_1, runA_at5_1]
    rfl
  refine congrArg₂ List.cons (congrArg (fun w => (⟨r1 0, w⟩ : View.Piece (Elt F) S8x256x1 .f32)) ?_) ?_
  · unfold kernelRun0_A.sl.r_31 kernelRun0_A.sl.r_23 kernelRun0_A.sl.r_17
    rw [runA_score0, runA_at4_0, runA_at5_0]
    rfl
  exact congrArg (fun p => p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.1 ++ ls5)) (pb2_any _ _ _ _ _ _ _ _ _ _ _ _ _ _ _ _ _ _ _ _ _ _ _ _ _ _ _ _ _ _ _ _ _ _ _ _ _ _ _ _ _ _ _ (trips2 i))

set_option maxHeartbeats 8000000 in
/-- The stores of the diagonal block, over the loop's. -/
theorem runA_wsums :
    kernelRun0_A.sl.HS6_8 (F := F) c i arg2 harg2 arg3 harg3 arg4 harg4 arg5 harg5 arg6 harg6 arg7 harg7 arg8 harg8 arg9 harg9 arg10 harg10 arg11 harg11 arg12 harg12 arg13 harg13 arg14 harg14 x0 x1 x2 x3 x4
      = lsA arg12 arg14 (fun h => scAtD arg5 arg8 arg10 arg11 (harg5.unread x3) (arg8.view.writes (Elt F) arg8.view.junk (kernelRun0_A.sl.HS0_1 c arg3 harg3 x1)) (arg10.view.writes (Elt F) arg10.view.junk (kernelRun0_A.sl.HS2_8 c arg2 harg2 x0)) (arg11.view.writes (Elt F) arg11.view.junk (kernelRun0_A.sl.HS3_8 c arg6 harg6 x4)) h _ (oKD_inb i h) _ (oCD_inb i h)) (fun h => vAt arg9 (arg9.view.writes (Elt F) arg9.view.junk (kernelRun0_A.sl.HS1_1 c arg4 harg4 x2)) _ (oKD_inb i h)) (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).1 ++ ls4)) (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6) := by
  unfold kernelRun0_A.sl.HS6_8 kernelRun0_A.sl.HS6_7 kernelRun0_A.sl.HS6_6 kernelRun0_A.sl.HS6_5 kernelRun0_A.sl.HS6_4 kernelRun0_A.sl.HS6_3 kernelRun0_A.sl.HS6_2 kernelRun0_A.sl.HS6_1_1
  refine congrArg₂ List.cons (congrArg (fun w => (⟨rA 7, w⟩ : View.Piece (Elt F) S8x256x128 .f32)) ?_) ?_
  · unfold kernelRun0_A.sl.r_39 kernelRun0_A.sl.r_47 kernelRun0_A.sl.r_30 kernelRun0_A.sl.r_22
    rw [runA_score7, runA_at4_7, runA_at6_7]
    rfl
  refine congrArg₂ List.cons (congrArg (fun w => (⟨rA 6, w⟩ : View.Piece (Elt F) S8x256x128 .f32)) ?_) ?_
  · unfold kernelRun0_A.sl.r_51 kernelRun0_A.sl.r_52 kernelRun0_A.sl.r_38 kernelRun0_A.sl.r_46 kernelRun0_A.sl.r_29 kernelRun0_A.sl.r_21
    rw [runA_score6, runA_at4_6, runA_at6_6]
    rfl
  refine congrArg₂ List.cons (congrArg (fun w => (⟨rA 5, w⟩ : View.Piece (Elt F) S8x256x128 .f32)) ?_) ?_
  · unfold kernelRun0_A.sl.r_37 kernelRun0_A.sl.r_36 kernelRun0_A.sl.r_45 kernelRun0_A.sl.r_28
    rw [runA_score5, runA_at4_5, runA_at6_5]
    rfl
  refine congrArg₂ List.cons (congrArg (fun w => (⟨rA 4, w⟩ : View.Piece (Elt F) S8x256x128 .f32)) ?_) ?_
  · unfold kernelRun0_A.sl.r_35 kernelRun0_A.sl.r_44 kernelRun0_A.sl.r_27
    rw [runA_score4, runA_at4_4, runA_at6_4]
    rfl
  refine congrArg₂ List.cons (congrArg (fun w => (⟨rA 3, w⟩ : View.Piece (Elt F) S8x256x128 .f32)) ?_) ?_
  · unfold kernelRun0_A.sl.r_50 kernelRun0_A.sl.r_34 kernelRun0_A.sl.r_43 kernelRun0_A.sl.r_26 kernelRun0_A.sl.r_20
    rw [runA_score3, runA_at4_3, runA_at6_3]
    rfl
  refine congrArg₂ List.cons (congrArg (fun w => (⟨rA 2, w⟩ : View.Piece (Elt F) S8x256x128 .f32)) ?_) ?_
  · unfold kernelRun0_A.sl.r_33 kernelRun0_A.sl.r_42 kernelRun0_A.sl.r_25 kernelRun0_A.sl.r_19
    rw [runA_score2, runA_at4_2, runA_at6_2]
    rfl
  refine congrArg₂ List.cons (congrArg (fun w => (⟨rA 1, w⟩ : View.Piece (Elt F) S8x256x128 .f32)) ?_) ?_
  · unfold kernelRun0_A.sl.r_32 kernelRun0_A.sl.r_41 kernelRun0_A.sl.r_24 kernelRun0_A.sl.r_18
    rw [runA_score1, runA_at4_1, runA_at6_1]
    rfl
  refine congrArg₂ List.cons (congrArg (fun w => (⟨rA 0, w⟩ : View.Piece (Elt F) S8x256x128 .f32)) ?_) ?_
  · unfold kernelRun0_A.sl.r_49 kernelRun0_A.sl.r_31 kernelRun0_A.sl.r_40 kernelRun0_A.sl.r_23 kernelRun0_A.sl.r_17
    rw [runA_score0, runA_at4_0, runA_at6_0]
    rfl
  exact congrArg (fun p => p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_A.sl.r c arg6 harg6 x4) (kernelRun0_A.sl.r_5 c arg6 harg6 x4) (harg5.unread x3) (arg8.view.writes (Elt F) arg8.view.junk (kernelRun0_A.sl.HS0_1 c arg3 harg3 x1)) (arg9.view.writes (Elt F) arg9.view.junk (kernelRun0_A.sl.HS1_1 c arg4 harg4 x2)) (arg10.view.writes (Elt F) arg10.view.junk (kernelRun0_A.sl.HS2_8 c arg2 harg2 x0)) (arg11.view.writes (Elt F) arg11.view.junk (kernelRun0_A.sl.HS3_8 c arg6 harg6 x4))).2.2 ++ ls6)) (pb2_any _ _ _ _ _ _ _ _ _ _ _ _ _ _ _ _ _ _ _ _ _ _ _ _ _ _ _ _ _ _ _ _ _ _ _ _ _ _ _ _ _ _ _ (trips2 i))

end Cert.KernelIdeal.Gen
-- ==== Proof.Attn.RunB.lean ====
module

public import proofs.«01_k».proof.Proof.Attn.Diag
public import proofs.«01_k».proof.Proof.Gen.KernelIdeal.Frame
public import Idealize.ShloMosaic.Lib.Tactic.RunNames

@[expose] public section

set_option maxRecDepth 16384

noncomputable section

namespace Cert.KernelIdeal.Gen

open Idealize.ShloMosaic Idealize.ShloMosaic.TcCoe Idealize.ShloMosaic.Tactic Idealize.SL.Sem

variable {F : FTy → Type} [FloatOps F] [Named F]
variable {c : Dev nD} {i : grid0.Coords} {arg2 : Memref sig .tc .vmem S256x512 .f32} {harg2 : arg2.IsWhole} {arg3 : Memref sig .tc .vmem S1x512x2048 .f32} {harg3 : arg3.IsWhole} {arg4 : Memref sig .tc .vmem S1x512x2048 .f32} {harg4 : arg4.IsWhole} {arg5 : Memref sig .tc .vmem S1x8x2048 .f32} {harg5 : arg5.IsWhole} {arg6 : Memref sig .tc .vmem S256x128 .f32} {harg6 : arg6.IsWhole} {arg7 : Memref sig .tc .vmem S256x512 .f32} {harg7 : arg7.IsWhole} {arg8 : Memref sig .tc .vmem S512x2048 .bf16} {harg8 : arg8.IsWhole} {arg9 : Memref sig .tc .vmem S512x2048 .bf16} {harg9 : arg9.IsWhole} {arg10 : Memref sig .tc .vmem S8x256x128 .bf16} {harg10 : arg10.IsWhole} {arg11 : Memref sig .tc .vmem S8x256x1 .f32} {harg11 : arg11.IsWhole} {arg12 : Memref sig .tc .vmem S8x256x1 .f32} {harg12 : arg12.IsWhole} {arg13 : Memref sig .tc .vmem S8x256x1 .f32} {harg13 : arg13.IsWhole} {arg14 : Memref sig .tc .vmem S8x256x128 .f32} {harg14 : arg14.IsWhole} {x0 : Vec F S256x512 .f32} {x1 : Vec F S1x512x2048 .f32} {x2 : Vec F S1x512x2048 .f32} {x3 : Vec F S1x8x2048 .f32} {x4 : Vec F S256x128 .f32} {xs0 : Vec F S512x2048 .bf16} {xs1 : Vec F S512x2048 .bf16}

/-! ## A head's sums are read as the loop left them -/

theorem runB_at4_0 :
    kernelRun0_B.sl.v254 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg12.view.readAt (Elt F) (r1 0).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) := by
  unfold kernelRun0_B.sl.v254
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (r1 0).toLoadRect) (pb2_any _ _ _ _ _ _ _ _ _ _ _ _ _ _ _ _ _ _ _ _ _ _ _ _ _ _ _ _ _ _ _ _ _ _ _ _ _ _ _ _ _ _ _ (trips2 i))

theorem runB_at4_1 :
    kernelRun0_B.sl.v256 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg12.view.readAt (Elt F) (r1 1).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) := by
  unfold kernelRun0_B.sl.v256
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (r1 1).toLoadRect) (pb2_any _ _ _ _ _ _ _ _ _ _ _ _ _ _ _ _ _ _ _ _ _ _ _ _ _ _ _ _ _ _ _ _ _ _ _ _ _ _ _ _ _ _ _ (trips2 i))

theorem runB_at4_2 :
    kernelRun0_B.sl.v258 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg12.view.readAt (Elt F) (r1 2).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) := by
  unfold kernelRun0_B.sl.v258
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (r1 2).toLoadRect) (pb2_any _ _ _ _ _ _ _ _ _ _ _ _ _ _ _ _ _ _ _ _ _ _ _ _ _ _ _ _ _ _ _ _ _ _ _ _ _ _ _ _ _ _ _ (trips2 i))

theorem runB_at4_3 :
    kernelRun0_B.sl.v260 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg12.view.readAt (Elt F) (r1 3).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) := by
  unfold kernelRun0_B.sl.v260
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (r1 3).toLoadRect) (pb2_any _ _ _ _ _ _ _ _ _ _ _ _ _ _ _ _ _ _ _ _ _ _ _ _ _ _ _ _ _ _ _ _ _ _ _ _ _ _ _ _ _ _ _ (trips2 i))

theorem runB_at4_4 :
    kernelRun0_B.sl.v262 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg12.view.readAt (Elt F) (r1 4).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) := by
  unfold kernelRun0_B.sl.v262
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (r1 4).toLoadRect) (pb2_any _ _ _ _ _ _ _ _ _ _ _ _ _ _ _ _ _ _ _ _ _ _ _ _ _ _ _ _ _ _ _ _ _ _ _ _ _ _ _ _ _ _ _ (trips2 i))

theorem runB_at4_5 :
    kernelRun0_B.sl.v264 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg12.view.readAt (Elt F) (r1 5).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) := by
  unfold kernelRun0_B.sl.v264
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (r1 5).toLoadRect) (pb2_any _ _ _ _ _ _ _ _ _ _ _ _ _ _ _ _ _ _ _ _ _ _ _ _ _ _ _ _ _ _ _ _ _ _ _ _ _ _ _ _ _ _ _ (trips2 i))

theorem runB_at4_6 :
    kernelRun0_B.sl.v266 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg12.view.readAt (Elt F) (r1 6).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) := by
  unfold kernelRun0_B.sl.v266
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (r1 6).toLoadRect) (pb2_any _ _ _ _ _ _ _ _ _ _ _ _ _ _ _ _ _ _ _ _ _ _ _ _ _ _ _ _ _ _ _ _ _ _ _ _ _ _ _ _ _ _ _ (trips2 i))

theorem runB_at4_7 :
    kernelRun0_B.sl.v268 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg12.view.readAt (Elt F) (r1 7).toLoadRect (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) := by
  unfold kernelRun0_B.sl.v268
  exact congrArg (fun p => arg12.view.readCov (p.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (r1 7).toLoadRect) (pb2_any _ _ _ _ _ _ _ _ _ _ _ _ _ _ _ _ _ _ _ _ _ _ _ _ _ _ _ _ _ _ _ _ _ _ _ _ _ _ _ _ _ _ _ (trips2 i))

theorem runB_at5_0 :
    kernelRun0_B.sl.v337 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg13.view.readAt (Elt F) (r1 0).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) := by
  unfold kernelRun0_B.sl.v337
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) (r1 0).toLoadRect) (pb2_any _ _ _ _ _ _ _ _ _ _ _ _ _ _ _ _ _ _ _ _ _ _ _ _ _ _ _ _ _ _ _ _ _ _ _ _ _ _ _ _ _ _ _ (trips2 i))

theorem runB_at5_1 :
    kernelRun0_B.sl.v349 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg13.view.readAt (Elt F) (r1 1).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) := by
  unfold kernelRun0_B.sl.v349
  unfold kernelRun0_B.sl.HS5_1_1
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) (r1 1).toLoadRect) (pb2_any _ _ _ _ _ _ _ _ _ _ _ _ _ _ _ _ _ _ _ _ _ _ _ _ _ _ _ _ _ _ _ _ _ _ _ _ _ _ _ _ _ _ _ (trips2 i))

theorem runB_at5_2 :
    kernelRun0_B.sl.v361 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg13.view.readAt (Elt F) (r1 2).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) := by
  unfold kernelRun0_B.sl.v361
  unfold kernelRun0_B.sl.HS5_2 kernelRun0_B.sl.HS5_1_1
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) (r1 2).toLoadRect) (pb2_any _ _ _ _ _ _ _ _ _ _ _ _ _ _ _ _ _ _ _ _ _ _ _ _ _ _ _ _ _ _ _ _ _ _ _ _ _ _ _ _ _ _ _ (trips2 i))

theorem runB_at5_3 :
    kernelRun0_B.sl.v373 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg13.view.readAt (Elt F) (r1 3).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) := by
  unfold kernelRun0_B.sl.v373
  unfold kernelRun0_B.sl.HS5_3 kernelRun0_B.sl.HS5_2 kernelRun0_B.sl.HS5_1_1
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) (r1 3).toLoadRect) (pb2_any _ _ _ _ _ _ _ _ _ _ _ _ _ _ _ _ _ _ _ _ _ _ _ _ _ _ _ _ _ _ _ _ _ _ _ _ _ _ _ _ _ _ _ (trips2 i))

theorem runB_at5_4 :
    kernelRun0_B.sl.v385 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg13.view.readAt (Elt F) (r1 4).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) := by
  unfold kernelRun0_B.sl.v385
  unfold kernelRun0_B.sl.HS5_4 kernelRun0_B.sl.HS5_3 kernelRun0_B.sl.HS5_2 kernelRun0_B.sl.HS5_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) (r1 4).toLoadRect) (pb2_any _ _ _ _ _ _ _ _ _ _ _ _ _ _ _ _ _ _ _ _ _ _ _ _ _ _ _ _ _ _ _ _ _ _ _ _ _ _ _ _ _ _ _ (trips2 i))

theorem runB_at5_5 :
    kernelRun0_B.sl.v397 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg13.view.readAt (Elt F) (r1 5).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) := by
  unfold kernelRun0_B.sl.v397
  unfold kernelRun0_B.sl.HS5_5 kernelRun0_B.sl.HS5_4 kernelRun0_B.sl.HS5_3 kernelRun0_B.sl.HS5_2 kernelRun0_B.sl.HS5_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) (r1 5).toLoadRect) (pb2_any _ _ _ _ _ _ _ _ _ _ _ _ _ _ _ _ _ _ _ _ _ _ _ _ _ _ _ _ _ _ _ _ _ _ _ _ _ _ _ _ _ _ _ (trips2 i))

theorem runB_at5_6 :
    kernelRun0_B.sl.v409 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg13.view.readAt (Elt F) (r1 6).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) := by
  unfold kernelRun0_B.sl.v409
  unfold kernelRun0_B.sl.HS5_6 kernelRun0_B.sl.HS5_5 kernelRun0_B.sl.HS5_4 kernelRun0_B.sl.HS5_3 kernelRun0_B.sl.HS5_2 kernelRun0_B.sl.HS5_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) (r1 6).toLoadRect) (pb2_any _ _ _ _ _ _ _ _ _ _ _ _ _ _ _ _ _ _ _ _ _ _ _ _ _ _ _ _ _ _ _ _ _ _ _ _ _ _ _ _ _ _ _ (trips2 i))

theorem runB_at5_7 :
    kernelRun0_B.sl.v421 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg13.view.readAt (Elt F) (r1 7).toLoadRect (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) := by
  unfold kernelRun0_B.sl.v421
  unfold kernelRun0_B.sl.HS5_7 kernelRun0_B.sl.HS5_6 kernelRun0_B.sl.HS5_5 kernelRun0_B.sl.HS5_4 kernelRun0_B.sl.HS5_3 kernelRun0_B.sl.HS5_2 kernelRun0_B.sl.HS5_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg13.view.readCov (p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) (r1 7).toLoadRect) (pb2_any _ _ _ _ _ _ _ _ _ _ _ _ _ _ _ _ _ _ _ _ _ _ _ _ _ _ _ _ _ _ _ _ _ _ _ _ _ _ _ _ _ _ _ (trips2 i))

theorem runB_at6_0 :
    kernelRun0_B.sl.v430 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg14.view.readAt (Elt F) (rA 0).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) := by
  unfold kernelRun0_B.sl.v430
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) (rA 0).toLoadRect) (pb2_any _ _ _ _ _ _ _ _ _ _ _ _ _ _ _ _ _ _ _ _ _ _ _ _ _ _ _ _ _ _ _ _ _ _ _ _ _ _ _ _ _ _ _ (trips2 i))

theorem runB_at6_1 :
    kernelRun0_B.sl.v442 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg14.view.readAt (Elt F) (rA 1).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) := by
  unfold kernelRun0_B.sl.v442
  unfold kernelRun0_B.sl.HS6_1_1
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) (rA 1).toLoadRect) (pb2_any _ _ _ _ _ _ _ _ _ _ _ _ _ _ _ _ _ _ _ _ _ _ _ _ _ _ _ _ _ _ _ _ _ _ _ _ _ _ _ _ _ _ _ (trips2 i))

theorem runB_at6_2 :
    kernelRun0_B.sl.v454 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg14.view.readAt (Elt F) (rA 2).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) := by
  unfold kernelRun0_B.sl.v454
  unfold kernelRun0_B.sl.HS6_2 kernelRun0_B.sl.HS6_1_1
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) (rA 2).toLoadRect) (pb2_any _ _ _ _ _ _ _ _ _ _ _ _ _ _ _ _ _ _ _ _ _ _ _ _ _ _ _ _ _ _ _ _ _ _ _ _ _ _ _ _ _ _ _ (trips2 i))

theorem runB_at6_3 :
    kernelRun0_B.sl.v466 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg14.view.readAt (Elt F) (rA 3).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) := by
  unfold kernelRun0_B.sl.v466
  unfold kernelRun0_B.sl.HS6_3 kernelRun0_B.sl.HS6_2 kernelRun0_B.sl.HS6_1_1
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) (rA 3).toLoadRect) (pb2_any _ _ _ _ _ _ _ _ _ _ _ _ _ _ _ _ _ _ _ _ _ _ _ _ _ _ _ _ _ _ _ _ _ _ _ _ _ _ _ _ _ _ _ (trips2 i))

theorem runB_at6_4 :
    kernelRun0_B.sl.v478 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg14.view.readAt (Elt F) (rA 4).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) := by
  unfold kernelRun0_B.sl.v478
  unfold kernelRun0_B.sl.HS6_4 kernelRun0_B.sl.HS6_3 kernelRun0_B.sl.HS6_2 kernelRun0_B.sl.HS6_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) (rA 4).toLoadRect) (pb2_any _ _ _ _ _ _ _ _ _ _ _ _ _ _ _ _ _ _ _ _ _ _ _ _ _ _ _ _ _ _ _ _ _ _ _ _ _ _ _ _ _ _ _ (trips2 i))

theorem runB_at6_5 :
    kernelRun0_B.sl.v490 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg14.view.readAt (Elt F) (rA 5).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) := by
  unfold kernelRun0_B.sl.v490
  unfold kernelRun0_B.sl.HS6_5 kernelRun0_B.sl.HS6_4 kernelRun0_B.sl.HS6_3 kernelRun0_B.sl.HS6_2 kernelRun0_B.sl.HS6_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) (rA 5).toLoadRect) (pb2_any _ _ _ _ _ _ _ _ _ _ _ _ _ _ _ _ _ _ _ _ _ _ _ _ _ _ _ _ _ _ _ _ _ _ _ _ _ _ _ _ _ _ _ (trips2 i))

theorem runB_at6_6 :
    kernelRun0_B.sl.v502 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg14.view.readAt (Elt F) (rA 6).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) := by
  unfold kernelRun0_B.sl.v502
  unfold kernelRun0_B.sl.HS6_6 kernelRun0_B.sl.HS6_5 kernelRun0_B.sl.HS6_4 kernelRun0_B.sl.HS6_3 kernelRun0_B.sl.HS6_2 kernelRun0_B.sl.HS6_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) (rA 6).toLoadRect) (pb2_any _ _ _ _ _ _ _ _ _ _ _ _ _ _ _ _ _ _ _ _ _ _ _ _ _ _ _ _ _ _ _ _ _ _ _ _ _ _ _ _ _ _ _ (trips2 i))

theorem runB_at6_7 :
    kernelRun0_B.sl.v514 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1 = arg14.view.readAt (Elt F) (rA 7).toLoadRect (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) := by
  unfold kernelRun0_B.sl.v514
  unfold kernelRun0_B.sl.HS6_7 kernelRun0_B.sl.HS6_6 kernelRun0_B.sl.HS6_5 kernelRun0_B.sl.HS6_4 kernelRun0_B.sl.HS6_3 kernelRun0_B.sl.HS6_2 kernelRun0_B.sl.HS6_1_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact congrArg (fun p => arg14.view.readCov (p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) (rA 7).toLoadRect) (pb2_any _ _ _ _ _ _ _ _ _ _ _ _ _ _ _ _ _ _ _ _ _ _ _ _ _ _ _ _ _ _ _ _ _ _ _ _ _ _ _ _ _ _ _ (trips2 i))

theorem runB_score0 :
    kernelRun0_B.sl.r_6 (F := F) c i arg2 harg2 arg5 harg5 arg6 harg6 arg8 harg8 arg10 arg11 x0 x3 x4 xs0 = scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) 0 _ (oKD_inb i 0) _ (oCD_inb i 0) := by
  sl_unfold_run_values
  rfl

theorem runB_score1 :
    kernelRun0_B.sl.r_7 (F := F) c i arg2 harg2 arg5 harg5 arg6 harg6 arg8 harg8 arg10 arg11 x0 x3 x4 xs0 = scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) 1 _ (oKD_inb i 1) _ (oCD_inb i 1) := by
  sl_unfold_run_values
  rfl

theorem runB_score2 :
    kernelRun0_B.sl.r_9 (F := F) c i arg2 harg2 arg5 harg5 arg6 harg6 arg8 harg8 arg10 arg11 x0 x3 x4 xs0 = scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) 2 _ (oKD_inb i 2) _ (oCD_inb i 2) := by
  sl_unfold_run_values
  rfl

theorem runB_score3 :
    kernelRun0_B.sl.r_10 (F := F) c i arg2 harg2 arg5 harg5 arg6 harg6 arg8 harg8 arg10 arg11 x0 x3 x4 xs0 = scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) 3 _ (oKD_inb i 3) _ (oCD_inb i 3) := by
  sl_unfold_run_values
  rfl

theorem runB_score4 :
    kernelRun0_B.sl.r_12 (F := F) c i arg2 harg2 arg5 harg5 arg6 harg6 arg8 harg8 arg10 arg11 x0 x3 x4 xs0 = scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) 4 _ (oKD_inb i 4) _ (oCD_inb i 4) := by
  sl_unfold_run_values
  rfl

theorem runB_score5 :
    kernelRun0_B.sl.r_13 (F := F) c i arg2 harg2 arg5 harg5 arg6 harg6 arg8 harg8 arg10 arg11 x0 x3 x4 xs0 = scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) 5 _ (oKD_inb i 5) _ (oCD_inb i 5) := by
  sl_unfold_run_values
  rfl

theorem runB_score6 :
    kernelRun0_B.sl.r_15 (F := F) c i arg2 harg2 arg5 harg5 arg6 harg6 arg8 harg8 arg10 arg11 x0 x3 x4 xs0 = scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) 6 _ (oKD_inb i 6) _ (oCD_inb i 6) := by
  sl_unfold_run_values
  rfl

theorem runB_score7 :
    kernelRun0_B.sl.r_16 (F := F) c i arg2 harg2 arg5 harg5 arg6 harg6 arg8 harg8 arg10 arg11 x0 x3 x4 xs0 = scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) 7 _ (oKD_inb i 7) _ (oCD_inb i 7) := by
  sl_unfold_run_values
  rfl

set_option maxHeartbeats 8000000 in
/-- The stores of the diagonal block, over the loop's. -/
theorem runB_sums :
    kernelRun0_B.sl.HS5_8 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1
      = lsL arg12 arg13 (fun h => scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) h _ (oKD_inb i h) _ (oCD_inb i h)) (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (arg13.view.writes (Elt F) arg13.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5) := by
  unfold kernelRun0_B.sl.HS5_8 kernelRun0_B.sl.HS5_7 kernelRun0_B.sl.HS5_6 kernelRun0_B.sl.HS5_5 kernelRun0_B.sl.HS5_4 kernelRun0_B.sl.HS5_3 kernelRun0_B.sl.HS5_2 kernelRun0_B.sl.HS5_1_1
  refine congrArg₂ List.cons (congrArg (fun w => (⟨r1 7, w⟩ : View.Piece (Elt F) S8x256x1 .f32)) ?_) ?_
  · unfold kernelRun0_B.sl.r_39 kernelRun0_B.sl.r_47 kernelRun0_B.sl.r_30 kernelRun0_B.sl.r_22
    rw [runB_score7, runB_at4_7, runB_at5_7]
    rfl
  refine congrArg₂ List.cons (congrArg (fun w => (⟨r1 6, w⟩ : View.Piece (Elt F) S8x256x1 .f32)) ?_) ?_
  · unfold kernelRun0_B.sl.r_38 kernelRun0_B.sl.r_46 kernelRun0_B.sl.r_29 kernelRun0_B.sl.r_21
    rw [runB_score6, runB_at4_6, runB_at5_6]
    rfl
  refine congrArg₂ List.cons (congrArg (fun w => (⟨r1 5, w⟩ : View.Piece (Elt F) S8x256x1 .f32)) ?_) ?_
  · unfold kernelRun0_B.sl.r_37 kernelRun0_B.sl.r_36 kernelRun0_B.sl.r_45 kernelRun0_B.sl.r_28
    rw [runB_score5, runB_at4_5, runB_at5_5]
    rfl
  refine congrArg₂ List.cons (congrArg (fun w => (⟨r1 4, w⟩ : View.Piece (Elt F) S8x256x1 .f32)) ?_) ?_
  · unfold kernelRun0_B.sl.r_35 kernelRun0_B.sl.r_44 kernelRun0_B.sl.r_27
    rw [runB_score4, runB_at4_4, runB_at5_4]
    rfl
  refine congrArg₂ List.cons (congrArg (fun w => (⟨r1 3, w⟩ : View.Piece (Elt F) S8x256x1 .f32)) ?_) ?_
  · unfold kernelRun0_B.sl.r_48 kernelRun0_B.sl.r_34 kernelRun0_B.sl.r_43 kernelRun0_B.sl.r_26 kernelRun0_B.sl.r_20
    rw [runB_score3, runB_at4_3, runB_at5_3]
    rfl
  refine congrArg₂ List.cons (congrArg (fun w => (⟨r1 2, w⟩ : View.Piece (Elt F) S8x256x1 .f32)) ?_) ?_
  · unfold kernelRun0_B.sl.r_33 kernelRun0_B.sl.r_42 kernelRun0_B.sl.r_25 kernelRun0_B.sl.r_19
    rw [runB_score2, runB_at4_2, runB_at5_2]
    rfl
  refine congrArg₂ List.cons (congrArg (fun w => (⟨r1 1, w⟩ : View.Piece (Elt F) S8x256x1 .f32)) ?_) ?_
  · unfold kernelRun0_B.sl.r_32 kernelRun0_B.sl.r_41 kernelRun0_B.sl.r_24 kernelRun0_B.sl.r_18
    rw [runB_score1, runB_at4_1, runB_at5_1]
    rfl
  refine congrArg₂ List.cons (congrArg (fun w => (⟨r1 0, w⟩ : View.Piece (Elt F) S8x256x1 .f32)) ?_) ?_
  · unfold kernelRun0_B.sl.r_31 kernelRun0_B.sl.r_23 kernelRun0_B.sl.r_17
    rw [runB_score0, runB_at4_0, runB_at5_0]
    rfl
  exact congrArg (fun p => p.2.1 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.1 ++ ls5)) (pb2_any _ _ _ _ _ _ _ _ _ _ _ _ _ _ _ _ _ _ _ _ _ _ _ _ _ _ _ _ _ _ _ _ _ _ _ _ _ _ _ _ _ _ _ (trips2 i))

set_option maxHeartbeats 8000000 in
/-- The stores of the diagonal block, over the loop's. -/
theorem runB_wsums :
    kernelRun0_B.sl.HS6_8 (F := F) c i arg2 harg2 arg3 harg3 arg4 harg4 arg5 harg5 arg6 harg6 arg7 harg7 arg8 harg8 arg9 harg9 arg10 harg10 arg11 harg11 arg12 harg12 arg13 harg13 arg14 harg14 x0 x3 x4 xs0 xs1
      = lsA arg12 arg14 (fun h => scAtD arg5 arg8 arg10 arg11 (harg5.unread x3) (harg8.unread xs0) (arg10.view.writes (Elt F) arg10.view.junk (kernelRun0_B.sl.HS2_8 c arg2 harg2 x0)) (arg11.view.writes (Elt F) arg11.view.junk (kernelRun0_B.sl.HS3_8 c arg6 harg6 x4)) h _ (oKD_inb i h) _ (oCD_inb i h)) (fun h => vAt arg9 (harg9.unread xs1) _ (oKD_inb i h)) (arg12.view.writes (Elt F) arg12.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).1 ++ ls4)) (arg14.view.writes (Elt F) arg14.view.junk ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6) := by
  unfold kernelRun0_B.sl.HS6_8 kernelRun0_B.sl.HS6_7 kernelRun0_B.sl.HS6_6 kernelRun0_B.sl.HS6_5 kernelRun0_B.sl.HS6_4 kernelRun0_B.sl.HS6_3 kernelRun0_B.sl.HS6_2 kernelRun0_B.sl.HS6_1_1
  refine congrArg₂ List.cons (congrArg (fun w => (⟨rA 7, w⟩ : View.Piece (Elt F) S8x256x128 .f32)) ?_) ?_
  · unfold kernelRun0_B.sl.r_39 kernelRun0_B.sl.r_47 kernelRun0_B.sl.r_30 kernelRun0_B.sl.r_22
    rw [runB_score7, runB_at4_7, runB_at6_7]
    rfl
  refine congrArg₂ List.cons (congrArg (fun w => (⟨rA 6, w⟩ : View.Piece (Elt F) S8x256x128 .f32)) ?_) ?_
  · unfold kernelRun0_B.sl.r_51 kernelRun0_B.sl.r_52 kernelRun0_B.sl.r_38 kernelRun0_B.sl.r_46 kernelRun0_B.sl.r_29 kernelRun0_B.sl.r_21
    rw [runB_score6, runB_at4_6, runB_at6_6]
    rfl
  refine congrArg₂ List.cons (congrArg (fun w => (⟨rA 5, w⟩ : View.Piece (Elt F) S8x256x128 .f32)) ?_) ?_
  · unfold kernelRun0_B.sl.r_37 kernelRun0_B.sl.r_36 kernelRun0_B.sl.r_45 kernelRun0_B.sl.r_28
    rw [runB_score5, runB_at4_5, runB_at6_5]
    rfl
  refine congrArg₂ List.cons (congrArg (fun w => (⟨rA 4, w⟩ : View.Piece (Elt F) S8x256x128 .f32)) ?_) ?_
  · unfold kernelRun0_B.sl.r_35 kernelRun0_B.sl.r_44 kernelRun0_B.sl.r_27
    rw [runB_score4, runB_at4_4, runB_at6_4]
    rfl
  refine congrArg₂ List.cons (congrArg (fun w => (⟨rA 3, w⟩ : View.Piece (Elt F) S8x256x128 .f32)) ?_) ?_
  · unfold kernelRun0_B.sl.r_50 kernelRun0_B.sl.r_34 kernelRun0_B.sl.r_43 kernelRun0_B.sl.r_26 kernelRun0_B.sl.r_20
    rw [runB_score3, runB_at4_3, runB_at6_3]
    rfl
  refine congrArg₂ List.cons (congrArg (fun w => (⟨rA 2, w⟩ : View.Piece (Elt F) S8x256x128 .f32)) ?_) ?_
  · unfold kernelRun0_B.sl.r_33 kernelRun0_B.sl.r_42 kernelRun0_B.sl.r_25 kernelRun0_B.sl.r_19
    rw [runB_score2, runB_at4_2, runB_at6_2]
    rfl
  refine congrArg₂ List.cons (congrArg (fun w => (⟨rA 1, w⟩ : View.Piece (Elt F) S8x256x128 .f32)) ?_) ?_
  · unfold kernelRun0_B.sl.r_32 kernelRun0_B.sl.r_41 kernelRun0_B.sl.r_24 kernelRun0_B.sl.r_18
    rw [runB_score1, runB_at4_1, runB_at6_1]
    rfl
  refine congrArg₂ List.cons (congrArg (fun w => (⟨rA 0, w⟩ : View.Piece (Elt F) S8x256x128 .f32)) ?_) ?_
  · unfold kernelRun0_B.sl.r_49 kernelRun0_B.sl.r_31 kernelRun0_B.sl.r_40 kernelRun0_B.sl.r_23 kernelRun0_B.sl.r_17
    rw [runB_score0, runB_at4_0, runB_at6_0]
    rfl
  exact congrArg (fun p => p.2.2 ++ ((pbAll (F := F) c i arg2 harg2 arg3 harg3 arg4 harg4 arg5 harg5 arg6 harg6 arg7 harg7 arg8 harg8 arg9 harg9 arg10 harg10 arg11 harg11 arg12 harg12 arg13 harg13 arg14 harg14 (kernelRun0_B.sl.r c arg6 harg6 x4) (kernelRun0_B.sl.r_5 c arg6 harg6 x4) (harg5.unread x3) (harg8.unread xs0) (harg9.unread xs1) (arg10.view.writes (Elt F) arg10.view.junk (kernelRun0_B.sl.HS2_8 c arg2 harg2 x0)) (arg11.view.writes (Elt F) arg11.view.junk (kernelRun0_B.sl.HS3_8 c arg6 harg6 x4))).2.2 ++ ls6)) (pb2_any _ _ _ _ _ _ _ _ _ _ _ _ _ _ _ _ _ _ _ _ _ _ _ _ _ _ _ _ _ _ _ _ _ _ _ _ _ _ _ _ _ _ _ (trips2 i))

end Cert.KernelIdeal.Gen
-- ==== Proof.Attn.Point.lean ====
module

public import proofs.«01_k».proof.Proof.Attn.Loop
public import proofs.«01_k».proof.Proof.Attn.RunA
public import proofs.«01_k».proof.Proof.Attn.RunB

@[expose] public section

set_option maxRecDepth 16384

noncomputable section

namespace Cert.KernelIdeal.Gen

open Idealize.ShloMosaic Idealize.ShloMosaic.TcCoe Idealize.ShloMosaic.Tactic Idealize.SL.Sem
open Cert.Proof.Online

/-! ## What one grid point computes, from its blocks -/

/-- The factor put on the queries. -/
def qs : EReal := Ideal.ofBits .f32 0x3E000000#32

/-- The head a lane of the output belongs to. -/
def hd (e : Fin 512) : Fin 8 := ⟨e.val / 64, by omega⟩

/-- Lane `d` of head `h`. -/
def hl (h : Fin 8) (d : Fin 64) : Fin 512 := ⟨64 * h.val + d.val, by omega⟩

section Spec

variable (x0 : Vec Ideal S256x512 .f32) (x3 : Vec Ideal S1x8x2048 .f32) (x4 : Vec Ideal S256x128 .f32)
  (kb vb : Vec Ideal S512x2048 .bf16)

/-- The score of row `r` of the block against position `n`, on head `h`. -/
def SR (h : Fin 8) (r : Fin 256) (n : ℕ) : EReal :=
  (∑ d : Fin 64, (x0 (ix2 r (hl h d)) * qs : EReal) * kb (ix2 (hl h d) (pos n)))
    + x4 (ix2 r (Fin.castLE (by omega) h)) - x3 (ix3 0 h (pos n))

/-- The same, with the positions after the row left out: the block is the `q`-th. -/
def SX (q : ℕ) (h : Fin 8) (r : Fin 256) (n : ℕ) : EReal :=
  if n ≤ 256 * q + r.val then SR x0 x3 x4 kb h r n else ⊥

/-- The weights on the values at lane `e`, summed and divided by the sum of the weights. -/
def OUT (q : ℕ) (r : Fin 256) (e : Fin 512) : EReal :=
  Ideal.div (A (SX x0 x3 x4 kb q (hd e) r) (fun n => vb (ix2 e (pos n))) 2048)
    (A (SX x0 x3 x4 kb q (hd e) r) (fun _ => 1) 2048)

/-- The queries as the scratch holds them: a pair's lanes, the other head's at zero. -/
def qv (h : Fin 8) (r : Fin 256) (d : Fin 128) : EReal :=
  if (h.val % 2 = 0 ↔ d.val < 64) then x0 (ix2 r (lane h d)) * qs else 0

theorem sum_qv (h : Fin 8) (r : Fin 256) (n : ℕ) :
    (∑ d : Fin 128, qv x0 h r d * (kb (ix2 (lane h d) (pos n)) : EReal))
      = ∑ d : Fin 64, (x0 (ix2 r (hl h d)) * qs : EReal) * kb (ix2 (hl h d) (pos n)) := by
  rw [show (∑ d : Fin 128, qv x0 h r d * (kb (ix2 (lane h d) (pos n)) : EReal))
      = (∑ d : Fin 64, qv x0 h r (Fin.castAdd 64 d) * (kb (ix2 (lane h (Fin.castAdd 64 d)) (pos n)) : EReal))
        + ∑ d : Fin 64, qv x0 h r (Fin.natAdd 64 d) * (kb (ix2 (lane h (Fin.natAdd 64 d)) (pos n)) : EReal)
    from Fin.sum_univ_add (a := 64) (b := 64) (fun d : Fin 128 => qv x0 h r d * (kb (ix2 (lane h d) (pos n)) : EReal))]
  by_cases hh : h.val % 2 = 0
  · have e1 : ∀ d : Fin 64, lane h (Fin.castAdd 64 d) = hl h d := fun d => Fin.ext (by simp [lane, hl]; omega)
    have e2 : ∀ d : Fin 64, qv x0 h r (Fin.natAdd 64 d) = 0 := fun d => if_neg (by simp [hh])
    have e3 : ∀ d : Fin 64, qv x0 h r (Fin.castAdd 64 d) = x0 (ix2 r (hl h d)) * qs := fun d => by
      unfold qv; rw [if_pos (by simp [hh]), e1]
    simp only [e1, e2, e3, zero_mul, Finset.sum_const_zero, add_zero]
  · have e1 : ∀ d : Fin 64, lane h (Fin.natAdd 64 d) = hl h d := fun d => Fin.ext (by simp [lane, hl]; omega)
    have e2 : ∀ d : Fin 64, qv x0 h r (Fin.castAdd 64 d) = 0 := fun d => if_neg (by simp [hh])
    have e3 : ∀ d : Fin 64, qv x0 h r (Fin.natAdd 64 d) = x0 (ix2 r (hl h d)) * qs := fun d => by
      unfold qv; rw [if_pos (by simp [hh]), e1]
    simp only [e1, e2, e3, zero_mul, Finset.sum_const_zero, zero_add]

end Spec

/-! ## The first stores -/

theorem pay167_apply (x : S8x256x1.Idx) : k0_pay167 (F := Ideal) x = ⊥ := by
  pointwise [k0_pay167]
  exact mask_eq

theorem pay168_apply (x : S8x256x1.Idx) : k0_pay168 (F := Ideal) x = 0 := by
  pointwise [k0_pay168]

theorem pay169_apply (x : S8x256x128.Idx) : k0_pay169 (F := Ideal) x = 0 := by
  pointwise [k0_pay169]

section Init

variable (a12 a13 : Memref sig .tc .vmem S8x256x1 .f32) (a14 : Memref sig .tc .vmem S8x256x128 .f32)
  (X : Fin 8 → Fin 256 → ℕ → EReal) (W : Fin 8 → Fin 128 → ℕ → EReal)

theorem init_inv : Inv a12 a13 a14 X W 0
    (a12.view.writes (Elt Ideal) a12.view.junk ls4) (a13.view.writes (Elt Ideal) a13.view.junk ls5)
    (a14.view.writes (Elt Ideal) a14.view.junk ls6) := by
  refine ⟨fun h r => ?_, fun h r => ?_, fun h r l => ?_⟩
  · rw [M_zero]
    refine View.read_writes_apply_of_pieces (Val := Elt Ideal) (e := .f32) _ _ (fun _ => (⊥ : EReal)) _ (fun p hp x => ?_) _ ⟨_, List.mem_singleton_self _, ?_⟩
    · obtain rfl := List.mem_singleton.mp hp
      exact pay167_apply x
    · exact (LoadRect.mem_set _).mpr fun a => by
        fin_cases a
        · exact ⟨h.val, by simp, by simp⟩
        · exact ⟨r.val, by simp, by simp⟩
        · exact ⟨0, by simp, by simp⟩
  · rw [A_zero]
    refine View.read_writes_apply_of_pieces (Val := Elt Ideal) (e := .f32) _ _ (fun _ => (0 : EReal)) _ (fun p hp x => ?_) _ ⟨_, List.mem_singleton_self _, ?_⟩
    · obtain rfl := List.mem_singleton.mp hp
      exact pay168_apply x
    · exact (LoadRect.mem_set _).mpr fun a => by
        fin_cases a
        · exact ⟨h.val, by simp, by simp⟩
        · exact ⟨r.val, by simp, by simp⟩
        · exact ⟨0, by simp, by simp⟩
  · rw [A_zero]
    refine View.read_writes_apply_of_pieces (Val := Elt Ideal) (e := .f32) _ _ (fun _ => (0 : EReal)) _ (fun p hp x => ?_) _ ⟨_, List.mem_singleton_self _, ?_⟩
    · obtain rfl := List.mem_singleton.mp hp
      exact pay169_apply x
    · exact (LoadRect.mem_set _).mpr fun a => by
        fin_cases a
        · exact ⟨h.val, by simp, by simp⟩
        · exact ⟨r.val, by simp, by simp⟩
        · exact ⟨l.val, by simp, by simp⟩

end Init

/-! ## The queries and the rows' decays, as stored -/

section Stored

variable {F : FTy → Type} [FloatOps F] [Named F]

/-- The lanes of head `h`'s pair. -/
abbrev rQ (h : Fin 8) : Rect S256x512 :=
  Rect.unit (s := S256x512) ![0, 128 * (h.val / 2)] S256x128.size (by intro a; have := h.isLt; fin_cases a <;> simp <;> omega)

/-- The stored queries of head `h`. -/
def qPay (h : Fin 8) (v : Vec F S256x128 .f32) : FVec F S1x256x128 .bf16 :=
  match h with
  | 0 => k0_pay154 v
  | 1 => k0_pay155 v
  | 2 => k0_pay158 (k0_pay157 v)
  | 3 => k0_pay159 k0_pay150 (k0_pay156 v)
  | 4 => k0_pay161 k0_pay150 v
  | 5 => k0_pay162 k0_pay150 v
  | 6 => k0_pay165 (k0_pay164 k0_pay150 v)
  | 7 => k0_pay166 k0_pay150 (k0_pay163 v)

/-- The stored decay of the rows, on head `h`. -/
def cPay (h : Fin 8) (v : Vec F S256x128 .f32) : FVec F S1x256x1 .f32 :=
  match h with
  | 0 => k0_pay170 (k0_pay152 v)
  | 1 => k0_pay171 (k0_pay152 v)
  | 2 => k0_pay173 (k0_pay172 (k0_pay152 v))
  | 3 => k0_pay174 (k0_pay152 v)
  | 4 => k0_pay175 (k0_pay152 v)
  | 5 => k0_pay176 (k0_pay152 v)
  | 6 => k0_pay177 (k0_pay152 v)
  | 7 => k0_pay178 (k0_pay152 v)

end Stored

theorem lo_apply (r : Fin 256) (d : Fin 128) : k0_pay150 (ix2 r d) = BitVec.ofBool (decide (d.val < 64)) := by
  pointwise [k0_pay150]
  exact Idealize.ShloMosaic.WordCmp.cmpi_slt_ofNat (by omega) (by omega)

theorem cPay_apply (h : Fin 8) (v : Vec Ideal S256x128 .f32) (r : Fin 256) :
    cPay h v (ix3 0 r 0) = v (ix2 r (Fin.castLE (by omega) h)) := by
  fin_cases h <;>
    pointwise [cPay, k0_pay170, k0_pay171, k0_pay172, k0_pay173, k0_pay174, k0_pay175, k0_pay176, k0_pay177, k0_pay178, k0_pay152] <;> rfl

theorem qPay_apply (h : Fin 8) (v : Vec Ideal S256x128 .f32) (r : Fin 256) (d : Fin 128) :
    qPay h v (ix3 0 r d) = if (h.val % 2 = 0 ↔ d.val < 64) then (v (ix2 r d) * qs : EReal) else 0 := by
  by_cases hd : d.val < 64 <;> fin_cases h <;>
    pointwise [qPay, k0_pay153, k0_pay154, k0_pay155, k0_pay156, k0_pay157, k0_pay158, k0_pay159, k0_pay160, k0_pay161, k0_pay162, k0_pay163, k0_pay164, k0_pay165, k0_pay166] <;>
    simp [lo_apply, hd, qs] <;> rfl

/-! ## The scores, from the blocks -/

section Scores

variable {arg5 : Memref sig .tc .vmem S1x8x2048 .f32} {arg8 : Memref sig .tc .vmem S512x2048 .bf16}
  {arg10 : Memref sig .tc .vmem S8x256x128 .bf16} {arg11 : Memref sig .tc .vmem S8x256x1 .f32}
  {X5 : BufTy.Contents (Elt Ideal) arg5.view.ty} {X8 : BufTy.Contents (Elt Ideal) arg8.view.ty}
  {X10 : BufTy.Contents (Elt Ideal) arg10.view.ty} {X11 : BufTy.Contents (Elt Ideal) arg11.view.ty}
  {x0 : Vec Ideal S256x512 .f32} {x3 : Vec Ideal S1x8x2048 .f32} {x4 : Vec Ideal S256x128 .f32}
  {kb : Vec Ideal S512x2048 .bf16}

theorem sc_eq (h5 : arg5.view.read (Elt Ideal) X5 = x3) (h8 : arg8.view.read (Elt Ideal) X8 = kb)
    (h10 : ∀ h r d, arg10.view.read (Elt Ideal) X10 (ix3 h r d) = qv x0 h r d)
    (h11 : ∀ (h : Fin 8) (r : Fin 256), arg11.view.read (Elt Ideal) X11 (ix3 h r 0) = x4 (ix2 r (Fin.castLE (by omega) h)))
    (h : Fin 8) (r : Fin 256) (n : ℕ) : sc X5 X8 X10 X11 h r n = SR x0 x3 x4 kb h r n := by
  subst h5 h8
  unfold sc SR
  rw [← sum_qv, h11]
  simp only [h10]

theorem xm_eq (h5 : arg5.view.read (Elt Ideal) X5 = x3) (h8 : arg8.view.read (Elt Ideal) X8 = kb)
    (h10 : ∀ h r d, arg10.view.read (Elt Ideal) X10 (ix3 h r d) = qv x0 h r d)
    (h11 : ∀ (h : Fin 8) (r : Fin 256), arg11.view.read (Elt Ideal) X11 (ix3 h r 0) = x4 (ix2 r (Fin.castLE (by omega) h)))
    (q : ℕ) : xm X5 X8 X10 X11 q = SX x0 x3 x4 kb q := by
  funext h r n
  unfold xm SX
  rw [sc_eq h5 h8 h10 h11]

end Scores

theorem qStored {arg2 : Memref sig .tc .vmem S256x512 .f32} {harg2 : arg2.IsWhole} {arg10 : Memref sig .tc .vmem S8x256x128 .bf16}
    (f : BufTy.Contents (Elt Ideal) arg10.view.ty)
    (x0 : Vec Ideal S256x512 .f32) (L : List (View.Piece (Elt Ideal) S8x256x128 .bf16))
    (hL : L = heads.map fun h => ⟨rA h, qPay h (View.readAt (Elt Ideal) arg2.view (rQ h).toLoadRect (harg2.unread x0))⟩)
    (h : Fin 8) (r : Fin 256) (d : Fin 128) :
    arg10.view.read (Elt Ideal) (arg10.view.writes (Elt Ideal) f L) (ix3 h r d) = qv x0 h r d := by
  rw [read_headsA f _ L hL, qPay_apply, View.readAt_eq_ld, Memref.IsWhole.read_unread]
  unfold qv
  have e : View.ld x0 (rQ h) (ix2 r d) = x0 (ix2 r (lane h d)) :=
    View.ld_unit_apply_of _ _ _ _ _ _ (by intro a; fin_cases a <;> simp [lane])
  exact if_congr Iff.rfl (congrArg (fun z : EReal => z * qs) e) rfl

theorem cStored {arg6 : Memref sig .tc .vmem S256x128 .f32} {harg6 : arg6.IsWhole} {arg11 : Memref sig .tc .vmem S8x256x1 .f32}
    (f : BufTy.Contents (Elt Ideal) arg11.view.ty)
    (x4 : Vec Ideal S256x128 .f32) (L : List (View.Piece (Elt Ideal) S8x256x1 .f32))
    (hL : L = heads.map fun h => ⟨r1 h, cPay h (View.readAt (Elt Ideal) arg6.view (Rect.unit (s := S256x128) ![0, 0] S256x128.size inb_S256x128_S256x128_0_0).toLoadRect (harg6.unread x4))⟩)
    (h : Fin 8) (r : Fin 256) :
    arg11.view.read (Elt Ideal) (arg11.view.writes (Elt Ideal) f L) (ix3 h r 0) = x4 (ix2 r (Fin.castLE (by omega) h)) := by
  rw [read_heads1 f _ L hL, cPay_apply, View.readAt_eq_ld, Memref.IsWhole.read_unread]
  exact View.ld_unit_apply_of _ _ _ _ _ _ (by intro a; fin_cases a <;> simp)

/-! ## The quotients, as stored -/

/-- The lanes of the `p`-th pair. -/
abbrev rO (p : Fin 4) : Rect S256x512 :=
  Rect.unit (s := S256x512) ![0, 128 * p.val] S256x128.size (by intro a; have := p.isLt; fin_cases a <;> simp <;> omega)

/-- The first head of a pair, and the second. -/
def ev (p : Fin 4) : Fin 8 := ⟨2 * p.val, by omega⟩
def od (p : Fin 4) : Fin 8 := ⟨2 * p.val + 1, by omega⟩

/-- What is stored on the `p`-th pair. -/
def oPay {F : FTy → Type} [FloatOps F] [Named F] (p : Fin 4) (a : Vec F S1x256x128 .f32) (l : Vec F S1x256x1 .f32)
    (a' : Vec F S1x256x128 .f32) (l' : Vec F S1x256x1 .f32) : Vec F S256x128 .f32 :=
  match p with
  | 0 => k0_pay254 k0_pay150 a l a' l'
  | 1 => k0_pay255 k0_pay150 a l a' l'
  | 2 => k0_pay256 k0_pay150 a l a' l'
  | 3 => k0_pay1 k0_pay150 a l a' l'

theorem oPay_apply (p : Fin 4) (a : Vec Ideal S1x256x128 .f32) (l : Vec Ideal S1x256x1 .f32)
    (a' : Vec Ideal S1x256x128 .f32) (l' : Vec Ideal S1x256x1 .f32) (r : Fin 256) (d : Fin 128) :
    oPay p a l a' l' (ix2 r d) = if d.val < 64 then Ideal.div (a (ix3 0 r d)) (l (ix3 0 r 0)) else Ideal.div (a' (ix3 0 r d)) (l' (ix3 0 r 0)) := by
  by_cases hd : d.val < 64 <;> fin_cases p <;>
    pointwise [oPay, k0_pay254, k0_pay255, k0_pay256, k0_pay1] <;>
    simp [lo_apply, hd] <;> rfl

section Out

variable {arg13 : Memref sig .tc .vmem S8x256x1 .f32} {arg14 : Memref sig .tc .vmem S8x256x128 .f32} {vo : View sig .tc .vmem S256x512 .f32}
  (x0 : Vec Ideal S256x512 .f32) (x3 : Vec Ideal S1x8x2048 .f32) (x4 : Vec Ideal S256x128 .f32) (kb vb : Vec Ideal S512x2048 .bf16)

theorem OUT_lane (q : ℕ) (hq : q < 8) (hR : ∀ h r n, SR x0 x3 x4 kb h r n ≠ ⊤) (h : Fin 8) (r : Fin 256) (d : Fin 128)
    (hh : h.val % 2 = 0 ↔ d.val < 64) :
    OUT x0 x3 x4 kb vb q r (lane h d)
      = Ideal.div (A (SX x0 x3 x4 kb q h r) (fun n => vb (ix2 (lane h d) (pos n))) (256 * q + 256))
          (A (SX x0 x3 x4 kb q h r) (fun _ => 1) (256 * q + 256)) := by
  have e : hd (lane h d) = h := Fin.ext (by
    have := h.isLt
    have := d.isLt
    simp only [hd, lane]
    by_cases h0 : h.val % 2 = 0
    · have := hh.mp h0
      omega
    · have := mt hh.mpr h0
      omega)
  obtain ⟨b, hb⟩ : ∃ b, 2048 = 256 * q + 256 + b := ⟨2048 - (256 * q + 256), by omega⟩
  have hX : ∀ j, 256 * q + 256 ≤ j → j < 256 * q + 256 + b → SX x0 x3 x4 kb q h r j = ⊥ := fun j hj _ =>
    if_neg (by have := r.isLt; omega)
  unfold OUT
  have hA : ∀ w, A (SX x0 x3 x4 kb q h r) w 2048 = A (SX x0 x3 x4 kb q h r) w (256 * q + 256) := fun w =>
    (congrArg (A (SX x0 x3 x4 kb q h r) w) hb).trans (A_add_bot _ _ _ _ hX)
  rw [e, hA, hA]

theorem out_read (q : ℕ) (hq : q < 8) (hR : ∀ h r n, SR x0 x3 x4 kb h r n ≠ ⊤) (f : BufTy.Contents (Elt Ideal) vo.ty)
    (f13 : BufTy.Contents (Elt Ideal) arg13.view.ty) (f14 : BufTy.Contents (Elt Ideal) arg14.view.ty)
    (h13 : ∀ h r, arg13.view.read (Elt Ideal) f13 (ix3 h r 0) = A (SX x0 x3 x4 kb q h r) (fun _ => 1) (256 * q + 256))
    (h14 : ∀ h r l, arg14.view.read (Elt Ideal) f14 (ix3 h r l) = A (SX x0 x3 x4 kb q h r) (fun n => vb (ix2 (lane h l) (pos n))) (256 * q + 256))
    (L : List (View.Piece (Elt Ideal) S256x512 .f32))
    (hL : L = ([3, 2, 1, 0] : List (Fin 4)).map fun p => ⟨rO p,
      oPay p (View.readAt (Elt Ideal) arg14.view (rA (ev p)).toLoadRect f14) (View.readAt (Elt Ideal) arg13.view (r1 (ev p)).toLoadRect f13)
        (View.readAt (Elt Ideal) arg14.view (rA (od p)).toLoadRect f14) (View.readAt (Elt Ideal) arg13.view (r1 (od p)).toLoadRect f13)⟩)
    (r : Fin 256) (e : Fin 512) :
    vo.read (Elt Ideal) (vo.writes (Elt Ideal) f L) (ix2 r e) = OUT x0 x3 x4 kb vb q r e := by
  subst hL
  refine View.read_writes_apply_of_pieces (Val := Elt Ideal) (e := .f32) _ _ (fun y : S256x512.Idx => OUT x0 x3 x4 kb vb q (y 0) (y 1)) _ ?_ (ix2 r e) ?_
  · intro p hp x
    obtain ⟨p, -, rfl⟩ := List.mem_map.mp hp
    obtain ⟨r, d, rfl⟩ : ∃ (r : Fin 256) (d : Fin 128), x = ix2 r d := ⟨x 0, x 1, by funext a; fin_cases a <;> rfl⟩
    refine (oPay_apply p _ _ _ _ r d).trans ?_
    rw [rdA, rdA, rd1, rd1, h13, h13, h14, h14]
    have eo : lane (od p) d = lane (ev p) d := Fin.ext (by simp only [lane, od, ev]; omega)
    have er : (rO p).emb (ix2 r d) = ix2 r (lane (ev p) d) := Rect.emb_eq_of_coords _ _ _ (by
      intro a
      fin_cases a <;> simp [lane, ev])
    rw [er]
    change _ = OUT x0 x3 x4 kb vb q r (lane (ev p) d)
    by_cases hd : d.val < 64
    · rw [if_pos hd, OUT_lane _ _ _ _ _ q hq hR (ev p) r d (by simp [ev, hd])]
    · rw [if_neg hd, ← eo, OUT_lane _ _ _ _ _ q hq hR (od p) r d (by simp only [od, hd]; simp)]
  · have he : e.val / 128 < 4 := by omega
    refine ⟨_, List.mem_map.mpr ⟨⟨e.val / 128, he⟩, by generalize e.val / 128 = t at he; interval_cases t <;> simp, rfl⟩, ?_⟩
    exact (rO _).mem_set.mpr fun a => by
      fin_cases a
      · exact ⟨r, by simp, by simp⟩
      · exact ⟨e.val % 128, by simp; omega, by simp; omega⟩

end Out

end Cert.KernelIdeal.Gen
-- ==== Proof.Attn.EndsA.lean ====
module

public import proofs.«01_k».proof.Proof.Attn.Point

@[expose] public section

set_option maxRecDepth 16384

noncomputable section

namespace Cert.KernelIdeal.Gen

open Idealize.ShloMosaic Idealize.ShloMosaic.TcCoe Idealize.ShloMosaic.Tactic Idealize.SL.Sem
open Cert.Proof.Online

section CaseA

variable (c : Dev nD) (i : grid0.Coords) (arg2 : Memref sig .tc .vmem S256x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x8x2048 .f32) (harg5 : arg5.IsWhole) (arg6 : Memref sig .tc .vmem S256x128 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S8x256x128 .bf16) (harg10 : arg10.IsWhole) (arg11 : Memref sig .tc .vmem S8x256x1 .f32) (harg11 : arg11.IsWhole) (arg12 : Memref sig .tc .vmem S8x256x1 .f32) (harg12 : arg12.IsWhole) (arg13 : Memref sig .tc .vmem S8x256x1 .f32) (harg13 : arg13.IsWhole) (arg14 : Memref sig .tc .vmem S8x256x128 .f32) (harg14 : arg14.IsWhole) (hc0 : cond0_0 i)     (x0 : Vec Ideal S256x512 .f32) (x1 : Vec Ideal S1x512x2048 .f32) (x2 : Vec Ideal S1x512x2048 .f32) (x3 : Vec Ideal S1x8x2048 .f32) (x4 : Vec Ideal S256x128 .f32)

theorem runA_q : kernelRun0_A.sl.HS2_8 (F := Ideal) c arg2 harg2 x0
    = heads.map fun h => ⟨rA h, qPay h (View.readAt (Elt Ideal) arg2.view (rQ h).toLoadRect (harg2.unread x0))⟩ := by
  unfold kernelRun0_A.sl.HS2_8
  rfl

theorem runA_c : kernelRun0_A.sl.HS3_8 (F := Ideal) c arg6 harg6 x4
    = heads.map fun h => ⟨r1 h, cPay h (View.readAt (Elt Ideal) arg6.view (Rect.unit (s := S256x128) ![0, 0] S256x128.size inb_S256x128_S256x128_0_0).toLoadRect (harg6.unread x4))⟩ := by
  unfold kernelRun0_A.sl.HS3_8
  rfl

theorem runA_out : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).1
    = ([3, 2, 1, 0] : List (Fin 4)).map fun p => (⟨rO p,
      oPay p (View.readAt (Elt Ideal) arg14.view (rA (ev p)).toLoadRect (arg14.view.writes (Elt Ideal) arg14.view.junk (kernelRun0_A.sl.HS6_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) (View.readAt (Elt Ideal) arg13.view (r1 (ev p)).toLoadRect (arg13.view.writes (Elt Ideal) arg13.view.junk (kernelRun0_A.sl.HS5_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4)))
        (View.readAt (Elt Ideal) arg14.view (rA (od p)).toLoadRect (arg14.view.writes (Elt Ideal) arg14.view.junk (kernelRun0_A.sl.HS6_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) (View.readAt (Elt Ideal) arg13.view (r1 (od p)).toLoadRect (arg13.view.writes (Elt Ideal) arg13.view.junk (kernelRun0_A.sl.HS5_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4)))⟩ : View.Piece (Elt Ideal) S256x512 .f32) := by
  unfold kernelRun0_A
  dsimp only
  refine congrArg₂ List.cons (congrArg (fun w => (⟨rO 3, w⟩ : View.Piece (Elt Ideal) S256x512 .f32)) ?_) ?_
  · unfold kernelRun0_A.sl.v kernelRun0_A.sl.v570 kernelRun0_A.sl.v574 kernelRun0_A.sl.v576
    rfl
  refine congrArg₂ List.cons (congrArg (fun w => (⟨rO 2, w⟩ : View.Piece (Elt Ideal) S256x512 .f32)) ?_) ?_
  · unfold kernelRun0_A.sl.v554 kernelRun0_A.sl.v556 kernelRun0_A.sl.v560 kernelRun0_A.sl.v562
    rfl
  refine congrArg₂ List.cons (congrArg (fun w => (⟨rO 1, w⟩ : View.Piece (Elt Ideal) S256x512 .f32)) ?_) ?_
  · unfold kernelRun0_A.sl.v540 kernelRun0_A.sl.v542 kernelRun0_A.sl.v546 kernelRun0_A.sl.v548
    rfl
  refine congrArg₂ List.cons (congrArg (fun w => (⟨rO 0, w⟩ : View.Piece (Elt Ideal) S256x512 .f32)) ?_) rfl
  unfold kernelRun0_A.sl.v526 kernelRun0_A.sl.v528 kernelRun0_A.sl.v532 kernelRun0_A.sl.v534
  rfl

theorem runA_k {a : View sig .tc .vmem S512x2048 .bf16} (f : BufTy.Contents (Elt Ideal) a.ty) :
    a.read (Elt Ideal) (a.writes (Elt Ideal) f (kernelRun0_A.sl.HS0_1 (F := Ideal) c arg3 harg3 x1))
      = (fun y => x1 (ix3 0 (y 0) (y 1)) : Vec Ideal S512x2048 .bf16) := by
  funext y
  obtain ⟨r0, d0, rfl⟩ : ∃ (r : Fin 512) (d : Fin 2048), y = ix2 r d := ⟨y 0, y 1, by funext a; fin_cases a <;> rfl⟩
  unfold kernelRun0_A.sl.HS0_1
  have er : (Rect.unit (s := S512x2048) ![0, 0] S512x2048.size inb_S512x2048_S512x2048_0_0).emb (ix2 r0 d0) = ix2 r0 d0 :=
    Rect.emb_eq_of_coords _ _ _ (by intro a; fin_cases a <;> simp)
  have ep : ∀ v : Vec Ideal S1x512x2048 .f32, k0_pay148 (F := Ideal) v (ix2 r0 d0) = v (ix3 0 r0 d0) := fun v => by pointwise [k0_pay148]
  have ew := View.read_writes_cons_emb (Val := Elt Ideal) a f (Rect.unit (s := S512x2048) ![0, 0] S512x2048.size inb_S512x2048_S512x2048_0_0)
    (k0_pay148 (F := Ideal) (View.readAt (Elt Ideal) arg3.view (Rect.unit (s := S1x512x2048) ![0, 0, 0] S1x512x2048.size inb_S1x512x2048_S1x512x2048_0_0_0).toLoadRect (harg3.unread x1))) [] (ix2 r0 d0)
  rw [er, ep] at ew
  have el : View.ld x1 (Rect.unit (s := S1x512x2048) ![0, 0, 0] S1x512x2048.size inb_S1x512x2048_S1x512x2048_0_0_0) (ix3 0 r0 d0) = x1 (ix3 0 r0 d0) :=
    View.ld_unit_apply_of _ _ _ _ _ _ (by intro a; fin_cases a <;> simp)
  refine ew.trans ?_
  rw [View.readAt_eq_ld, Memref.IsWhole.read_unread]
  exact el

theorem runA_v {a : View sig .tc .vmem S512x2048 .bf16} (f : BufTy.Contents (Elt Ideal) a.ty) :
    a.read (Elt Ideal) (a.writes (Elt Ideal) f (kernelRun0_A.sl.HS1_1 (F := Ideal) c arg4 harg4 x2))
      = (fun y => x2 (ix3 0 (y 0) (y 1)) : Vec Ideal S512x2048 .bf16) := by
  funext y
  obtain ⟨r0, d0, rfl⟩ : ∃ (r : Fin 512) (d : Fin 2048), y = ix2 r d := ⟨y 0, y 1, by funext a; fin_cases a <;> rfl⟩
  unfold kernelRun0_A.sl.HS1_1
  have er : (Rect.unit (s := S512x2048) ![0, 0] S512x2048.size inb_S512x2048_S512x2048_0_0).emb (ix2 r0 d0) = ix2 r0 d0 :=
    Rect.emb_eq_of_coords _ _ _ (by intro a; fin_cases a <;> simp)
  have ep : ∀ v : Vec Ideal S1x512x2048 .f32, k0_pay149 (F := Ideal) v (ix2 r0 d0) = v (ix3 0 r0 d0) := fun v => by pointwise [k0_pay149]
  have ew := View.read_writes_cons_emb (Val := Elt Ideal) a f (Rect.unit (s := S512x2048) ![0, 0] S512x2048.size inb_S512x2048_S512x2048_0_0)
    (k0_pay149 (F := Ideal) (View.readAt (Elt Ideal) arg4.view (Rect.unit (s := S1x512x2048) ![0, 0, 0] S1x512x2048.size inb_S1x512x2048_S1x512x2048_0_0_0).toLoadRect (harg4.unread x2))) [] (ix2 r0 d0)
  rw [er, ep] at ew
  have el : View.ld x2 (Rect.unit (s := S1x512x2048) ![0, 0, 0] S1x512x2048.size inb_S1x512x2048_S1x512x2048_0_0_0) (ix3 0 r0 d0) = x2 (ix3 0 r0 d0) :=
    View.ld_unit_apply_of _ _ _ _ _ _ (by intro a; fin_cases a <;> simp)
  refine ew.trans ?_
  rw [View.readAt_eq_ld, Memref.IsWhole.read_unread]
  exact el

/-- What the point writes, lane by lane. -/
theorem runA_read (hR : ∀ h r n, SR x0 x3 x4 (fun y => x1 (ix3 0 (y 0) (y 1)) : Vec Ideal S512x2048 .bf16) h r n ≠ ⊤) (r : Fin 256) (e : Fin 512) :
    out0_A_5 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 (ix2 r e) = OUT x0 x3 x4 (fun y => x1 (ix3 0 (y 0) (y 1)) : Vec Ideal S512x2048 .bf16) (fun y => x2 (ix3 0 (y 0) (y 1)) : Vec Ideal S512x2048 .bf16) (i 1).val r e := by
  have e5 : arg5.view.read (Elt Ideal) (harg5.unread x3) = x3 := Memref.IsWhole.read_unread harg5 x3
  have e8 : arg8.view.read (Elt Ideal) (arg8.view.writes (Elt Ideal) arg8.view.junk (kernelRun0_A.sl.HS0_1 c arg3 harg3 x1)) = (fun y => x1 (ix3 0 (y 0) (y 1)) : Vec Ideal S512x2048 .bf16) := (runA_k c arg3 harg3 x1 _)
  have e9 : arg9.view.read (Elt Ideal) (arg9.view.writes (Elt Ideal) arg9.view.junk (kernelRun0_A.sl.HS1_1 c arg4 harg4 x2)) = (fun y => x2 (ix3 0 (y 0) (y 1)) : Vec Ideal S512x2048 .bf16) := (runA_v c arg4 harg4 x2 _)
  have e10 : ∀ h r d, arg10.view.read (Elt Ideal) (arg10.view.writes (Elt Ideal) arg10.view.junk (kernelRun0_A.sl.HS2_8 c arg2 harg2 x0)) (ix3 h r d) = qv x0 h r d :=
    qStored _ x0 _ (runA_q ..)
  have e11 : ∀ (h : Fin 8) (r : Fin 256), arg11.view.read (Elt Ideal) (arg11.view.writes (Elt Ideal) arg11.view.junk (kernelRun0_A.sl.HS3_8 c arg6 harg6 x4)) (ix3 h r 0) = x4 (ix2 r (Fin.castLE (by omega) h)) :=
    cStored _ x4 _ (runA_c ..)
  have hS : ∀ h r n, sc (harg5.unread x3) (arg8.view.writes (Elt Ideal) arg8.view.junk (kernelRun0_A.sl.HS0_1 c arg3 harg3 x1)) (arg10.view.writes (Elt Ideal) arg10.view.junk (kernelRun0_A.sl.HS2_8 c arg2 harg2 x0)) (arg11.view.writes (Elt Ideal) arg11.view.junk (kernelRun0_A.sl.HS3_8 c arg6 harg6 x4)) h r n ≠ ⊤ := fun h r n => by
    rw [sc_eq e5 e8 e10 e11]
    exact hR h r n
  have hI := all_inv (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg5.unread x3) (arg8.view.writes (Elt Ideal) arg8.view.junk (kernelRun0_A.sl.HS0_1 c arg3 harg3 x1)) (arg9.view.writes (Elt Ideal) arg9.view.junk (kernelRun0_A.sl.HS1_1 c arg4 harg4 x2)) (arg10.view.writes (Elt Ideal) arg10.view.junk (kernelRun0_A.sl.HS2_8 c arg2 harg2 x0)) (arg11.view.writes (Elt Ideal) arg11.view.junk (kernelRun0_A.sl.HS3_8 c arg6 harg6 x4)) c i (kernelRun0_A.sl.r c arg6 harg6 x4) (kernelRun0_A.sl.r_5 c arg6 harg6 x4) hS (init_inv arg12 arg13 arg14 _ _)
  rw [xm_eq e5 e8 e10 e11] at hI
  obtain ⟨-, hl, ha⟩ := hI
  unfold out0_A_5
  refine out_read x0 x3 x4 _ _ (i 1).val (i 1).isLt hR _ (arg13.view.writes (Elt Ideal) arg13.view.junk (kernelRun0_A.sl.HS5_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4)) (arg14.view.writes (Elt Ideal) arg14.view.junk (kernelRun0_A.sl.HS6_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4)) ?_ ?_ _ (runA_out ..) r e
  · rw [runA_sums, View.writes_append]
    exact hl
  · rw [runA_wsums, View.writes_append]
    intro h r l
    refine (ha h r l).trans ?_
    unfold va
    rw [e9]

theorem runA_s0 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.1 = kernelRun0_A.sl.HS0_1 c arg3 harg3 x1 := by
  unfold kernelRun0_A
  dsimp only

theorem runA_s1 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.1 = kernelRun0_A.sl.HS1_1 c arg4 harg4 x2 := by
  unfold kernelRun0_A
  dsimp only

theorem soutA_k : sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = (fun y => x1 (ix3 0 (y 0) (y 1)) : Vec Ideal S512x2048 .bf16) := by
  unfold sout0_A_0
  rw [runA_s0]
  exact runA_k c arg3 harg3 x1 _

theorem soutA_v : sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = (fun y => x2 (ix3 0 (y 0) (y 1)) : Vec Ideal S512x2048 .bf16) := by
  unfold sout0_A_1
  rw [runA_s1]
  exact runA_v c arg4 harg4 x2 _

end CaseA

end Cert.KernelIdeal.Gen
-- ==== Proof.Attn.EndsB.lean ====
module

public import proofs.«01_k».proof.Proof.Attn.Point

@[expose] public section

set_option maxRecDepth 16384

noncomputable section

namespace Cert.KernelIdeal.Gen

open Idealize.ShloMosaic Idealize.ShloMosaic.TcCoe Idealize.ShloMosaic.Tactic Idealize.SL.Sem
open Cert.Proof.Online

section CaseB

variable (c : Dev nD) (i : grid0.Coords) (arg2 : Memref sig .tc .vmem S256x512 .f32) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x8x2048 .f32) (harg5 : arg5.IsWhole) (arg6 : Memref sig .tc .vmem S256x128 .f32) (harg6 : arg6.IsWhole) (arg7 : Memref sig .tc .vmem S256x512 .f32) (harg7 : arg7.IsWhole) (arg8 : Memref sig .tc .vmem S512x2048 .bf16) (harg8 : arg8.IsWhole) (arg9 : Memref sig .tc .vmem S512x2048 .bf16) (harg9 : arg9.IsWhole) (arg10 : Memref sig .tc .vmem S8x256x128 .bf16) (harg10 : arg10.IsWhole) (arg11 : Memref sig .tc .vmem S8x256x1 .f32) (harg11 : arg11.IsWhole) (arg12 : Memref sig .tc .vmem S8x256x1 .f32) (harg12 : arg12.IsWhole) (arg13 : Memref sig .tc .vmem S8x256x1 .f32) (harg13 : arg13.IsWhole) (arg14 : Memref sig .tc .vmem S8x256x128 .f32) (harg14 : arg14.IsWhole) (hc0 : ¬cond0_0 i)     (x0 : Vec Ideal S256x512 .f32) (x1 : Vec Ideal S1x512x2048 .f32) (x2 : Vec Ideal S1x512x2048 .f32) (x3 : Vec Ideal S1x8x2048 .f32) (x4 : Vec Ideal S256x128 .f32) (xs0 : Vec Ideal S512x2048 .bf16) (xs1 : Vec Ideal S512x2048 .bf16)

theorem runB_q : kernelRun0_B.sl.HS2_8 (F := Ideal) c arg2 harg2 x0
    = heads.map fun h => ⟨rA h, qPay h (View.readAt (Elt Ideal) arg2.view (rQ h).toLoadRect (harg2.unread x0))⟩ := by
  unfold kernelRun0_B.sl.HS2_8
  rfl

theorem runB_c : kernelRun0_B.sl.HS3_8 (F := Ideal) c arg6 harg6 x4
    = heads.map fun h => ⟨r1 h, cPay h (View.readAt (Elt Ideal) arg6.view (Rect.unit (s := S256x128) ![0, 0] S256x128.size inb_S256x128_S256x128_0_0).toLoadRect (harg6.unread x4))⟩ := by
  unfold kernelRun0_B.sl.HS3_8
  rfl

theorem runB_out : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1).1
    = ([3, 2, 1, 0] : List (Fin 4)).map fun p => (⟨rO p,
      oPay p (View.readAt (Elt Ideal) arg14.view (rA (ev p)).toLoadRect (arg14.view.writes (Elt Ideal) arg14.view.junk (kernelRun0_B.sl.HS6_8 (F := Ideal) c i arg2 harg2 arg3 harg3 arg4 harg4 arg5 harg5 arg6 harg6 arg7 harg7 arg8 harg8 arg9 harg9 arg10 harg10 arg11 harg11 arg12 harg12 arg13 harg13 arg14 harg14 x0 x3 x4 xs0 xs1))) (View.readAt (Elt Ideal) arg13.view (r1 (ev p)).toLoadRect (arg13.view.writes (Elt Ideal) arg13.view.junk (kernelRun0_B.sl.HS5_8 (F := Ideal) c i arg2 harg2 arg3 harg3 arg4 harg4 arg5 harg5 arg6 harg6 arg7 harg7 arg8 harg8 arg9 harg9 arg10 harg10 arg11 harg11 arg12 harg12 arg13 harg13 arg14 harg14 x0 x3 x4 xs0 xs1)))
        (View.readAt (Elt Ideal) arg14.view (rA (od p)).toLoadRect (arg14.view.writes (Elt Ideal) arg14.view.junk (kernelRun0_B.sl.HS6_8 (F := Ideal) c i arg2 harg2 arg3 harg3 arg4 harg4 arg5 harg5 arg6 harg6 arg7 harg7 arg8 harg8 arg9 harg9 arg10 harg10 arg11 harg11 arg12 harg12 arg13 harg13 arg14 harg14 x0 x3 x4 xs0 xs1))) (View.readAt (Elt Ideal) arg13.view (r1 (od p)).toLoadRect (arg13.view.writes (Elt Ideal) arg13.view.junk (kernelRun0_B.sl.HS5_8 (F := Ideal) c i arg2 harg2 arg3 harg3 arg4 harg4 arg5 harg5 arg6 harg6 arg7 harg7 arg8 harg8 arg9 harg9 arg10 harg10 arg11 harg11 arg12 harg12 arg13 harg13 arg14 harg14 x0 x3 x4 xs0 xs1)))⟩ : View.Piece (Elt Ideal) S256x512 .f32) := by
  unfold kernelRun0_B
  dsimp only
  refine congrArg₂ List.cons (congrArg (fun w => (⟨rO 3, w⟩ : View.Piece (Elt Ideal) S256x512 .f32)) ?_) ?_
  · unfold kernelRun0_B.sl.v kernelRun0_B.sl.v570 kernelRun0_B.sl.v574 kernelRun0_B.sl.v576
    rfl
  refine congrArg₂ List.cons (congrArg (fun w => (⟨rO 2, w⟩ : View.Piece (Elt Ideal) S256x512 .f32)) ?_) ?_
  · unfold kernelRun0_B.sl.v554 kernelRun0_B.sl.v556 kernelRun0_B.sl.v560 kernelRun0_B.sl.v562
    rfl
  refine congrArg₂ List.cons (congrArg (fun w => (⟨rO 1, w⟩ : View.Piece (Elt Ideal) S256x512 .f32)) ?_) ?_
  · unfold kernelRun0_B.sl.v540 kernelRun0_B.sl.v542 kernelRun0_B.sl.v546 kernelRun0_B.sl.v548
    rfl
  refine congrArg₂ List.cons (congrArg (fun w => (⟨rO 0, w⟩ : View.Piece (Elt Ideal) S256x512 .f32)) ?_) rfl
  unfold kernelRun0_B.sl.v526 kernelRun0_B.sl.v528 kernelRun0_B.sl.v532 kernelRun0_B.sl.v534
  rfl

/-- What the point writes, lane by lane. -/
theorem runB_read (hR : ∀ h r n, SR x0 x3 x4 xs0 h r n ≠ ⊤) (r : Fin 256) (e : Fin 512) :
    out0_B_5 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 (ix2 r e) = OUT x0 x3 x4 xs0 xs1 (i 1).val r e := by
  have e5 : arg5.view.read (Elt Ideal) (harg5.unread x3) = x3 := Memref.IsWhole.read_unread harg5 x3
  have e8 : arg8.view.read (Elt Ideal) (harg8.unread xs0) = xs0 := (Memref.IsWhole.read_unread harg8 xs0)
  have e9 : arg9.view.read (Elt Ideal) (harg9.unread xs1) = xs1 := (Memref.IsWhole.read_unread harg9 xs1)
  have e10 : ∀ h r d, arg10.view.read (Elt Ideal) (arg10.view.writes (Elt Ideal) arg10.view.junk (kernelRun0_B.sl.HS2_8 c arg2 harg2 x0)) (ix3 h r d) = qv x0 h r d :=
    qStored _ x0 _ (runB_q ..)
  have e11 : ∀ (h : Fin 8) (r : Fin 256), arg11.view.read (Elt Ideal) (arg11.view.writes (Elt Ideal) arg11.view.junk (kernelRun0_B.sl.HS3_8 c arg6 harg6 x4)) (ix3 h r 0) = x4 (ix2 r (Fin.castLE (by omega) h)) :=
    cStored _ x4 _ (runB_c ..)
  have hS : ∀ h r n, sc (harg5.unread x3) (harg8.unread xs0) (arg10.view.writes (Elt Ideal) arg10.view.junk (kernelRun0_B.sl.HS2_8 c arg2 harg2 x0)) (arg11.view.writes (Elt Ideal) arg11.view.junk (kernelRun0_B.sl.HS3_8 c arg6 harg6 x4)) h r n ≠ ⊤ := fun h r n => by
    rw [sc_eq e5 e8 e10 e11]
    exact hR h r n
  have hI := all_inv (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg5.unread x3) (harg8.unread xs0) (harg9.unread xs1) (arg10.view.writes (Elt Ideal) arg10.view.junk (kernelRun0_B.sl.HS2_8 c arg2 harg2 x0)) (arg11.view.writes (Elt Ideal) arg11.view.junk (kernelRun0_B.sl.HS3_8 c arg6 harg6 x4)) c i (kernelRun0_B.sl.r c arg6 harg6 x4) (kernelRun0_B.sl.r_5 c arg6 harg6 x4) hS (init_inv arg12 arg13 arg14 _ _)
  rw [xm_eq e5 e8 e10 e11] at hI
  obtain ⟨-, hl, ha⟩ := hI
  unfold out0_B_5
  refine out_read x0 x3 x4 _ _ (i 1).val (i 1).isLt hR _ (arg13.view.writes (Elt Ideal) arg13.view.junk (kernelRun0_B.sl.HS5_8 (F := Ideal) c i arg2 harg2 arg3 harg3 arg4 harg4 arg5 harg5 arg6 harg6 arg7 harg7 arg8 harg8 arg9 harg9 arg10 harg10 arg11 harg11 arg12 harg12 arg13 harg13 arg14 harg14 x0 x3 x4 xs0 xs1)) (arg14.view.writes (Elt Ideal) arg14.view.junk (kernelRun0_B.sl.HS6_8 (F := Ideal) c i arg2 harg2 arg3 harg3 arg4 harg4 arg5 harg5 arg6 harg6 arg7 harg7 arg8 harg8 arg9 harg9 arg10 harg10 arg11 harg11 arg12 harg12 arg13 harg13 arg14 harg14 x0 x3 x4 xs0 xs1)) ?_ ?_ _ (runB_out ..) r e
  · rw [runB_sums, View.writes_append]
    exact hl
  · rw [runB_wsums, View.writes_append]
    intro h r l
    refine (ha h r l).trans ?_
    unfold va
    rw [e9]

end CaseB

end Cert.KernelIdeal.Gen
-- ==== Proof.Attn.Blocks.lean ====
/-
  What the kernel reads at each point of its grid, in terms of the arguments: the queries' lanes of the token array, the
  transposed keys and values, the running decays both ways round.
-/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Gen

open Idealize.ShloMosaic Idealize.ShloMosaic.TcCoe Idealize.SL.Sem Idealize.ShloMosaic.Tactic

variable (m : (ℓ : Loc nD τ sig) → Buf (Elt Ideal) ℓ) (c : Dev nD)

/-- The queries. -/
abbrev Qa : FVec Ideal S8x2048x8x64 .f32 := m ((c.tc : Thread nD τ).loc main_arg0)
/-- The keys. -/
abbrev Ka : FVec Ideal S8x2048x8x64 .f32 := m ((c.tc : Thread nD τ).loc main_arg1)
/-- The values. -/
abbrev Va : FVec Ideal S8x2048x8x64 .f32 := m ((c.tc : Thread nD τ).loc main_arg2)
/-- The running decays. -/
abbrev Ca : FVec Ideal S8x2048x8 .f32 := m ((c.tc : Thread nD τ).loc main_arg3)

section Ops
/-- The token array: the queries behind the other streams. -/
def tokOf (q : FVec Ideal S8x2048x8x64 .f32) : FVec Ideal S16384x4608 .f32 :=
  concatenate S16384x4608 1 [⟨S16384x4096, broadcastInDim S16384x4096 ![] bcast_S_S16384x4096 (constant (F := Ideal) S_ .f32 0x00000000#32)⟩,
    ⟨S16384x512, shapeCast S16384x512 q shapeCasts_S8x2048x8x64_S16384x512⟩] concatenates_S16384x4096_S16384x512_S16384x4608_d1
/-- A prompt's rows turned into columns. -/
def turn (k : FVec Ideal S8x2048x8x64 .f32) : FVec Ideal S8x512x2048 .f32 :=
  transpose S8x512x2048 [0, 2, 1] (shapeCast S8x2048x512 k shapeCasts_S8x2048x8x64_S8x2048x512) transposes_S8x2048x512_S8x512x2048_0_2_1
/-- The transposed keys, the transposed values and the rest, one above the other. -/
def colsOf (k v : FVec Ideal S8x2048x8x64 .f32) : FVec Ideal S8x1152x2048 .f32 :=
  concatenate S8x1152x2048 1 [⟨S8x512x2048, turn k⟩, ⟨S8x512x2048, turn v⟩,
    ⟨S8x128x2048, broadcastInDim S8x128x2048 ![] bcast_S_S8x128x2048 (constant (F := Ideal) S_ .f32 0x00000000#32)⟩]
    concatenates_S8x512x2048_S8x512x2048_S8x128x2048_S8x1152x2048_d1
/-- The running decays by row, in wider rows. -/
def padOf (x : FVec Ideal S8x2048x8 .f32) : FVec Ideal S16384x128 .f32 :=
  pad S16384x128 ![0, 0] ![0, 120] ![0, 0] (shapeCast S16384x8 x shapeCasts_S8x2048x8_S16384x8) (sitofp (F := Ideal) .f32 (constantI S_ 32 0#32))
    pads_S16384x8_S16384x128_000_01200 h_S_

theorem tokOf_apply (q : FVec Ideal S8x2048x8x64 .f32) (g : Fin 16384) (e : Fin 512) :
    tokOf q (ix2 g ⟨4096 + e.val, by omega⟩) = q (ix4 ⟨g / 2048, by omega⟩ ⟨g % 2048, by omega⟩ ⟨e / 64, by omega⟩ ⟨e % 64, by omega⟩) := by
  pointwise [tokOf]

theorem turn_apply (k : FVec Ideal S8x2048x8x64 .f32) (b : Fin 8) (e : Fin 512) (n : Fin 2048) :
    turn k (ix3 b e n) = k (ix4 b n ⟨e / 64, by omega⟩ ⟨e % 64, by omega⟩) := by
  pointwise [turn]

theorem colsOf_k (k v : FVec Ideal S8x2048x8x64 .f32) (b : Fin 8) (e : Fin 512) (n : Fin 2048) :
    colsOf k v (ix3 b ⟨e.val, by omega⟩ n) = turn k (ix3 b e n) := by
  pointwise [colsOf]

theorem colsOf_v (k v : FVec Ideal S8x2048x8x64 .f32) (b : Fin 8) (e : Fin 512) (n : Fin 2048) :
    colsOf k v (ix3 b ⟨512 + e.val, by omega⟩ n) = turn v (ix3 b e n) := by
  pointwise [colsOf]

theorem padOf_apply (x : FVec Ideal S8x2048x8 .f32) (g : Fin 16384) (h : Fin 8) :
    padOf x (ix2 g ⟨h.val, by omega⟩) = x (ix3 ⟨g / 2048, by omega⟩ ⟨g % 2048, by omega⟩ h) := by
  pointwise [padOf]

end Ops

theorem V_tok : V m c main_v2 = tokOf (Qa m c) := by
  entry_read
  rfl

theorem V_cols : V m c main_v8 = colsOf (Ka m c) (Va m c) := by
  entry_read
  rfl

theorem V_ct : V m c main_v9 = transpose S8x8x2048 [0, 2, 1] (Ca m c) transposes_S8x2048x8_S8x8x2048_0_2_1 := by
  show StableHlo.after _ _ (Proc.devRef .tc main_v9) = _
  after_results
  all_goals rfl

theorem ct_apply (x : FVec Ideal S8x2048x8 .f32) (b h : Fin 8) (n : Fin 2048) :
    transpose S8x8x2048 [0, 2, 1] x transposes_S8x2048x8_S8x8x2048_0_2_1 (ix3 b h n) = x (ix3 b n h) := by
  pointwise

theorem V_ccol : V m c main_v11 = padOf (Ca m c) := by
  entry_read
  rfl

theorem t_lt (t : Fin cfg0.N) : t.val < 64 := t.isLt.trans_eq N_0

theorem winIdx0 : ∀ t : Fin cfg0.N, win0_0.index t (0 : Fin 2) = t.val ∧ win0_0.index t (1 : Fin 2) = 8 :=
  (by decide +kernel : ∀ t : Fin grid0.N, _)
theorem winIdx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem winIdx2 : ∀ t : Fin cfg0.N, win0_2.index t (0 : Fin 3) = t.val / 8 ∧ win0_2.index t (1 : Fin 3) = 1 ∧ win0_2.index t (2 : Fin 3) = 0 :=
  (by decide +kernel : ∀ t : Fin grid0.N, _)
theorem winIdx3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem winIdx4 : ∀ t : Fin cfg0.N, win0_4.index t (0 : Fin 2) = t.val ∧ win0_4.index t (1 : Fin 2) = 0 :=
  (by decide +kernel : ∀ t : Fin grid0.N, _)

/-- The batch member a point works on. -/
def bt (t : Fin cfg0.N) : Fin 8 := ⟨t.val / 8, by have := t_lt t; omega⟩
/-- A query's position in the prompt. -/
def qp (t : Fin cfg0.N) (r : Fin 256) : Fin 2048 := ⟨256 * (t.val % 8) + r.val, by omega⟩

theorem blk0 (t : Fin cfg0.N) (r : Fin 256) (e : Fin 512) :
    (iblk m c 0 t : Vec Ideal S256x512 .f32) (ix2 r e) = Qa m c (ix4 (bt t) (qp t r) ⟨e / 64, by omega⟩ ⟨e % 64, by omega⟩) := by
  have h64 := t_lt t
  have hi := winIdx0 t
  have e1 : (iblk m c 0 t : Vec Ideal S256x512 .f32) (ix2 r e)
      = V m c main_v2 (ix2 ⟨256 * t.val + r.val, by omega⟩ ⟨4096 + e.val, by omega⟩) := by
    refine congrArg (V m c main_v2) (funext fun a => Fin.ext ?_)
    match a with
    | ⟨0, _⟩ => show win0_0.index t (0 : Fin 2) * 256 + 1 * r.val = _; rw [hi.1]; show _ = 256 * t.val + r.val; omega
    | ⟨1, _⟩ => show win0_0.index t (1 : Fin 2) * 512 + 1 * e.val = _; rw [hi.2]; show _ = 4096 + e.val; omega
  rw [e1, V_tok, tokOf_apply]
  congr 2 <;> apply Fin.ext <;> simp only [bt, qp] <;> omega

theorem blk3 (t : Fin cfg0.N) (h : Fin 8) (n : Fin 2048) :
    (iblk m c 3 t : Vec Ideal S1x8x2048 .f32) (ix3 0 h n) = Ca m c (ix3 (bt t) n h) := by
  have hi := winIdx3 t
  have e1 : (iblk m c 3 t : Vec Ideal S1x8x2048 .f32) (ix3 0 h n) = V m c main_v9 (ix3 (bt t) h n) := by
    refine congrArg (V m c main_v9) (funext fun a => Fin.ext ?_)
    match a with
    | ⟨0, _⟩ => show win0_3.index t (0 : Fin 3) * 1 + 1 * 0 = _; rw [hi.1]; show _ = t.val / 8; omega
    | ⟨1, _⟩ => show win0_3.index t (1 : Fin 3) * 8 + 1 * h.val = _; rw [hi.2.1]; show _ = h.val; omega
    | ⟨2, _⟩ => show win0_3.index t (2 : Fin 3) * 2048 + 1 * n.val = _; rw [hi.2.2]; show _ = n.val; omega
  rw [e1, V_ct, ct_apply]

theorem blk4 (t : Fin cfg0.N) (r : Fin 256) (h : Fin 8) :
    (iblk m c 4 t : Vec Ideal S256x128 .f32) (ix2 r (Fin.castLE (by omega) h)) = Ca m c (ix3 (bt t) (qp t r) h) := by
  have h64 := t_lt t
  have hi := winIdx4 t
  have e1 : (iblk m c 4 t : Vec Ideal S256x128 .f32) (ix2 r (Fin.castLE (by omega) h))
      = V m c main_v11 (ix2 ⟨256 * t.val + r.val, by omega⟩ ⟨h.val, by omega⟩) := by
    refine congrArg (V m c main_v11) (funext fun a => Fin.ext ?_)
    match a with
    | ⟨0, _⟩ => show win0_4.index t (0 : Fin 2) * 256 + 1 * r.val = _; rw [hi.1]; show _ = 256 * t.val + r.val; omega
    | ⟨1, _⟩ => show win0_4.index t (1 : Fin 2) * 128 + 1 * h.val = _; rw [hi.2]; show _ = h.val; omega
  rw [e1, V_ccol, padOf_apply]
  congr 2 <;> apply Fin.ext <;> simp only [bt, qp] <;> omega

theorem blk1 (t : Fin cfg0.N) (e : Fin 512) (n : Fin 2048) :
    (X0_1 m c t : Vec Ideal S1x512x2048 .f32) (ix3 0 e n) = turn (Ka m c) (ix3 (bt t) e n) := by
  have hi := winIdx1 t
  have e1 : (X0_1 m c t : Vec Ideal S1x512x2048 .f32) (ix3 0 e n) = V m c main_v8 (ix3 (bt t) ⟨e.val, by omega⟩ n) := by
    unfold X0_1 Pipeline.Window.fill
    refine (dif_pos (moved0_1 t _)).trans ?_
    refine congrArg (V m c main_v8) (funext fun a => Fin.ext ?_)
    match a with
    | ⟨0, _⟩ => show win0_1.index t (0 : Fin 3) * 1 + 1 * 0 = _; rw [hi.1]; show _ = t.val / 8; omega
    | ⟨1, _⟩ => show win0_1.index t (1 : Fin 3) * 512 + 1 * e.val = _; rw [hi.2.1]; show _ = e.val; omega
    | ⟨2, _⟩ => show win0_1.index t (2 : Fin 3) * 2048 + 1 * n.val = _; rw [hi.2.2]; show _ = n.val; omega
  rw [e1, V_cols, colsOf_k]

theorem blk2 (t : Fin cfg0.N) (e : Fin 512) (n : Fin 2048) :
    (X0_2 m c t : Vec Ideal S1x512x2048 .f32) (ix3 0 e n) = turn (Va m c) (ix3 (bt t) e n) := by
  have hi := winIdx2 t
  have e1 : (X0_2 m c t : Vec Ideal S1x512x2048 .f32) (ix3 0 e n) = V m c main_v8 (ix3 (bt t) ⟨512 + e.val, by omega⟩ n) := by
    unfold X0_2 Pipeline.Window.fill
    refine (dif_pos (moved0_2 t _)).trans ?_
    refine congrArg (V m c main_v8) (funext fun a => Fin.ext ?_)
    match a with
    | ⟨0, _⟩ => show win0_2.index t (0 : Fin 3) * 1 + 1 * 0 = _; rw [hi.1]; show _ = t.val / 8; omega
    | ⟨1, _⟩ => show win0_2.index t (1 : Fin 3) * 512 + 1 * e.val = _; rw [hi.2.1]; show _ = 512 + e.val; omega
    | ⟨2, _⟩ => show win0_2.index t (2 : Fin 3) * 2048 + 1 * n.val = _; rw [hi.2.2]; show _ = n.val; omega
  rw [e1, V_cols, colsOf_v]

end Cert.KernelIdeal.Gen
-- ==== Proof.Attn.Ref.lean ====
/-
  The reference's attention read at one row and one lane: the normalised weights of the row's scores times the values.
-/
module

public import proofs.«01_k».proof.Proof.Gen.ReferenceIdeal.Run
public import proofs.«01_k».proof.Proof.Online
public import Idealize.ShloMosaic.Lib.Pipeline.ValueKit
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Cert.Proof.Online

section Ops

variable {F : FTy → Type} [FloatOps F]

/-- Which keys a query sees. -/
def seen : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The scores, before the mask. -/
def raw (q k : FVec F S8x2048x8x64 .f32) (c : FVec F S8x2048x8 .f32) : FVec F S8x8x2048x2048 .f32 :=
  subf (addf (mulf (Host.dotGeneral dot_S8x2048x8x64_S8x2048x8x64_S8x8x2048x2048_3_3_1_1_02_02 none q k)
      (broadcastInDim S8x8x2048x2048 ![] bcast_S_S8x8x2048x2048 (constant S_ .f32 0x3E000000#32)))
    (broadcastInDim S8x8x2048x2048 ![0, 1, 2, 3] bcast_S8x8x2048x1_S8x8x2048x2048_0_1_2_3
      (broadcastInDim S8x8x2048x1 ![0, 1, 2] bcast_S8x8x2048_S8x8x2048x1_0_1_2 (transpose S8x8x2048 [0, 2, 1] c transposes_S8x2048x8_S8x8x2048_0_2_1))))
    (broadcastInDim S8x8x2048x2048 ![0, 1, 2, 3] bcast_S8x8x1x2048_S8x8x2048x2048_0_1_2_3
      (broadcastInDim S8x8x1x2048 ![0, 1, 3] bcast_S8x8x2048_S8x8x1x2048_0_1_3 (transpose S8x8x2048 [0, 2, 1] c transposes_S8x2048x8_S8x8x2048_0_2_1)))

/-- The scores, those of later keys at minus infinity. -/
def scores (q k : FVec F S8x2048x8x64 .f32) (c : FVec F S8x2048x8 .f32) : FVec F S8x8x2048x2048 .f32 :=
  select (broadcastInDim S8x8x2048x2048 ![2, 3] bcast_S2048x2048_S8x8x2048x2048_2_3 seen) (raw q k c)
    (broadcastInDim S8x8x2048x2048 ![] bcast_S_S8x8x2048x2048 (id (constant S_ .f32 0xFF800000#32)))

/-- A row's maximum. -/
def rowMax (s : FVec F S8x8x2048x2048 .f32) : FVec F S8x8x2048 .f32 :=
  maximumf (broadcastInDim S8x8x2048 ![] bcast_S_S8x8x2048 (constant S_ .f32 0xFF800000#32))
    (Host.reduce FloatOps.maximumf s (constant S_ .f32 0xFF800000#32) reducesTo_S8x8x2048x2048_S8x8x2048_d3 h_S_)

/-- A number per row, spread along the row. -/
def spread (x : FVec F S8x8x2048 .f32) : FVec F S8x8x2048x2048 .f32 :=
  broadcastInDim S8x8x2048x2048 ![0, 1, 2, 3] bcast_S8x8x2048x1_S8x8x2048x2048_0_1_2_3
    (broadcastInDim S8x8x2048x1 ![0, 1, 2] bcast_S8x8x2048_S8x8x2048x1_0_1_2 x)

/-- The weights before normalising. -/
def expo (s : FVec F S8x8x2048x2048 .f32) : FVec F S8x8x2048x2048 .f32 := Host.exp (subf s (spread (rowMax s)))

/-- A row's sum of weights. -/
def rowSum (p : FVec F S8x8x2048x2048 .f32) : FVec F S8x8x2048 .f32 :=
  Host.reduceAdd p (constant S_ .f32 0x00000000#32) reducesTo_S8x8x2048x2048_S8x8x2048_d3 h_S_

/-- The attention of the normalised weights. -/
def mix (v : FVec F S8x2048x8x64 .f32) (p : FVec F S8x8x2048x2048 .f32) : FVec F S16384x512 .f32 :=
  shapeCast _ (transpose S8x2048x8x64 [0, 3, 1, 2]
    (Host.dotGeneral dot_S8x2048x8x64_S8x8x2048x2048_S8x8x64x2048_1_3_3_2_02_01 none v p)
    transposes_S8x8x64x2048_S8x2048x8x64_0_3_1_2) shapeCasts_S8x2048x8x64_S16384x512

theorem res_eq (m : (ℓ : Loc nD τ sig) → Buf (Elt F) ℓ) (c : Dev nD) :
    Value.res_main_v30 m c = mix (m ((c.tc : Thread nD τ).loc main_arg2))
      (Host.divf (expo (scores (m ((c.tc : Thread nD τ).loc main_arg0)) (m ((c.tc : Thread nD τ).loc main_arg1)) (m ((c.tc : Thread nD τ).loc main_arg3))))
        (spread (rowSum (expo (scores (m ((c.tc : Thread nD τ).loc main_arg0)) (m ((c.tc : Thread nD τ).loc main_arg1)) (m ((c.tc : Thread nD τ).loc main_arg3))))))) := rfl

end Ops

theorem ofBits_negInf : Ideal.ofBits FTy.f32 0xFF800000#32 = ⊥ := by
  simp [Ideal.ofBits, Ideal.ieee]

theorem raw_apply (q k : FVec Ideal S8x2048x8x64 .f32) (c : FVec Ideal S8x2048x8 .f32) (b h : Fin 8) (i j : Fin 2048) :
    raw q k c (ix4 b h i j) = (∑ d : Fin 64, q (ix4 b i h d) * k (ix4 b j h d)) * Ideal.ofBits .f32 0x3E000000#32
      + c (ix3 b i h) - c (ix3 b j h) := by
  pointwise [raw]

theorem scores_apply (q k : FVec Ideal S8x2048x8x64 .f32) (c : FVec Ideal S8x2048x8 .f32) (b h : Fin 8) (i j : Fin 2048) :
    scores q k c (ix4 b h i j) = if j ≤ i then raw q k c (ix4 b h i j) else ⊥ := by
  pointwise [scores, seen]
  rw [show id (constant (F := Ideal) S_ FTy.f32 4286578688#32) ix0 = (⊥ : EReal) from ofBits_negInf]
  rw [Idealize.ShloMosaic.WordCmp.cmpi_sle_ofNat (by omega) (by omega)]
  by_cases h : j ≤ i
  · rw [if_pos h, decide_eq_true (show (j : ℕ) ≤ i from h)]; rfl
  · rw [if_neg h, decide_eq_false (show ¬ (j : ℕ) ≤ i from h)]; rfl

/-- A fold of maxima from minus infinity is the supremum. -/
theorem fold_max_bot {n : ℕ} (f : Fin n → EReal) : Finset.univ.fold max ⊥ f = Finset.univ.sup f := rfl

theorem reduce_max {n0 n1 n2 n3 : ℕ} {u : Shape} (f : EReal → EReal → EReal) (hf : f = max)
    (s : (⟨4, ![n0, n1, n2, n3]⟩ : Shape).Idx → EReal) (z : u.Idx → EReal)
    (h : (⟨4, ![n0, n1, n2, n3]⟩ : Shape).ReducesTo [3] ⟨3, ![n0, n1, n2]⟩) (hu : 0 < u.numel) (hz : z (Shape.Idx.first hu) = ⊥)
    (b : Fin n0) (g : Fin n1) (i : Fin n2) :
    Host.reduce f s z h hu (ix3 b g i) = Finset.univ.sup fun k : Fin n3 => s (ix4 b g i k) := by
  subst hf
  have h' : (⟨4, ![n0, n1, n2, n3]⟩ : Shape).Reduces [3] ⟨3, ![n0, n1, n2]⟩ := ⟨rfl, Nat.succ_pos _, h.2⟩
  rw [Host.reduce_eq_fold, Shape.ReducesTo.drop_eq_drop h h', hz]
  exact h'.fold_fiber_r4_a3 _ _ _ _

theorem maximumf_at {t : Shape} (a b : FVec Ideal t .f32) (j : t.Idx) : maximumf a b j = max (a j) (b j) := rfl

theorem rowMax_apply (s : FVec Ideal S8x8x2048x2048 .f32) (b h : Fin 8) (i : Fin 2048) :
    rowMax s (ix3 b h i) = Finset.univ.sup fun j : Fin 2048 => s (ix4 b h i j) := by
  have e0 : ∀ j, broadcastInDim S8x8x2048 ![] bcast_S_S8x8x2048 (constant (F := Ideal) S_ .f32 0xFF800000#32) j = (⊥ : EReal) :=
    fun _ => ofBits_negInf
  have e1 := reduce_max (FloatOps.maximumf (F := Ideal) (φ := .f32)) Ideal.maximumf_eq_max s (constant (F := Ideal) S_ .f32 0xFF800000#32)
    reducesTo_S8x8x2048x2048_S8x8x2048_d3 h_S_ ofBits_negInf b h i
  unfold rowMax
  refine (maximumf_at _ _ _).trans ((congrArg₂ max (e0 _) e1).trans (max_bot_left _))

theorem expo_apply (s : FVec Ideal S8x8x2048x2048 .f32) (b h : Fin 8) (i j : Fin 2048) :
    expo s (ix4 b h i j) = Ideal.exp (s (ix4 b h i j) - rowMax s (ix3 b h i)) := by
  pointwise [expo, spread]

theorem rowSum_apply (p : FVec Ideal S8x8x2048x2048 .f32) (b h : Fin 8) (i : Fin 2048) :
    rowSum p (ix3 b h i) = ∑ j : Fin 2048, p (ix4 b h i j) := by
  pointwise [rowSum]

theorem div_apply (p : FVec Ideal S8x8x2048x2048 .f32) (z : FVec Ideal S8x8x2048 .f32) (b h : Fin 8) (i j : Fin 2048) :
    Host.divf p (spread z) (ix4 b h i j) = Ideal.div (p (ix4 b h i j)) (z (ix3 b h i)) := by
  pointwise [spread]

theorem mix_apply (v : FVec Ideal S8x2048x8x64 .f32) (p : FVec Ideal S8x8x2048x2048 .f32) (g : Fin 16384) (e : Fin 512) :
    mix v p (ix2 g e) = ∑ j : Fin 2048, v (ix4 ⟨g / 2048, by omega⟩ j ⟨e / 64, by omega⟩ ⟨e % 64, by omega⟩)
      * p (ix4 ⟨g / 2048, by omega⟩ ⟨e / 64, by omega⟩ ⟨g % 2048, by omega⟩ j) := by
  pointwise [mix]

/-- The reference at one row and lane, over the row's scores as a sequence `x` and the lane's values `w`. -/
theorem res_apply (q k v : FVec Ideal S8x2048x8x64 .f32) (c : FVec Ideal S8x2048x8 .f32) (g : Fin 16384) (e : Fin 512)
    (x w : ℕ → EReal)
    (hx : ∀ j : Fin 2048, x j.val = scores q k c (ix4 ⟨g / 2048, by omega⟩ ⟨e / 64, by omega⟩ ⟨g % 2048, by omega⟩ j))
    (hw : ∀ j : Fin 2048, w j.val = v (ix4 ⟨g / 2048, by omega⟩ j ⟨e / 64, by omega⟩ ⟨e % 64, by omega⟩))
    (ht : ∀ j, j < 2048 → x j ≠ ⊤) (h0 : x 0 ≠ ⊥) :
    mix v (Host.divf (expo (scores q k c)) (spread (rowSum (expo (scores q k c))))) (ix2 g e)
      = Ideal.div (A x w 2048) (A x (fun _ => 1) 2048) := by
  have hM : rowMax (scores q k c) (ix3 ⟨g / 2048, by omega⟩ ⟨e / 64, by omega⟩ ⟨g % 2048, by omega⟩) = M x 2048 := by
    rw [rowMax_apply]
    have := M_add x 0 2048
    rw [M_zero, Nat.zero_add] at this
    rw [this, max_bot_left]
    exact Finset.sup_congr rfl fun j _ => by rw [Nat.zero_add]; exact (hx j).symm
  have hp : ∀ j : Fin 2048, expo (scores q k c) (ix4 ⟨g / 2048, by omega⟩ ⟨e / 64, by omega⟩ ⟨g % 2048, by omega⟩ j)
      = Ideal.exp (x j.val - M x 2048) := fun j => by
    rw [expo_apply, hM, hx j]
  have hS : rowSum (expo (scores q k c)) (ix3 ⟨g / 2048, by omega⟩ ⟨e / 64, by omega⟩ ⟨g % 2048, by omega⟩)
      = A x (fun _ => 1) 2048 := by
    rw [rowSum_apply]; unfold A
    rw [Finset.sum_range]
    exact Finset.sum_congr rfl fun j _ => by rw [hp j, mul_one]
  rw [quot x w (by omega) ht h0, mix_apply, Finset.sum_range]
  refine Finset.sum_congr rfl fun j _ => ?_
  rw [div_apply, hp j, hS, hw j, mul_comm]

end Cert.ReferenceIdeal.Attn
-- ==== Proof.Attn.Out.lean ====
/-
  The kernel's result at every row and lane, for finite queries, keys and decays: the quotient of the two sums over the
  row's scores, which are the reference's.
-/
module

public import proofs.«01_k».proof.Proof.Attn.EndsA
public import proofs.«01_k».proof.Proof.Attn.EndsB
public import proofs.«01_k».proof.Proof.Attn.Blocks
public import proofs.«01_k».proof.Proof.Attn.Ref
public import proofs.«01_k».proof.Proof.Gen.KernelIdeal.Value

@[expose] public section

set_option maxRecDepth 16384

noncomputable section

namespace Cert.KernelIdeal.Gen

open Idealize.ShloMosaic Idealize.ShloMosaic.TcCoe Idealize.SL.Sem Idealize.ShloMosaic.Tactic
open Cert.Proof.Online

/-! ## The scratch -/

variable (m : (ℓ : Loc nD τ sig) → Buf (Elt Ideal) ℓ) (c : Dev nD)

/-- A batch member's keys, a column per position. -/
def kbOf (b : Fin 8) : Vec Ideal S512x2048 .bf16 := fun y => turn (Ka m c) (ix3 b (y 0) (y 1))
/-- A batch member's values, a column per position. -/
def vbOf (b : Fin 8) : Vec Ideal S512x2048 .bf16 := fun y => turn (Va m c) (ix3 b (y 0) (y 1))

theorem kb_of (t : Fin cfg0.N) :
    (fun y => (X0_1 m c t : Vec Ideal S1x512x2048 .f32) (ix3 0 (y 0) (y 1)) : Vec Ideal S512x2048 .bf16) = kbOf m c (bt t) :=
  funext fun y => blk1 m c t (y 0) (y 1)

theorem vb_of (t : Fin cfg0.N) :
    (fun y => (X0_2 m c t : Vec Ideal S1x512x2048 .f32) (ix3 0 (y 0) (y 1)) : Vec Ideal S512x2048 .bf16) = vbOf m c (bt t) :=
  funext fun y => blk2 m c t (y 0) (y 1)

theorem scrA (t : Fin cfg0.N) (h0 : t.val % 8 = 0) :
    (outsAt0 m c t.val t.isLt).2.1 = kbOf m c (bt t) ∧ (outsAt0 m c t.val t.isLt).2.2 = vbOf m c (bt t) := by
  rw [outsAt0_A m c t h0]
  dsimp only
  rw [soutA_k, soutA_v, kb_of, vb_of]
  exact ⟨rfl, rfl⟩

theorem scrB (t : Fin cfg0.N) (h0 : ¬t.val % 8 = 0) :
    (outsAt0 m c t.val t.isLt).2.1 = (outsAt0 m c (t.val - 1) (Nat.lt_of_le_of_lt (Nat.sub_le _ _) t.isLt)).2.1
      ∧ (outsAt0 m c t.val t.isLt).2.2 = (outsAt0 m c (t.val - 1) (Nat.lt_of_le_of_lt (Nat.sub_le _ _) t.isLt)).2.2 := by
  rw [outsAt0_B m c t h0]
  dsimp only [sout0_B_0, sout0_B_1]
  exact ⟨rfl, rfl⟩

theorem scr (n : ℕ) : ∀ hn : n < cfg0.N, (outsAt0 m c n hn).2.1 = kbOf m c (bt ⟨n, hn⟩) ∧ (outsAt0 m c n hn).2.2 = vbOf m c (bt ⟨n, hn⟩) := by
  induction n using Nat.strong_induction_on with
  | _ n ih =>
    intro hn
    by_cases h0 : n % 8 = 0
    · exact scrA m c ⟨n, hn⟩ h0
    · have e := scrB m c ⟨n, hn⟩ h0
      have hb : bt ⟨n - 1, Nat.lt_of_le_of_lt (Nat.sub_le _ _) hn⟩ = bt ⟨n, hn⟩ := by
        apply Fin.ext; simp only [bt]; omega
      have hi := ih (n - 1) (by omega) (Nat.lt_of_le_of_lt (Nat.sub_le _ _) hn)
      rw [hb] at hi
      exact ⟨e.1.trans hi.1, e.2.trans hi.2⟩

/-! ## The scores -/

/-- The scores before the mask, as the reference has them. -/
abbrev rawA : FVec Ideal Cert.ReferenceIdeal.S8x8x2048x2048 .f32 := Cert.ReferenceIdeal.Attn.raw (F := Ideal) (Qa m c) (Ka m c) (Ca m c)

theorem qs_nonneg : 0 ≤ qs := by
  unfold qs
  simp [Ideal.ofBits, Ideal.ieee]
  try positivity

theorem qs_real : ∃ r : ℝ, qs = (r : EReal) := by
  unfold qs
  simp [Ideal.ofBits, Ideal.ieee]
  exact ⟨_, (EReal.coe_mul _ _).symm⟩

theorem SR_eq (t : Fin cfg0.N) (h : Fin 8) (r : Fin 256) (n : ℕ) :
    SR (iblk m c 0 t) (iblk m c 3 t) (iblk m c 4 t) (kbOf m c (bt t)) h r n = rawA m c (ix4 (bt t) h (qp t r) (pos n)) := by
  unfold rawA
  rw [Cert.ReferenceIdeal.Attn.raw_apply]
  unfold SR
  rw [blk3, blk4]
  refine congrArg (fun s : EReal => s + Ca m c (ix3 (bt t) (qp t r) h) - Ca m c (ix3 (bt t) (pos n) h)) ?_
  refine Eq.trans ?_ (sum_mul _ _ qs_nonneg (by obtain ⟨r, e⟩ := qs_real; rw [e]; exact EReal.coe_ne_top r)).symm
  refine Finset.sum_congr rfl fun d _ => ?_
  have h1 : (⟨(hl h d).val / 64, by omega⟩ : Fin 8) = h := by apply Fin.ext; simp only [hl]; omega
  have h2 : (⟨(hl h d).val % 64, by omega⟩ : Fin 64) = d := by apply Fin.ext; simp only [hl]; omega
  rw [blk0, h1, h2]
  have hk : kbOf m c (bt t) (ix2 (hl h d) (pos n)) = Ka m c (ix4 (bt t) (pos n) h d) := by
    refine (turn_apply (Ka m c) (bt t) (hl h d) (pos n)).trans ?_
    rw [h1, h2]
  rw [hk]
  exact mul_right_comm _ _ _

/-! ## Finite scores -/

theorem sum_real {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨x, hx⟩ := ih
    obtain ⟨y, hy⟩ := h a
    exact ⟨y + x, by rw [Finset.sum_insert ha, hx, hy, EReal.coe_add]⟩

theorem raw_real (hQ : ∀ i, ∃ r : ℝ, Qa m c i = r) (hK : ∀ i, ∃ r : ℝ, Ka m c i = r) (hC : ∀ i, ∃ r : ℝ, Ca m c i = r)
    (b h : Fin 8) (i j : Fin 2048) : ∃ r : ℝ, rawA m c (ix4 b h i j) = r := by
  unfold rawA
  rw [Cert.ReferenceIdeal.Attn.raw_apply]
  obtain ⟨x, hx⟩ := sum_real Finset.univ (fun d : Fin 64 => Qa m c (ix4 b i h d) * Ka m c (ix4 b j h d)) fun d => by
    obtain ⟨a, ha⟩ := hQ (ix4 b i h d)
    obtain ⟨k, hk⟩ := hK (ix4 b j h d)
    exact ⟨a * k, by rw [ha, hk, EReal.coe_mul]⟩
  obtain ⟨y, hy⟩ := hC (ix3 b i h)
  obtain ⟨z, hz⟩ := hC (ix3 b j h)
  obtain ⟨w, hw⟩ := qs_real
  refine ⟨x * w + y - z, ?_⟩
  rw [hx, hy, hz, EReal.coe_sub, EReal.coe_add, EReal.coe_mul, ← hw]
  rfl

/-! ## The result -/

theorem coord1 (t : Fin cfg0.N) : (grid0.coords t 1).val = t.val % 8 :=
  (by decide +kernel : ∀ t : Fin grid0.N, (grid0.coords t 1).val = t.val % 8) t

theorem out_pt (t : Fin cfg0.N)
    (hR : ∀ h r n, SR (iblk m c 0 t) (iblk m c 3 t) (iblk m c 4 t) (kbOf m c (bt t)) h r n ≠ ⊤) (r : Fin 256) (e : Fin 512) :
    (outsAt0 m c t.val t.isLt).1 (ix2 r e)
      = OUT (iblk m c 0 t) (iblk m c 3 t) (iblk m c 4 t) (kbOf m c (bt t)) (vbOf m c (bt t)) (t.val % 8) r e := by
  by_cases h0 : t.val % 8 = 0
  · rw [outsAt0_A m c t h0]
    dsimp only
    refine (runA_read (hR := fun h r n => by rw [kb_of]; exact hR h r n) (r := r) (e := e) ..).trans ?_
    rw [kb_of, vb_of, coord1]
  · have hb : bt ⟨t.val - 1, Nat.lt_of_le_of_lt (Nat.sub_le _ _) t.isLt⟩ = bt t := by
      apply Fin.ext; simp only [bt]; omega
    have hs := scr m c (t.val - 1) (Nat.lt_of_le_of_lt (Nat.sub_le _ _) t.isLt)
    rw [hb] at hs
    rw [outsAt0_B m c t h0]
    dsimp only
    rw [hs.1, hs.2]
    refine (runB_read (hR := hR) (r := r) (e := e) ..).trans ?_
    rw [coord1]

theorem pos_val (j : Fin 2048) : pos j.val = j := Fin.ext (Nat.mod_eq_of_lt j.isLt)

/-- The kernel's result at a row and lane is the reference's. -/
theorem G5_apply (hQ : ∀ i, ∃ r : ℝ, Qa m c i = r) (hK : ∀ i, ∃ r : ℝ, Ka m c i = r) (hC : ∀ i, ∃ r : ℝ, Ca m c i = r)
    (g : Fin 16384) (e : Fin 512) :
    Value.G5 m c (ix2 g e) = Cert.ReferenceIdeal.Attn.mix (F := Ideal) (Va m c)
      (Host.divf (Cert.ReferenceIdeal.Attn.expo (Cert.ReferenceIdeal.Attn.scores (Qa m c) (Ka m c) (Ca m c)))
        (Cert.ReferenceIdeal.Attn.spread (Cert.ReferenceIdeal.Attn.rowSum (Cert.ReferenceIdeal.Attn.expo
          (Cert.ReferenceIdeal.Attn.scores (Qa m c) (Ka m c) (Ca m c)))))) (ix2 g e) := by
  have hN : g.val / 256 < cfg0.N := by rw [show cfg0.N = 64 from N_0]; omega
  have hraw := raw_real m c hQ hK hC
  have hRt : ∀ h r n, SR (iblk m c 0 ⟨g.val / 256, hN⟩) (iblk m c 3 ⟨g.val / 256, hN⟩) (iblk m c 4 ⟨g.val / 256, hN⟩)
      (kbOf m c (bt ⟨g.val / 256, hN⟩)) h r n ≠ ⊤ := fun h r n => by
    rw [SR_eq]
    obtain ⟨x, hx⟩ := hraw (bt ⟨g.val / 256, hN⟩) h (qp ⟨g.val / 256, hN⟩ r) (pos n)
    rw [hx]
    exact EReal.coe_ne_top x
  have hG : Value.G5 m c (ix2 g e) = (outsAt0 m c (g.val / 256) hN).1 (ix2 ⟨g.val % 256, by omega⟩ e) := by
    have hp : Value.pt5Of (ix2 g e) = g.val / 256 := by
      show 1 * (g.val / 256 - 0) + 1 * (e.val / 512 - 0) = _
      omega
    have hl : Value.loc5Of (ix2 g e) = ix2 ⟨g.val % 256, by omega⟩ e := by
      funext a
      apply Fin.ext
      match a with
      | ⟨0, _⟩ => rfl
      | ⟨1, _⟩ => exact Nat.mod_eq_of_lt e.isLt
    unfold Value.G5
    rw [dif_pos (by rw [hp]; exact hN), hl, ← Value.outsAt0_sweep m c _ (by rw [hp]; exact hN)]
    have hh : ∀ (n : ℕ) (hn : n < cfg0.N), n = g.val / 256 → (outsAt0 m c n hn).1 (ix2 ⟨g.val % 256, by omega⟩ e)
        = (outsAt0 m c (g.val / 256) hN).1 (ix2 ⟨g.val % 256, by omega⟩ e) := fun n hn h => by
      subst h
      rfl
    exact hh _ _ hp
  rw [hG]
  refine (out_pt m c ⟨g.val / 256, hN⟩ hRt ⟨g.val % 256, by omega⟩ e).trans ?_
  have hb : bt ⟨g.val / 256, hN⟩ = ⟨g.val / 2048, by omega⟩ := by apply Fin.ext; simp only [bt]; omega
  have hq : qp ⟨g.val / 256, hN⟩ ⟨g.val % 256, by omega⟩ = ⟨g.val % 2048, by omega⟩ := by apply Fin.ext; simp only [qp]; omega
  have hS : ∀ n, SX (iblk m c 0 ⟨g.val / 256, hN⟩) (iblk m c 3 ⟨g.val / 256, hN⟩) (iblk m c 4 ⟨g.val / 256, hN⟩)
      (kbOf m c (bt ⟨g.val / 256, hN⟩)) (g.val / 256 % 8) (hd e) ⟨g.val % 256, by omega⟩ n
      = if n ≤ 256 * (g.val / 256 % 8) + g.val % 256 then rawA m c (ix4 ⟨g.val / 2048, by omega⟩ (hd e) ⟨g.val % 2048, by omega⟩ (pos n)) else ⊥ := fun n => by
    unfold SX
    rw [SR_eq, hb, hq]
  refine (Cert.ReferenceIdeal.Attn.res_apply (Qa m c) (Ka m c) (Va m c) (Ca m c) g e _ _ ?_ ?_ ?_ ?_).symm
  · intro j
    rw [hS, Cert.ReferenceIdeal.Attn.scores_apply, pos_val]
    by_cases hj : j.val ≤ g.val % 2048
    · rw [if_pos (by omega), if_pos (show j ≤ (⟨g.val % 2048, by omega⟩ : Fin 2048) from hj)]
      rfl
    · rw [if_neg (by omega), if_neg (show ¬ j ≤ (⟨g.val % 2048, by omega⟩ : Fin 2048) from hj)]
  · intro j
    rw [pos_val, hb]
    exact turn_apply (Va m c) ⟨g.val / 2048, by omega⟩ e j
  · intro j _
    rw [hS]
    split_ifs
    · obtain ⟨x, hx⟩ := hraw ⟨g.val / 2048, by omega⟩ (hd e) ⟨g.val % 2048, by omega⟩ (pos j)
      rw [hx]
      exact EReal.coe_ne_top x
    · exact bot_ne_top
  · rw [hS, if_pos (Nat.zero_le _)]
    obtain ⟨x, hx⟩ := hraw ⟨g.val / 2048, by omega⟩ (hd e) ⟨g.val % 2048, by omega⟩ (pos 0)
    rw [hx]
    exact EReal.coe_ne_bot x

end Cert.KernelIdeal.Gen
-- ==== Proof.Attn.Final.lean ====
/-
  The two claims about the reference: it runs, leaving its arguments and the counters as they were, and for finite
  queries, keys and decays its result is the kernel's.
-/
module

public import proofs.«01_k».proof.Proof.Attn.Out
public import proofs.«01_k».proof.Proof.Gen.ReferenceIdeal.Run
public import proofs.«01_k».proof.Defs
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The shape facts the precondition states. -/
theorem pre_facts : Cert.Pre_finite_inputs.Facts := ⟨by decide, by decide⟩

/-- A number whose magnitude compares below infinity is real. -/
theorem real_of_abs_lt (x : EReal)
    (h : Ideal.cmp .olt (max x (-x)) (FloatOps.ofBits (F := Ideal) .f32 0x7F800000#32) = 1#1) :
    ∃ r : ℝ, x = r := by
  have hi : (FloatOps.ofBits (F := Ideal) .f32 0x7F800000#32 : EReal) = ⊤ := by
    show Ideal.ofBits .f32 0x7F800000#32 = ⊤
    simp [Ideal.ofBits, Ideal.ieee]
  rw [hi] at h
  induction x with
  | bot => exact absurd h (by simp [Ideal.cmp])
  | top => exact absurd h (by simp [Ideal.cmp])
  | coe r => exact ⟨r, rfl⟩

/-- The reference runs, and its arguments and the counters end as they were. -/
theorem reference_frame : Cert.quiescent_ReferenceIdeal (hReferenceIdeal := Cert.ReferenceIdeal.Gen.facts) := by
  intro m g _
  exact (θ_run (Cert.ReferenceIdeal.defs (F := Ideal)) _ _).mono (fun r h =>
      ⟨fun c => (h c).2, Idealize.ShloMosaic.sem_eq_zero_of_no_sems (by decide) r.2⟩)
    (Cert.ReferenceIdeal.Value.run (F := Ideal) m g)

section
attribute [local instance] pre_facts

variable (m : (ℓ : Loc Cert.KernelIdeal.nD Cert.KernelIdeal.τ Cert.KernelIdeal.sig) → Buf (Elt Ideal) ℓ)

theorem real_q (h : Cert.Pre_KernelIdeal_finite_inputs m) (c : Dev Cert.KernelIdeal.nD) :
    ∀ i, ∃ r : ℝ, Cert.KernelIdeal.Gen.Qa m c i = r := fun i =>
  real_of_abs_lt _ (congrFun (h c).1 i)

theorem real_k (h : Cert.Pre_KernelIdeal_finite_inputs m) (c : Dev Cert.KernelIdeal.nD) :
    ∀ i, ∃ r : ℝ, Cert.KernelIdeal.Gen.Ka m c i = r := fun i =>
  real_of_abs_lt _ (congrFun (h c).2.1 i)

theorem real_c (h : Cert.Pre_KernelIdeal_finite_inputs m) (c : Dev Cert.KernelIdeal.nD) :
    ∀ i, ∃ r : ℝ, Cert.KernelIdeal.Gen.Ca m c i = r := fun i =>
  real_of_abs_lt _ (congrFun (h c).2.2 i)

/-- The reference's result is the kernel's, where the two are given the same finite inputs. -/
theorem result_eq (m' : (ℓ : Loc Cert.ReferenceIdeal.nD Cert.ReferenceIdeal.τ Cert.ReferenceIdeal.sig) → Buf (Elt Ideal) ℓ)
    (h : Cert.Pre_KernelIdeal_finite_inputs m) (c : Dev Cert.KernelIdeal.nD)
    (h0 : m' ((c.tc : Thread Cert.ReferenceIdeal.nD Cert.ReferenceIdeal.τ).loc Cert.ReferenceIdeal.main_arg0) = Cert.KernelIdeal.Gen.Qa m c)
    (h1 : m' ((c.tc : Thread Cert.ReferenceIdeal.nD Cert.ReferenceIdeal.τ).loc Cert.ReferenceIdeal.main_arg1) = Cert.KernelIdeal.Gen.Ka m c)
    (h2 : m' ((c.tc : Thread Cert.ReferenceIdeal.nD Cert.ReferenceIdeal.τ).loc Cert.ReferenceIdeal.main_arg2) = Cert.KernelIdeal.Gen.Va m c)
    (h3 : m' ((c.tc : Thread Cert.ReferenceIdeal.nD Cert.ReferenceIdeal.τ).loc Cert.ReferenceIdeal.main_arg3) = Cert.KernelIdeal.Gen.Ca m c) :
    Cert.ReferenceIdeal.Value.res_main_v30 m' c = Cert.KernelIdeal.Value.G5 m c := by
  refine (Cert.ReferenceIdeal.Attn.res_eq m' c).trans ?_
  rw [h0, h1, h2, h3]
  funext i
  have e : i = ix2 (i 0) (i 1) := by funext a; match a with | 0 => rfl | 1 => rfl
  rw [e]
  exact (Cert.KernelIdeal.Gen.G5_apply m c (real_q m h c) (real_k m h c) (real_c m h c) (i 0) (i 1)).symm

theorem algebraic : Cert.algebraic_KernelIdeal_ReferenceIdeal_pre_finite_inputs (hKernelIdeal := Cert.KernelIdeal.Gen.facts)
    (hReferenceIdeal := Cert.ReferenceIdeal.Gen.facts) (hPre_finite_inputs := pre_facts) := by
  intro m g m' g' hp ha
  refine ⟨fun c => Cert.KernelIdeal.Value.G5 m c, Cert.KernelIdeal.Value.run m g, ?_⟩
  exact (θ_run (Cert.ReferenceIdeal.defs (F := Ideal)) _ _).mono (fun r h c =>
      ⟨(h c).1.trans (result_eq m m' hp c (ha c).1 (ha c).2.1 (ha c).2.2.1 (ha c).2.2.2), (h c).2⟩)
    (Cert.ReferenceIdeal.Value.run (F := Ideal) m' g')

end

end Cert.Proof

end
-- ==== Proof.Layer.lean ====
/-
  The layer's pieces over the extended reals: the gated activation, a row of the feed-forward product with its residual,
  and the layer norm of a row.
-/
module

public import Idealize.ShloMosaic.PureOps
public import Idealize.ShloMosaic.Lib.Pipeline.ValueKit

@[expose] public section

noncomputable section

namespace Cert.Proof.Layer

open Idealize.ShloMosaic

/-- The residual's weight. -/
def alpha : EReal := Ideal.ofBits .f32 0x3F9837F0#32

/-- The gated activation: `u` times its logistic, times `v`. -/
def glu (u v : EReal) : EReal :=
  u * Ideal.div (Ideal.ofBits .f32 0x3F800000#32) (Ideal.ofBits .f32 0x3F800000#32 + Ideal.exp (Ideal.ofBits .f32 0x00000000#32 - u)) * v

/-- A row's mean. -/
def mean (z : Fin 1024 → EReal) : EReal := Ideal.div (∑ k, z k) (Ideal.ofBits .f32 0x44800000#32)

/-- A row's layer norm. -/
def lnorm (z g b : Fin 1024 → EReal) (e : Fin 1024) : EReal :=
  (z e - mean z) * Ideal.rsqrt (mean (fun k => (z k - mean z) * (z k - mean z)) + Ideal.ofBits .f32 0x3727C5AC#32) * g e + b e

/-- Hidden unit `n`'s gate column. -/
def gateAt (n : ℕ) : Fin 5632 := ⟨n % 2816, by omega⟩
/-- Hidden unit `n`'s value column. -/
def valAt (n : ℕ) : Fin 5632 := ⟨2816 + n % 2816, by omega⟩
/-- Hidden unit `n`. -/
def unitAt (n : ℕ) : Fin 2816 := ⟨n % 2816, by omega⟩

/-- Hidden unit `n`'s share of a product. -/
def unit (x : Fin 1024 → EReal) (w : Fin 1024 → Fin 5632 → EReal) (d : Fin 2816 → EReal) (n : ℕ) : EReal :=
  glu (∑ k : Fin 1024, x k * w k (gateAt n)) (∑ k : Fin 1024, x k * w k (valAt n)) * d (unitAt n)

/-- The residual plus the product over the hidden units. -/
def zrow (x : Fin 1024 → EReal) (w : Fin 1024 → Fin 5632 → EReal) (d : Fin 2816 → EReal) (e : Fin 1024) : EReal :=
  alpha * x e + ∑ n ∈ Finset.range 2816, unit x w d n

/-- The logistic of `g` times `y`. -/
def gated (g y : EReal) : EReal :=
  Ideal.div (Ideal.ofBits .f32 0x3F800000#32) (Ideal.ofBits .f32 0x3F800000#32 + Ideal.exp (Ideal.ofBits .f32 0x00000000#32 - g)) * y

/-- The two gated branches at lane `e`. -/
def branches (gr gf : Fin 1024 → EReal) (xr xf : Fin 512 → EReal) (wr wf : Fin 512 → Fin 1024 → EReal) (e : Fin 1024) : EReal :=
  gated (gr e) (∑ k : Fin 512, xr k * wr k e) + gated (gf e) (∑ k : Fin 512, xf k * wf k e)

/-- The residual plus the product of the merged branches. -/
def mrow (h gr gf : Fin 1024 → EReal) (xr xf : Fin 512 → EReal) (wr wf : Fin 512 → Fin 1024 → EReal) (wo : Fin 1024 → Fin 1024 → EReal) (e : Fin 1024) : EReal :=
  alpha * h e + ∑ k : Fin 1024, branches gr gf xr xf wr wf k * wo k e

theorem sum_blocks (f : ℕ → EReal) (n : ℕ) :
    ∑ i ∈ Finset.range (256 * n), f i = ∑ k ∈ Finset.range n, ∑ j ∈ Finset.range 256, f (256 * k + j) := by
  induction n with
  | zero => rfl
  | succ n ih => rw [Nat.mul_succ, Finset.sum_range_add, ih, Finset.sum_range_succ (fun k => ∑ j ∈ Finset.range 256, f (256 * k + j)) n]

theorem zrow_eq (x : Fin 1024 → EReal) (w : Fin 1024 → Fin 5632 → EReal) (d : Fin 2816 → EReal) (e : Fin 1024) :
    zrow x w d e = alpha * x e + ∑ k ∈ Finset.range 11, ∑ j ∈ Finset.range 256, unit x w d (256 * k + j) := by
  unfold zrow
  exact congrArg (alpha * x e + ·) (sum_blocks (unit x w d) 11)

end Cert.Proof.Layer
-- ==== Proof.Ffn.Steps.lean ====
/-
  What one point of the feed-forward kernel leaves, read at one row and one lane: the layer norm of the residual plus the
  products of the eleven 256-wide blocks of hidden units.
-/
module

public import proofs.«01_k».proof.Proof.Gen.Kernel2Ideal.Frame
public import proofs.«01_k».proof.Proof.Layer
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Gen

open Idealize.ShloMosaic Idealize.ShloMosaic.TcCoe Idealize.ShloMosaic.Tactic
open Cert.Proof.Layer

section Ops

variable {F : FTy → Type} [FloatOps F]

/-- Hidden units before the activation, 256 of them. -/
def hid (x : Vec F S512x1024 .f32) (w : Vec F S1024x256 .bf16) : FVec F S512x256 .f32 :=
  matmul dot_S512x1024_S1024x256_S512x256_1_0_0_1_n_n none
    (truncf .bf16 (shapeCast S512x1024 x shapeCasts_S512x1024_S512x1024) bitsLt_bf16_f32)
    (shapeCast S1024x256 w shapeCasts_S1024x256_S1024x256) (constant S512x256 .f32 0x00000000#32)

/-- The gated activation. -/
def act (u v : FVec F S512x256 .f32) : FVec F S512x256 .f32 :=
  mulf (mulf u (divf (broadcast S512x256 (Scalar.ofBits .f32 0x3F800000#32)) (addf (broadcast S512x256 (Scalar.ofBits .f32 0x3F800000#32))
    (exp (subf (broadcast S512x256 (Scalar.ofBits .f32 0x00000000#32)) u))))) v

/-- The product of one block of hidden units. -/
def chunk (x : Vec F S512x1024 .f32) (wg wu : Vec F S1024x256 .bf16) (wd : Vec F S256x1024 .bf16) : FVec F S512x1024 .f32 :=
  matmul dot_S512x256_S256x1024_S512x1024_1_0_0_1_n_n none
    (truncf .bf16 (act (hid x wg) (hid x wu)) bitsLt_bf16_f32)
    (shapeCast S256x1024 wd shapeCasts_S256x1024_S256x1024) (constant S512x1024 .f32 0x00000000#32)

/-- A row's mean, a column. -/
def rowMean (z : FVec F S512x1024 .f32) : FVec F S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

/-- The rows less their means. -/
def centred (z : FVec F S512x1024 .f32) : FVec F S512x1024 .f32 :=
  subf z (broadcastTo S512x1024 (rowMean z) broadcasts_S512x1_S512x1024)

/-- The layer norm of a block of rows. -/
def normed (z : FVec F S512x1024 .f32) (g b : Vec F S1x1024 .f32) : FVec F S512x1024 .f32 :=
  addf (mulf (mulf (centred z) (broadcastTo S512x1024
      (rsqrt (addf (rowMean (mulf (centred z) (centred z))) (broadcast S512x1 (Scalar.ofBits .f32 0x3727C5AC#32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- The rows before the norm. -/
def pre (x0 : Vec F S512x1024 .f32) (x1 : Vec F S1024x5632 .bf16) (x2 : Vec F S2816x1024 .bf16) : FVec F S512x1024 .f32 :=
  addf (addf (addf (addf (addf (addf (addf (addf (addf (addf (addf (mulf (broadcast S512x1024 (Scalar.ofBits .f32 0x3F9837F0#32)) (shapeCast S512x1024 (View.ld x0 r0_0) shapeCasts_S512x1024_S512x1024))
    (chunk (View.ld x0 r0_0) (View.ld x1 r0_1) (View.ld x1 r0_2) (View.ld x2 r0_3)))
    (chunk (View.ld x0 r0_0) (View.ld x1 r0_4) (View.ld x1 r0_5) (View.ld x2 r0_6)))
    (chunk (View.ld x0 r0_0) (View.ld x1 r0_7) (View.ld x1 r0_8) (View.ld x2 r0_9)))
    (chunk (View.ld x0 r0_0) (View.ld x1 r0_10) (View.ld x1 r0_11) (View.ld x2 r0_12)))
    (chunk (View.ld x0 r0_0) (View.ld x1 r0_13) (View.ld x1 r0_14) (View.ld x2 r0_15)))
    (chunk (View.ld x0 r0_0) (View.ld x1 r0_16) (View.ld x1 r0_17) (View.ld x2 r0_18)))
    (chunk (View.ld x0 r0_0) (View.ld x1 r0_19) (View.ld x1 r0_20) (View.ld x2 r0_21)))
    (chunk (View.ld x0 r0_0) (View.ld x1 r0_22) (View.ld x1 r0_23) (View.ld x2 r0_24)))
    (chunk (View.ld x0 r0_0) (View.ld x1 r0_25) (View.ld x1 r0_26) (View.ld x2 r0_27)))
    (chunk (View.ld x0 r0_0) (View.ld x1 r0_28) (View.ld x1 r0_29) (View.ld x2 r0_30)))
    (chunk (View.ld x0 r0_0) (View.ld x1 r0_31) (View.ld x1 r0_32) (View.ld x2 r0_33))

theorem out_eq (x0 : Vec F S512x1024 .f32) (x1 : Vec F S1024x5632 .bf16) (x2 : Vec F S2816x1024 .bf16) (x3 x4 : Vec F S1x1024 .f32) :
    out0_5 x0 x1 x2 x3 x4 = View.canon [⟨r0_0, normed (pre x0 x1 x2) (View.ld x3 r0_34) (View.ld x4 r0_34)⟩] := rfl

end Ops

theorem ix2_ext {n0 n1 : ℕ} {i : (⟨2, ![n0, n1]⟩ : Shape).Idx} {a : Fin n0} {b : Fin n1} (h0 : (i 0).val = a.val) (h1 : (i 1).val = b.val) :
    i = ix2 a b := by
  funext k
  match k with
  | ⟨0, _⟩ => exact Fin.ext h0
  | ⟨1, _⟩ => exact Fin.ext h1

theorem hid_apply (x : Vec Ideal S512x1024 .f32) (w : Vec Ideal S1024x256 .bf16) (r : Fin 512) (j : Fin 256) :
    hid x w (ix2 r j) = ∑ d : Fin 1024, x (ix2 r d) * w (ix2 d j) := by
  pointwise [hid]

theorem act_apply (u v : FVec Ideal S512x256 .f32) (r : Fin 512) (j : Fin 256) :
    act u v (ix2 r j) = glu (u (ix2 r j)) (v (ix2 r j)) := by
  pointwise [act, glu]

theorem chunk_apply (x : Vec Ideal S512x1024 .f32) (wg wu : Vec Ideal S1024x256 .bf16) (wd : Vec Ideal S256x1024 .bf16) (r : Fin 512) (e : Fin 1024) :
    chunk x wg wu wd (ix2 r e) = ∑ j : Fin 256, act (hid x wg) (hid x wu) (ix2 r j) * wd (ix2 j e) := by
  pointwise [chunk]

theorem rowMean_apply (z : FVec Ideal S512x1024 .f32) (r : Fin 512) :
    rowMean z (ix2 r 0) = mean fun k => z (ix2 r k) := by
  pointwise [rowMean, mean]

theorem centred_apply (z : FVec Ideal S512x1024 .f32) (r : Fin 512) (e : Fin 1024) :
    centred z (ix2 r e) = z (ix2 r e) - rowMean z (ix2 r 0) := by
  pointwise [centred]

theorem normed_apply0 (z : FVec Ideal S512x1024 .f32) (g b : Vec Ideal S1x1024 .f32) (r : Fin 512) (e : Fin 1024) :
    normed z g b (ix2 r e) = centred z (ix2 r e)
      * Ideal.rsqrt (rowMean (mulf (centred z) (centred z)) (ix2 r 0) + Ideal.ofBits .f32 0x3727C5AC#32) * g (ix2 0 e) + b (ix2 0 e) := by
  pointwise [normed]

theorem mulf_at {t : Shape} (a b : FVec Ideal t .f32) (j : t.Idx) : mulf a b j = a j * b j := rfl
theorem addf_at {t : Shape} (a b : FVec Ideal t .f32) (j : t.Idx) : addf a b j = a j + b j := rfl

theorem normed_apply (z : FVec Ideal S512x1024 .f32) (g b : Vec Ideal S1x1024 .f32) (r : Fin 512) (e : Fin 1024) :
    normed z g b (ix2 r e) = lnorm (fun k => z (ix2 r k)) (fun k => g (ix2 0 k)) (fun k => b (ix2 0 k)) e := by
  rw [normed_apply0, rowMean_apply, centred_apply, rowMean_apply]
  simp only [mulf_at, centred_apply, rowMean_apply]
  rfl

/-- One block of hidden units' share of a row's product. -/
def part (x0 : Vec Ideal S512x1024 .f32) (x1 : Vec Ideal S1024x5632 .bf16) (x2 : Vec Ideal S2816x1024 .bf16) (r : Fin 512) (e : Fin 1024) (k : ℕ) : EReal :=
  ∑ j ∈ Finset.range 256, unit (fun d => x0 (ix2 r d)) (fun d n => x1 (ix2 d n)) (fun n => x2 (ix2 n e)) (256 * k + j)

theorem chunk_of (x0 : Vec Ideal S512x1024 .f32) (x1 : Vec Ideal S1024x5632 .bf16) (x2 : Vec Ideal S2816x1024 .bf16) (r : Fin 512) (e : Fin 1024) (k : ℕ)
    (wg wu : Vec Ideal S1024x256 .bf16) (wd : Vec Ideal S256x1024 .bf16)
    (hg : ∀ (d : Fin 1024) (j : Fin 256), wg (ix2 d j) = x1 (ix2 d (gateAt (256 * k + j.val))))
    (hu : ∀ (d : Fin 1024) (j : Fin 256), wu (ix2 d j) = x1 (ix2 d (valAt (256 * k + j.val))))
    (hd : ∀ (j : Fin 256) (e : Fin 1024), wd (ix2 j e) = x2 (ix2 (unitAt (256 * k + j.val)) e)) :
    chunk (View.ld x0 r0_0) wg wu wd (ix2 r e) = part x0 x1 x2 r e k := by
  have h0 : ∀ d : Fin 1024, (View.ld x0 r0_0 : Vec Ideal S512x1024 .f32) (ix2 r d) = x0 (ix2 r d) := fun d =>
    congrArg x0 (ix2_ext (by show 0 + 1 * r.val = _; omega) (by show 0 + 1 * d.val = _; omega))
  rw [chunk_apply]
  unfold part
  rw [Finset.sum_range]
  refine Finset.sum_congr rfl fun j _ => ?_
  rw [act_apply, hid_apply, hid_apply, hd]
  simp only [h0, hg, hu]
  rfl

theorem chunk_0 (x0 : Vec Ideal S512x1024 .f32) (x1 : Vec Ideal S1024x5632 .bf16) (x2 : Vec Ideal S2816x1024 .bf16) (r : Fin 512) (e : Fin 1024) :
    chunk (View.ld x0 r0_0) (View.ld x1 r0_1) (View.ld x1 r0_2) (View.ld x2 r0_3) (ix2 r e) = part x0 x1 x2 r e 0 :=
  chunk_of x0 x1 x2 r e 0 _ _ _ (fun d j => congrArg x1 (ix2_ext (by show 0 + 1 * d.val = _; omega) (by show 0 + 1 * j.val = (256 * 0 + j.val) % 2816; omega)))
    (fun d j => congrArg x1 (ix2_ext (by show 0 + 1 * d.val = _; omega) (by show 2816 + 1 * j.val = 2816 + (256 * 0 + j.val) % 2816; omega)))
    (fun j e => congrArg x2 (ix2_ext (by show 0 + 1 * j.val = (256 * 0 + j.val) % 2816; omega) (by show 0 + 1 * e.val = _; omega)))

theorem chunk_1 (x0 : Vec Ideal S512x1024 .f32) (x1 : Vec Ideal S1024x5632 .bf16) (x2 : Vec Ideal S2816x1024 .bf16) (r : Fin 512) (e : Fin 1024) :
    chunk (View.ld x0 r0_0) (View.ld x1 r0_4) (View.ld x1 r0_5) (View.ld x2 r0_6) (ix2 r e) = part x0 x1 x2 r e 1 :=
  chunk_of x0 x1 x2 r e 1 _ _ _ (fun d j => congrArg x1 (ix2_ext (by show 0 + 1 * d.val = _; omega) (by show 256 + 1 * j.val = (256 * 1 + j.val) % 2816; omega)))
    (fun d j => congrArg x1 (ix2_ext (by show 0 + 1 * d.val = _; omega) (by show 3072 + 1 * j.val = 2816 + (256 * 1 + j.val) % 2816; omega)))
    (fun j e => congrArg x2 (ix2_ext (by show 256 + 1 * j.val = (256 * 1 + j.val) % 2816; omega) (by show 0 + 1 * e.val = _; omega)))

theorem chunk_2 (x0 : Vec Ideal S512x1024 .f32) (x1 : Vec Ideal S1024x5632 .bf16) (x2 : Vec Ideal S2816x1024 .bf16) (r : Fin 512) (e : Fin 1024) :
    chunk (View.ld x0 r0_0) (View.ld x1 r0_7) (View.ld x1 r0_8) (View.ld x2 r0_9) (ix2 r e) = part x0 x1 x2 r e 2 :=
  chunk_of x0 x1 x2 r e 2 _ _ _ (fun d j => congrArg x1 (ix2_ext (by show 0 + 1 * d.val = _; omega) (by show 512 + 1 * j.val = (256 * 2 + j.val) % 2816; omega)))
    (fun d j => congrArg x1 (ix2_ext (by show 0 + 1 * d.val = _; omega) (by show 3328 + 1 * j.val = 2816 + (256 * 2 + j.val) % 2816; omega)))
    (fun j e => congrArg x2 (ix2_ext (by show 512 + 1 * j.val = (256 * 2 + j.val) % 2816; omega) (by show 0 + 1 * e.val = _; omega)))

theorem chunk_3 (x0 : Vec Ideal S512x1024 .f32) (x1 : Vec Ideal S1024x5632 .bf16) (x2 : Vec Ideal S2816x1024 .bf16) (r : Fin 512) (e : Fin 1024) :
    chunk (View.ld x0 r0_0) (View.ld x1 r0_10) (View.ld x1 r0_11) (View.ld x2 r0_12) (ix2 r e) = part x0 x1 x2 r e 3 :=
  chunk_of x0 x1 x2 r e 3 _ _ _ (fun d j => congrArg x1 (ix2_ext (by show 0 + 1 * d.val = _; omega) (by show 768 + 1 * j.val = (256 * 3 + j.val) % 2816; omega)))
    (fun d j => congrArg x1 (ix2_ext (by show 0 + 1 * d.val = _; omega) (by show 3584 + 1 * j.val = 2816 + (256 * 3 + j.val) % 2816; omega)))
    (fun j e => congrArg x2 (ix2_ext (by show 768 + 1 * j.val = (256 * 3 + j.val) % 2816; omega) (by show 0 + 1 * e.val = _; omega)))

theorem chunk_4 (x0 : Vec Ideal S512x1024 .f32) (x1 : Vec Ideal S1024x5632 .bf16) (x2 : Vec Ideal S2816x1024 .bf16) (r : Fin 512) (e : Fin 1024) :
    chunk (View.ld x0 r0_0) (View.ld x1 r0_13) (View.ld x1 r0_14) (View.ld x2 r0_15) (ix2 r e) = part x0 x1 x2 r e 4 :=
  chunk_of x0 x1 x2 r e 4 _ _ _ (fun d j => congrArg x1 (ix2_ext (by show 0 + 1 * d.val = _; omega) (by show 1024 + 1 * j.val = (256 * 4 + j.val) % 2816; omega)))
    (fun d j => congrArg x1 (ix2_ext (by show 0 + 1 * d.val = _; omega) (by show 3840 + 1 * j.val = 2816 + (256 * 4 + j.val) % 2816; omega)))
    (fun j e => congrArg x2 (ix2_ext (by show 1024 + 1 * j.val = (256 * 4 + j.val) % 2816; omega) (by show 0 + 1 * e.val = _; omega)))

theorem chunk_5 (x0 : Vec Ideal S512x1024 .f32) (x1 : Vec Ideal S1024x5632 .bf16) (x2 : Vec Ideal S2816x1024 .bf16) (r : Fin 512) (e : Fin 1024) :
    chunk (View.ld x0 r0_0) (View.ld x1 r0_16) (View.ld x1 r0_17) (View.ld x2 r0_18) (ix2 r e) = part x0 x1 x2 r e 5 :=
  chunk_of x0 x1 x2 r e 5 _ _ _ (fun d j => congrArg x1 (ix2_ext (by show 0 + 1 * d.val = _; omega) (by show 1280 + 1 * j.val = (256 * 5 + j.val) % 2816; omega)))
    (fun d j => congrArg x1 (ix2_ext (by show 0 + 1 * d.val = _; omega) (by show 4096 + 1 * j.val = 2816 + (256 * 5 + j.val) % 2816; omega)))
    (fun j e => congrArg x2 (ix2_ext (by show 1280 + 1 * j.val = (256 * 5 + j.val) % 2816; omega) (by show 0 + 1 * e.val = _; omega)))

theorem chunk_6 (x0 : Vec Ideal S512x1024 .f32) (x1 : Vec Ideal S1024x5632 .bf16) (x2 : Vec Ideal S2816x1024 .bf16) (r : Fin 512) (e : Fin 1024) :
    chunk (View.ld x0 r0_0) (View.ld x1 r0_19) (View.ld x1 r0_20) (View.ld x2 r0_21) (ix2 r e) = part x0 x1 x2 r e 6 :=
  chunk_of x0 x1 x2 r e 6 _ _ _ (fun d j => congrArg x1 (ix2_ext (by show 0 + 1 * d.val = _; omega) (by show 1536 + 1 * j.val = (256 * 6 + j.val) % 2816; omega)))
    (fun d j => congrArg x1 (ix2_ext (by show 0 + 1 * d.val = _; omega) (by show 4352 + 1 * j.val = 2816 + (256 * 6 + j.val) % 2816; omega)))
    (fun j e => congrArg x2 (ix2_ext (by show 1536 + 1 * j.val = (256 * 6 + j.val) % 2816; omega) (by show 0 + 1 * e.val = _; omega)))

theorem chunk_7 (x0 : Vec Ideal S512x1024 .f32) (x1 : Vec Ideal S1024x5632 .bf16) (x2 : Vec Ideal S2816x1024 .bf16) (r : Fin 512) (e : Fin 1024) :
    chunk (View.ld x0 r0_0) (View.ld x1 r0_22) (View.ld x1 r0_23) (View.ld x2 r0_24) (ix2 r e) = part x0 x1 x2 r e 7 :=
  chunk_of x0 x1 x2 r e 7 _ _ _ (fun d j => congrArg x1 (ix2_ext (by show 0 + 1 * d.val = _; omega) (by show 1792 + 1 * j.val = (256 * 7 + j.val) % 2816; omega)))
    (fun d j => congrArg x1 (ix2_ext (by show 0 + 1 * d.val = _; omega) (by show 4608 + 1 * j.val = 2816 + (256 * 7 + j.val) % 2816; omega)))
    (fun j e => congrArg x2 (ix2_ext (by show 1792 + 1 * j.val = (256 * 7 + j.val) % 2816; omega) (by show 0 + 1 * e.val = _; omega)))

theorem chunk_8 (x0 : Vec Ideal S512x1024 .f32) (x1 : Vec Ideal S1024x5632 .bf16) (x2 : Vec Ideal S2816x1024 .bf16) (r : Fin 512) (e : Fin 1024) :
    chunk (View.ld x0 r0_0) (View.ld x1 r0_25) (View.ld x1 r0_26) (View.ld x2 r0_27) (ix2 r e) = part x0 x1 x2 r e 8 :=
  chunk_of x0 x1 x2 r e 8 _ _ _ (fun d j => congrArg x1 (ix2_ext (by show 0 + 1 * d.val = _; omega) (by show 2048 + 1 * j.val = (256 * 8 + j.val) % 2816; omega)))
    (fun d j => congrArg x1 (ix2_ext (by show 0 + 1 * d.val = _; omega) (by show 4864 + 1 * j.val = 2816 + (256 * 8 + j.val) % 2816; omega)))
    (fun j e => congrArg x2 (ix2_ext (by show 2048 + 1 * j.val = (256 * 8 + j.val) % 2816; omega) (by show 0 + 1 * e.val = _; omega)))

theorem chunk_9 (x0 : Vec Ideal S512x1024 .f32) (x1 : Vec Ideal S1024x5632 .bf16) (x2 : Vec Ideal S2816x1024 .bf16) (r : Fin 512) (e : Fin 1024) :
    chunk (View.ld x0 r0_0) (View.ld x1 r0_28) (View.ld x1 r0_29) (View.ld x2 r0_30) (ix2 r e) = part x0 x1 x2 r e 9 :=
  chunk_of x0 x1 x2 r e 9 _ _ _ (fun d j => congrArg x1 (ix2_ext (by show 0 + 1 * d.val = _; omega) (by show 2304 + 1 * j.val = (256 * 9 + j.val) % 2816; omega)))
    (fun d j => congrArg x1 (ix2_ext (by show 0 + 1 * d.val = _; omega) (by show 5120 + 1 * j.val = 2816 + (256 * 9 + j.val) % 2816; omega)))
    (fun j e => congrArg x2 (ix2_ext (by show 2304 + 1 * j.val = (256 * 9 + j.val) % 2816; omega) (by show 0 + 1 * e.val = _; omega)))

theorem chunk_10 (x0 : Vec Ideal S512x1024 .f32) (x1 : Vec Ideal S1024x5632 .bf16) (x2 : Vec Ideal S2816x1024 .bf16) (r : Fin 512) (e : Fin 1024) :
    chunk (View.ld x0 r0_0) (View.ld x1 r0_31) (View.ld x1 r0_32) (View.ld x2 r0_33) (ix2 r e) = part x0 x1 x2 r e 10 :=
  chunk_of x0 x1 x2 r e 10 _ _ _ (fun d j => congrArg x1 (ix2_ext (by show 0 + 1 * d.val = _; omega) (by show 2560 + 1 * j.val = (256 * 10 + j.val) % 2816; omega)))
    (fun d j => congrArg x1 (ix2_ext (by show 0 + 1 * d.val = _; omega) (by show 5376 + 1 * j.val = 2816 + (256 * 10 + j.val) % 2816; omega)))
    (fun j e => congrArg x2 (ix2_ext (by show 2560 + 1 * j.val = (256 * 10 + j.val) % 2816; omega) (by show 0 + 1 * e.val = _; omega)))

theorem pre_apply (x0 : Vec Ideal S512x1024 .f32) (x1 : Vec Ideal S1024x5632 .bf16) (x2 : Vec Ideal S2816x1024 .bf16) (r : Fin 512) (e : Fin 1024) :
    pre x0 x1 x2 (ix2 r e) = zrow (fun d => x0 (ix2 r d)) (fun d n => x1 (ix2 d n)) (fun n => x2 (ix2 n e)) e := by
  have h0 : mulf (broadcast S512x1024 (Scalar.ofBits (F := Ideal) .f32 0x3F9837F0#32)) (shapeCast S512x1024 (View.ld x0 r0_0 : Vec Ideal S512x1024 .f32) shapeCasts_S512x1024_S512x1024) (ix2 r e)
      = alpha * x0 (ix2 r e) := by
    have h1 : (View.ld x0 r0_0 : Vec Ideal S512x1024 .f32) (ix2 r e) = x0 (ix2 r e) :=
      congrArg x0 (ix2_ext (by show 0 + 1 * r.val = _; omega) (by show 0 + 1 * e.val = _; omega))
    rw [← h1]
    generalize (View.ld x0 r0_0 : Vec Ideal S512x1024 .f32) = y
    pointwise [alpha]
  unfold pre
  simp only [addf_at, chunk_0, chunk_1, chunk_2, chunk_3, chunk_4, chunk_5, chunk_6, chunk_7, chunk_8, chunk_9, chunk_10, h0]
  rw [show zrow (fun d => x0 (ix2 r d)) (fun d n => x1 (ix2 d n)) (fun n => x2 (ix2 n e)) e
    = alpha * x0 (ix2 r e) + ∑ k ∈ Finset.range 11, part x0 x1 x2 r e k from zrow_eq _ _ _ _]
  simp only [Finset.sum_range_succ, Finset.sum_range_zero, zero_add, ← add_assoc]

/-- What a point leaves. -/
theorem out_apply (x0 : Vec Ideal S512x1024 .f32) (x1 : Vec Ideal S1024x5632 .bf16) (x2 : Vec Ideal S2816x1024 .bf16) (x3 x4 : Vec Ideal S1x1024 .f32)
    (r : Fin 512) (e : Fin 1024) :
    out0_5 x0 x1 x2 x3 x4 (ix2 r e)
      = lnorm (fun k => zrow (fun d => x0 (ix2 r d)) (fun d n => x1 (ix2 d n)) (fun n => x2 (ix2 n k)) k)
          (fun k => x3 (ix2 0 k)) (fun k => x4 (ix2 0 k)) e := by
  have h3 : ∀ k : Fin 1024, (View.ld x3 r0_34 : Vec Ideal S1x1024 .f32) (ix2 0 k) = x3 (ix2 0 k) := fun k =>
    congrArg x3 (ix2_ext rfl (by show 0 + 1 * k.val = _; omega))
  have h4 : ∀ k : Fin 1024, (View.ld x4 r0_34 : Vec Ideal S1x1024 .f32) (ix2 0 k) = x4 (ix2 0 k) := fun k =>
    congrArg x4 (ix2_ext rfl (by show 0 + 1 * k.val = _; omega))
  have hc : out0_5 x0 x1 x2 x3 x4 (ix2 r e) = normed (pre x0 x1 x2) (View.ld x3 r0_34) (View.ld x4 r0_34) (ix2 r e) := by
    rw [out_eq]
    refine View.canon_apply_of_pieces (show S512x1024.Idx → Elt Ideal EltTy.f32 from normed (pre x0 x1 x2) (View.ld x3 r0_34) (View.ld x4 r0_34)) _ ?_ _ (cover0_5 _ _)
    intro pc hpc
    rcases List.mem_cons.mp hpc with rfl | hpc
    · intro x
      refine congrArg (normed (pre x0 x1 x2) (View.ld x3 r0_34) (View.ld x4 r0_34)) (funext fun a => Fin.ext ?_)
      match a with
      | ⟨0, _⟩ => show (x 0).val = 0 + 1 * (x 0).val; omega
      | ⟨1, _⟩ => show (x 1).val = 0 + 1 * (x 1).val; omega
    · nomatch hpc
  rw [hc, normed_apply]
  simp only [pre_apply, h3, h4]

end Cert.Kernel2Ideal.Gen
-- ==== Proof.Ffn.Ref.lean ====
/-
  The reference's feed-forward layer read at one row and one lane.
-/
module

public import proofs.«01_k».proof.Proof.Gen.Reference2Ideal.Run
public import proofs.«01_k».proof.Proof.Layer
public import Idealize.ShloMosaic.Lib.Pipeline.ValueKit
public import Idealize.ShloMosaic.Lib.Pointwise

@[expose] public section

set_option maxRecDepth 16384

noncomputable section

namespace Cert.Reference2Ideal.Ffn

open Cert.Reference2Ideal Cert.Reference2Ideal.Gen Idealize.ShloMosaic Idealize.ShloMosaic.TcCoe Idealize.SL.Sem
open Cert.Proof.Layer

section Ops

variable {F : FTy → Type} [FloatOps F]

/-- The hidden units before the activation, gates and values. -/
def hid (x : FVec F S8x2048x1024 .f32) (w : FVec F S1024x5632 .f32) : FVec F S8x2048x5632 .f32 :=
  Host.dotGeneral dot_S8x2048x1024_S1024x5632_S8x2048x5632_2_0_01_1_n_n none x w

/-- The gated activation. -/
def act (u : FVec F S8x2048x5632 .f32) : FVec F S8x2048x2816 .f32 :=
  mulf (mulf (extractStridedSlice S8x2048x2816 ![0, 0, 0] u slices_S8x2048x5632_S8x2048x2816_0_0_0)
    (Host.divf (broadcastInDim S8x2048x2816 ![] bcast_S_S8x2048x2816 (constant S_ .f32 0x3F800000#32))
      (addf (broadcastInDim S8x2048x2816 ![] bcast_S_S8x2048x2816 (constant S_ .f32 0x3F800000#32))
        (Host.exp (Host.negf (extractStridedSlice S8x2048x2816 ![0, 0, 0] u slices_S8x2048x5632_S8x2048x2816_0_0_0))))))
    (extractStridedSlice S8x2048x2816 ![0, 0, 2816] u slices_S8x2048x5632_S8x2048x2816_0_0_2816)

/-- The product of the activations. -/
def down (a : FVec F S8x2048x2816 .f32) (w : FVec F S2816x1024 .f32) : FVec F S8x2048x1024 .f32 :=
  Host.dotGeneral dot_S8x2048x2816_S2816x1024_S8x2048x1024_2_0_01_1_n_n none a w

/-- The rows before the norm. -/
def pre (x : FVec F S8x2048x1024 .f32) (y : FVec F S8x2048x1024 .f32) : FVec F S8x2048x1024 .f32 :=
  addf (mulf (broadcastInDim S8x2048x1024 ![] bcast_S_S8x2048x1024 (constant S_ .f32 0x3F9837F0#32)) x) y

/-- A row's sum. -/
def rowSum (z : FVec F S8x2048x1024 .f32) : FVec F S8x2048 .f32 :=
  Host.reduceAdd z (constant S_ .f32 0x00000000#32) reducesTo_S8x2048x1024_S8x2048_d2 h_S_

/-- A row's mean. -/
def rowMean (z : FVec F S8x2048x1024 .f32) : FVec F S8x2048x1 .f32 :=
  Host.divf (broadcastInDim S8x2048x1 ![0, 1] bcast_S8x2048_S8x2048x1_0_1 (rowSum z))
    (broadcastInDim S8x2048x1 ![] bcast_S_S8x2048x1 (constant S_ .f32 0x44800000#32))

/-- The rows less their means. -/
def centred (z : FVec F S8x2048x1024 .f32) : FVec F S8x2048x1024 .f32 :=
  subf z (broadcastInDim S8x2048x1024 ![0, 1, 2] bcast_S8x2048x1_S8x2048x1024_0_1_2 (rowMean z))

/-- The norm of centred rows `d`, of mean square `v`. -/
def scaled (d : FVec F S8x2048x1024 .f32) (v : FVec F S8x2048x1 .f32) (g b : FVec F S1024 .f32) : FVec F S16384x1024 .f32 :=
  shapeCast _ (addf (mulf (mulf d (broadcastInDim S8x2048x1024 ![0, 1, 2] bcast_S8x2048x1_S8x2048x1024_0_1_2
      (Host.rsqrt (addf v (broadcastInDim S8x2048x1 ![] bcast_S_S8x2048x1 (constant S_ .f32 0x3727C5AC#32))))))
    (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 b)))
    shapeCasts_S8x2048x1024_S16384x1024

/-- The layer norm of the rows. -/
def normed (z : FVec F S8x2048x1024 .f32) (g b : FVec F S1024 .f32) : FVec F S16384x1024 .f32 :=
  scaled (centred z) (rowMean (mulf (centred z) (centred z))) g b

/-- The layer of its arguments. -/
def layer (x : FVec F S8x2048x1024 .f32) (w : FVec F S1024x5632 .f32) (d : FVec F S2816x1024 .f32) (g b : FVec F S1024 .f32) : FVec F S16384x1024 .f32 :=
  normed (pre x (down (act (hid x w)) d)) g b

theorem res_eq (m : (ℓ : Loc nD τ sig) → Buf (Elt F) ℓ) (c : Dev nD) :
    Value.res_main_v33 m c = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Ops

theorem hid_apply (x : FVec Ideal S8x2048x1024 .f32) (w : FVec Ideal S1024x5632 .f32) (p : Fin 8) (r : Fin 2048) (n : Fin 5632) :
    hid x w (ix3 p r n) = ∑ k : Fin 1024, x (ix3 p r k) * w (ix2 k n) := by
  pointwise [hid]

theorem zero_word (u : EReal) : Ideal.ofBits .f32 0x00000000#32 - u = -u := by
  rw [show Ideal.ofBits .f32 0x00000000#32 = (0 : EReal) by simp [Ideal.ofBits, Ideal.ieee], zero_sub]

theorem act_apply (u : FVec Ideal S8x2048x5632 .f32) (p : Fin 8) (r : Fin 2048) (n : Fin 2816) :
    act u (ix3 p r n) = glu (u (ix3 p r ⟨n.val, by omega⟩)) (u (ix3 p r ⟨2816 + n.val, by omega⟩)) := by
  unfold glu
  rw [zero_word]
  pointwise [act]

theorem down_apply (a : FVec Ideal S8x2048x2816 .f32) (w : FVec Ideal S2816x1024 .f32) (p : Fin 8) (r : Fin 2048) (e : Fin 1024) :
    down a w (ix3 p r e) = ∑ n : Fin 2816, a (ix3 p r n) * w (ix2 n e) := by
  pointwise [down]

theorem pre_apply (x y : FVec Ideal S8x2048x1024 .f32) (p : Fin 8) (r : Fin 2048) (e : Fin 1024) :
    pre x y (ix3 p r e) = alpha * x (ix3 p r e) + y (ix3 p r e) := by
  pointwise [pre, alpha]

theorem rowSum_apply (z : FVec Ideal S8x2048x1024 .f32) (p : Fin 8) (r : Fin 2048) :
    rowSum z (ix2 p r) = ∑ k : Fin 1024, z (ix3 p r k) := by
  pointwise [rowSum]

theorem rowMean_apply (z : FVec Ideal S8x2048x1024 .f32) (p : Fin 8) (r : Fin 2048) :
    rowMean z (ix3 p r 0) = mean fun k => z (ix3 p r k) := by
  unfold mean
  rw [← rowSum_apply]
  pointwise [rowMean]

theorem centred_apply (z : FVec Ideal S8x2048x1024 .f32) (p : Fin 8) (r : Fin 2048) (e : Fin 1024) :
    centred z (ix3 p r e) = z (ix3 p r e) - rowMean z (ix3 p r 0) := by
  pointwise [centred]

theorem scaled_apply (d : FVec Ideal S8x2048x1024 .f32) (v : FVec Ideal S8x2048x1 .f32) (g b : FVec Ideal S1024 .f32) (i : Fin 16384) (e : Fin 1024) :
    scaled d v g b (ix2 i e) = d (ix3 ⟨i / 2048, by omega⟩ ⟨i % 2048, by omega⟩ e)
      * Ideal.rsqrt (v (ix3 ⟨i / 2048, by omega⟩ ⟨i % 2048, by omega⟩ 0) + Ideal.ofBits .f32 0x3727C5AC#32) * g (ix1 e) + b (ix1 e) := by
  pointwise [scaled]

theorem mulf_at {t : Shape} (a b : FVec Ideal t .f32) (j : t.Idx) : mulf a b j = a j * b j := rfl

theorem normed_apply (z : FVec Ideal S8x2048x1024 .f32) (g b : FVec Ideal S1024 .f32) (i : Fin 16384) (e : Fin 1024) :
    normed z g b (ix2 i e) = lnorm (fun k => z (ix3 ⟨i / 2048, by omega⟩ ⟨i % 2048, by omega⟩ k)) (fun k => g (ix1 k)) (fun k => b (ix1 k)) e := by
  unfold normed
  rw [scaled_apply, rowMean_apply, centred_apply, rowMean_apply]
  simp only [mulf_at, centred_apply, rowMean_apply]
  rfl

theorem z_apply (x : FVec Ideal S8x2048x1024 .f32) (w : FVec Ideal S1024x5632 .f32) (d : FVec Ideal S2816x1024 .f32) (p : Fin 8) (r : Fin 2048) (e : Fin 1024) :
    pre x (down (act (hid x w)) d) (ix3 p r e)
      = zrow (fun k => x (ix3 p r k)) (fun k n => w (ix2 k n)) (fun n => d (ix2 n e)) e := by
  rw [pre_apply, down_apply]
  unfold zrow
  rw [Finset.sum_range]
  refine congrArg (alpha * x (ix3 p r e) + ·) (Finset.sum_congr rfl fun n _ => ?_)
  have hn : n.val % 2816 = n.val := Nat.mod_eq_of_lt n.isLt
  have hg : gateAt n.val = ⟨n.val, by omega⟩ := Fin.ext hn
  have hv : valAt n.val = ⟨2816 + n.val, by omega⟩ := Fin.ext (congrArg (2816 + ·) hn)
  have hu : unitAt n.val = n := Fin.ext hn
  rw [act_apply, hid_apply, hid_apply]
  unfold unit
  rw [hg, hv, hu]

theorem layer_apply (x : FVec Ideal S8x2048x1024 .f32) (w : FVec Ideal S1024x5632 .f32) (d : FVec Ideal S2816x1024 .f32) (g b : FVec Ideal S1024 .f32)
    (i : Fin 16384) (e : Fin 1024) :
    layer x w d g b (ix2 i e)
      = lnorm (fun k => zrow (fun j => x (ix3 ⟨i / 2048, by omega⟩ ⟨i % 2048, by omega⟩ j)) (fun j n => w (ix2 j n)) (fun n => d (ix2 n k)) k)
          (fun k => g (ix1 k)) (fun k => b (ix1 k)) e := by
  unfold layer
  rw [normed_apply]
  simp only [z_apply]

end Cert.Reference2Ideal.Ffn
-- ==== Proof.Ffn.Final.lean ====
/-
  The feed-forward kernel's result is the reference's, at every row and lane.
-/
module

public import proofs.«01_k».proof.Defs
public import proofs.«01_k».proof.Proof.Ffn.Steps
public import proofs.«01_k».proof.Proof.Ffn.Ref
public import proofs.«01_k».proof.Proof.Gen.Kernel2Ideal.Value
public import Idealize.ShloMosaic.Lib.Claim

@[expose] public section

set_option maxRecDepth 16384

noncomputable section

namespace Cert.Kernel2Ideal.Gen

open Idealize.ShloMosaic Idealize.ShloMosaic.TcCoe Idealize.SL.Sem Idealize.ShloMosaic.Tactic
open Cert.Proof.Layer

variable (m : (ℓ : Loc nD τ sig) → Buf (Elt Ideal) ℓ) (c : Dev nD)

/-- The layer's input. -/
abbrev Ha : FVec Ideal S8x2048x1024 .f32 := m ((c.tc : Thread nD τ).loc main_arg0)
/-- The weights into the hidden units. -/
abbrev Ua : FVec Ideal S1024x5632 .f32 := m ((c.tc : Thread nD τ).loc main_arg1)
/-- The weights out of the hidden units. -/
abbrev Da : FVec Ideal S2816x1024 .f32 := m ((c.tc : Thread nD τ).loc main_arg2)
/-- The norm's scale. -/
abbrev Ga : FVec Ideal S1024 .f32 := m ((c.tc : Thread nD τ).loc main_arg3)
/-- The norm's shift. -/
abbrev Ba : FVec Ideal S1024 .f32 := m ((c.tc : Thread nD τ).loc main_arg4)

theorem V_h : V m c main_v4 = shapeCast S16384x1024 (Ha m c) shapeCasts_S8x2048x1024_S16384x1024 := by
  entry_read
  rfl

theorem V_u : V m c main_v0 = (Ua m c : S1024x5632.Idx → EReal) := by
  entry_read
  rfl

theorem V_d : V m c main_v1 = (Da m c : S2816x1024.Idx → EReal) := by
  entry_read
  rfl

theorem V_g : V m c main_v2 = shapeCast S1x1024 (Ga m c) shapeCasts_S1024_S1x1024 := by
  entry_read
  rfl

theorem V_b : V m c main_v3 = shapeCast S1x1024 (Ba m c) shapeCasts_S1024_S1x1024 := by
  entry_read
  rfl

theorem h_apply (x : FVec Ideal S8x2048x1024 .f32) (i : Fin 16384) (e : Fin 1024) :
    shapeCast S16384x1024 x shapeCasts_S8x2048x1024_S16384x1024 (ix2 i e) = x (ix3 ⟨i / 2048, by omega⟩ ⟨i % 2048, by omega⟩ e) := by
  pointwise

theorem g_apply (x : FVec Ideal S1024 .f32) (e : Fin 1024) :
    shapeCast S1x1024 x shapeCasts_S1024_S1x1024 (ix2 0 e) = x (ix1 e) := by
  pointwise

theorem t_lt (t : Fin cfg0.N) : t.val < 32 := t.isLt.trans_eq N_0

theorem winIdx0 : ∀ t : Fin cfg0.N, win0_0.index t (0 : Fin 2) = t.val ∧ win0_0.index t (1 : Fin 2) = 0 :=
  (by decide +kernel : ∀ t : Fin grid0.N, _)
theorem winIdx1 : ∀ t : Fin cfg0.N, win0_1.index t (0 : Fin 2) = 0 ∧ win0_1.index t (1 : Fin 2) = 0 :=
  (by decide +kernel : ∀ t : Fin grid0.N, _)
theorem winIdx2 : ∀ t : Fin cfg0.N, win0_2.index t (0 : Fin 2) = 0 ∧ win0_2.index t (1 : Fin 2) = 0 :=
  (by decide +kernel : ∀ t : Fin grid0.N, _)
theorem winIdx3 : ∀ t : Fin cfg0.N, win0_3.index t (0 : Fin 2) = 0 ∧ win0_3.index t (1 : Fin 2) = 0 :=
  (by decide +kernel : ∀ t : Fin grid0.N, _)
theorem winIdx4 : ∀ t : Fin cfg0.N, win0_4.index t (0 : Fin 2) = 0 ∧ win0_4.index t (1 : Fin 2) = 0 :=
  (by decide +kernel : ∀ t : Fin grid0.N, _)
theorem winIdx5 : ∀ t : Fin cfg0.N, win0_5.index t (0 : Fin 2) = t.val ∧ win0_5.index t (1 : Fin 2) = 0 :=
  (by decide +kernel : ∀ t : Fin grid0.N, _)
theorem flush5 : ∀ t : Fin cfg0.N, (cfg0.win 5).flush t = true :=
  (by decide +kernel : ∀ t : Fin grid0.N, _)

/-- A row of a point's block, in the whole array. -/
def row (t : Fin cfg0.N) (r : Fin 512) : Fin 16384 := ⟨512 * t.val + r.val, by have := t_lt t; omega⟩

theorem blk0 (t : Fin cfg0.N) (r : Fin 512) (e : Fin 1024) :
    (iblk m c 0 t : Vec Ideal S512x1024 .f32) (ix2 r e)
      = Ha m c (ix3 ⟨row t r / 2048, by omega⟩ ⟨row t r % 2048, by omega⟩ e) := by
  have hi := winIdx0 t
  have e1 : (iblk m c 0 t : Vec Ideal S512x1024 .f32) (ix2 r e) = V m c main_v4 (ix2 (row t r) e) := by
    refine congrArg (V m c main_v4) (funext fun a => Fin.ext ?_)
    match a with
    | ⟨0, _⟩ => show win0_0.index t (0 : Fin 2) * 512 + 1 * r.val = _; rw [hi.1]; show _ = 512 * t.val + r.val; omega
    | ⟨1, _⟩ => show win0_0.index t (1 : Fin 2) * 1024 + 1 * e.val = _; rw [hi.2]; show _ = e.val; omega
  rw [e1, V_h, h_apply]

theorem blk1 (t : Fin cfg0.N) (k : Fin 1024) (n : Fin 5632) :
    (iblk m c 1 t : Vec Ideal S1024x5632 .bf16) (ix2 k n) = Ua m c (ix2 k n) := by
  have hi := winIdx1 t
  have e1 : (iblk m c 1 t : Vec Ideal S1024x5632 .bf16) (ix2 k n) = V m c main_v0 (ix2 k n) := by
    refine congrArg (V m c main_v0) (funext fun a => Fin.ext ?_)
    match a with
    | ⟨0, _⟩ => show win0_1.index t (0 : Fin 2) * 1024 + 1 * k.val = _; rw [hi.1]; show _ = k.val; omega
    | ⟨1, _⟩ => show win0_1.index t (1 : Fin 2) * 5632 + 1 * n.val = _; rw [hi.2]; show _ = n.val; omega
  rw [e1, V_u]

theorem blk2 (t : Fin cfg0.N) (k : Fin 2816) (n : Fin 1024) :
    (iblk m c 2 t : Vec Ideal S2816x1024 .bf16) (ix2 k n) = Da m c (ix2 k n) := by
  have hi := winIdx2 t
  have e1 : (iblk m c 2 t : Vec Ideal S2816x1024 .bf16) (ix2 k n) = V m c main_v1 (ix2 k n) := by
    refine congrArg (V m c main_v1) (funext fun a => Fin.ext ?_)
    match a with
    | ⟨0, _⟩ => show win0_2.index t (0 : Fin 2) * 2816 + 1 * k.val = _; rw [hi.1]; show _ = k.val; omega
    | ⟨1, _⟩ => show win0_2.index t (1 : Fin 2) * 1024 + 1 * n.val = _; rw [hi.2]; show _ = n.val; omega
  rw [e1, V_d]

theorem blk3 (t : Fin cfg0.N) (e : Fin 1024) : (iblk m c 3 t : Vec Ideal S1x1024 .f32) (ix2 0 e) = Ga m c (ix1 e) := by
  have hi := winIdx3 t
  have e1 : (iblk m c 3 t : Vec Ideal S1x1024 .f32) (ix2 0 e) = V m c main_v2 (ix2 0 e) := by
    refine congrArg (V m c main_v2) (funext fun a => Fin.ext ?_)
    match a with
    | ⟨0, _⟩ => show win0_3.index t (0 : Fin 2) * 1 + 1 * 0 = _; rw [hi.1]; rfl
    | ⟨1, _⟩ => show win0_3.index t (1 : Fin 2) * 1024 + 1 * e.val = _; rw [hi.2]; show _ = e.val; omega
  rw [e1, V_g, g_apply]

theorem blk4 (t : Fin cfg0.N) (e : Fin 1024) : (iblk m c 4 t : Vec Ideal S1x1024 .f32) (ix2 0 e) = Ba m c (ix1 e) := by
  have hi := winIdx4 t
  have e1 : (iblk m c 4 t : Vec Ideal S1x1024 .f32) (ix2 0 e) = V m c main_v3 (ix2 0 e) := by
    refine congrArg (V m c main_v3) (funext fun a => Fin.ext ?_)
    match a with
    | ⟨0, _⟩ => show win0_4.index t (0 : Fin 2) * 1 + 1 * 0 = _; rw [hi.1]; rfl
    | ⟨1, _⟩ => show win0_4.index t (1 : Fin 2) * 1024 + 1 * e.val = _; rw [hi.2]; show _ = e.val; omega
  rw [e1, V_b, g_apply]

/-- The final array at a row and lane: what the row's point left there. -/
theorem arr_apply (t : Fin cfg0.N) (r : Fin 512) (e : Fin 1024) :
    ((dats m 0 c).arrAt 5 cfg0.N : S16384x1024.Idx → EReal) (ix2 (row t r) e)
      = out0_5 (iblk m c 0 t) (iblk m c 1 t) (iblk m c 2 t) (iblk m c 3 t) (iblk m c 4 t) (ix2 r e) := by
  have hi := winIdx5 t
  have hb := (Value.blocks5 m c t (flush5 t)).trans (Value.flushed5 m c t)
  have h := congrFun hb (ix2 r e)
  refine Eq.trans ?_ (h.trans ?_)
  · refine congrArg ((dats m 0 c).arrAt 5 cfg0.N : S16384x1024.Idx → EReal) (funext fun a => Fin.ext ?_)
    match a with
    | ⟨0, _⟩ => show _ = win0_5.index t (0 : Fin 2) * 512 + 1 * r.val; rw [hi.1]; show 512 * t.val + r.val = _; omega
    | ⟨1, _⟩ => show _ = win0_5.index t (1 : Fin 2) * 1024 + 1 * e.val; rw [hi.2]; show e.val = _; omega
  · rfl

theorem result_apply (i : Fin 16384) (e : Fin 1024) :
    ((dats m 0 c).arrAt 5 cfg0.N : S16384x1024.Idx → EReal) (ix2 i e)
      = Cert.Reference2Ideal.Ffn.layer (F := Ideal) (Ha m c) (Ua m c) (Da m c) (Ga m c) (Ba m c) (ix2 i e) := by
  have hN : i.val / 512 < cfg0.N := by rw [show cfg0.N = 32 from N_0]; omega
  have hrow : row ⟨i.val / 512, hN⟩ ⟨i.val % 512, by omega⟩ = i := by apply Fin.ext; simp only [row]; omega
  have h := arr_apply m c ⟨i.val / 512, hN⟩ ⟨i.val % 512, by omega⟩ e
  rw [out_apply] at h
  simp only [blk0, blk1, blk2, blk3, blk4, hrow] at h
  rw [h]
  exact (Cert.Reference2Ideal.Ffn.layer_apply (Ha m c) (Ua m c) (Da m c) (Ga m c) (Ba m c) i e).symm

end Cert.Kernel2Ideal.Gen

namespace Cert.Proof.Ffn

open Idealize.ShloMosaic Idealize.ShloMosaic.TcCoe Idealize.SL.Sem

theorem reference_frame : Cert.quiescent_Reference2Ideal (hReference2Ideal := Cert.Reference2Ideal.Gen.facts) := by
  intro m g _
  exact (θ_run (Cert.Reference2Ideal.defs (F := Ideal)) _ _).mono (fun r h =>
      ⟨fun c => (h c).2, Idealize.ShloMosaic.sem_eq_zero_of_no_sems (by decide) r.2⟩)
    (Cert.Reference2Ideal.Value.run (F := Ideal) m g)

theorem algebraic : Cert.algebraic_Kernel2Ideal_Reference2Ideal (hKernel2Ideal := Cert.Kernel2Ideal.Gen.facts) (hReference2Ideal := Cert.Reference2Ideal.Gen.facts) := by
  intro m g m' g' _ hargs
  refine ⟨fun c => (Cert.Kernel2Ideal.Gen.dats m 0 c).arrAt 5 Cert.Kernel2Ideal.cfg0.N, Cert.Kernel2Ideal.Value.run_blocks m g, ?_⟩
  refine (θ_run (Cert.Reference2Ideal.defs (F := Ideal)) _ _).mono (fun r h c => ⟨(h c).1.trans ?_, (h c).2⟩)
    (Cert.Reference2Ideal.Value.run (F := Ideal) m' g')
  obtain ⟨h0, h1, h2, h3, h4⟩ := hargs c
  rw [Cert.Reference2Ideal.Ffn.res_eq, h0, h1, h2, h3, h4]
  funext i
  have e : i = ix2 (i 0) (i 1) := by
    funext a
    match a with
    | 0 => rfl
    | 1 => rfl
  rw [e]
  exact (Cert.Kernel2Ideal.Gen.result_apply m c (i 0) (i 1)).symm

end Cert.Proof.Ffn
-- ==== Proof.Merge.Steps.lean ====
/-
  What one point of the merge kernel leaves, read at one row and one lane: the layer norm of the residual plus the product
  of the two gated branches.
-/
module

public import proofs.«01_k».proof.Proof.Gen.Kernel3Ideal.Frame
public import proofs.«01_k».proof.Proof.Layer
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Gen

open Idealize.ShloMosaic Idealize.ShloMosaic.TcCoe Idealize.SL.Sem Idealize.ShloMosaic.Tactic
open Cert.Proof.Layer

section Ops

variable {F : FTy → Type} [FloatOps F]

/-- One branch's product. -/
def branch (x : Vec F S256x512 .f32) (w : Vec F S512x1024 .bf16) : FVec F S256x1024 .f32 :=
  matmul dot_S256x512_S512x1024_S256x1024_1_0_0_1_n_n none (truncf .bf16 (shapeCast S256x512 x shapeCasts_S256x512_S256x512) bitsLt_bf16_f32)
    (shapeCast S512x1024 w shapeCasts_S512x1024_S512x1024) (constant S256x1024 .f32 0x00000000#32)

/-- A branch times the logistic of its gate. -/
def gate (g : Vec F S256x1024 .f32) (y : FVec F S256x1024 .f32) : FVec F S256x1024 .f32 :=
  mulf (divf (broadcast S256x1024 (Scalar.ofBits .f32 0x3F800000#32)) (addf (broadcast S256x1024 (Scalar.ofBits .f32 0x3F800000#32))
    (exp (subf (broadcast S256x1024 (Scalar.ofBits .f32 0x00000000#32)) (shapeCast S256x1024 g shapeCasts_S256x1024_S256x1024))))) y

/-- The two gated branches. -/
def merged (gr gf : Vec F S256x1024 .f32) (xr xf : Vec F S256x512 .f32) (wr wf : Vec F S512x1024 .bf16) : FVec F S256x1024 .f32 :=
  addf (gate gr (branch xr wr)) (gate gf (branch xf wf))

/-- The rows before the norm. -/
def pre (x : Vec F S256x1024 .f32) (y : FVec F S256x1024 .f32) (w : Vec F S1024x1024 .bf16) : FVec F S256x1024 .f32 :=
  addf (mulf (broadcast S256x1024 (Scalar.ofBits .f32 0x3F9837F0#32)) (shapeCast S256x1024 x shapeCasts_S256x1024_S256x1024))
    (matmul dot_S256x1024_S1024x1024_S256x1024_1_0_0_1_n_n none (truncf .bf16 y bitsLt_bf16_f32)
      (shapeCast S1024x1024 w shapeCasts_S1024x1024_S1024x1024) (constant S256x1024 .f32 0x00000000#32))

/-- A row's mean, a column. -/
def rowMean (z : FVec F S256x1024 .f32) : FVec F S256x1 .f32 :=
  divf (shapeCast S256x1 (multiReduction .add [1] S256 z 0x00000000#32 reduces_S256x1024_S256 (.inl rfl) rfl) shapeCasts_S256_S256x1)
    (broadcast S256x1 (Scalar.ofBits .f32 0x44800000#32))

/-- The rows less their means. -/
def centred (z : FVec F S256x1024 .f32) : FVec F S256x1024 .f32 :=
  subf z (broadcastTo S256x1024 (rowMean z) broadcasts_S256x1_S256x1024)

/-- The layer norm of a block of rows. -/
def normed (z : FVec F S256x1024 .f32) (g b : Vec F S1x1024 .f32) : FVec F S256x1024 .f32 :=
  addf (mulf (mulf (centred z) (broadcastTo S256x1024
      (rsqrt (addf (rowMean (mulf (centred z) (centred z))) (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

theorem runA_L (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole)
    (x0 x1 x2 : Vec F S256x1024 .f32) (x3 x4 : Vec F S256x512 .f32) (x5 x6 : Vec F S512x1024 .bf16) (x7 : Vec F S1024x1024 .bf16) (x8 x9 : Vec F S1x1024 .f32) :
    (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8 x9).1
      = [⟨Rect.unit (s := S256x1024) ![0, 0] S256x1024.size inb_S256x1024_S256x1024_0_0, (normed (pre (View.readAt (Elt F) arg1.view (Rect.unit (s := S256x1024) ![0, 0] S256x1024.size inb_S256x1024_S256x1024_0_0).toLoadRect (harg1.unread x0)) (merged (View.readAt (Elt F) arg2.view (Rect.unit (s := S256x1024) ![0, 0] S256x1024.size inb_S256x1024_S256x1024_0_0).toLoadRect (harg2.unread x1)) (View.readAt (Elt F) arg3.view (Rect.unit (s := S256x1024) ![0, 0] S256x1024.size inb_S256x1024_S256x1024_0_0).toLoadRect (harg3.unread x2)) (View.readAt (Elt F) arg4.view (Rect.unit (s := S256x512) ![0, 0] S256x512.size inb_S256x512_S256x512_0_0).toLoadRect (harg4.unread x3)) (View.readAt (Elt F) arg5.view (Rect.unit (s := S256x512) ![0, 0] S256x512.size inb_S256x512_S256x512_0_0).toLoadRect (harg5.unread x4)) (View.readAt (Elt F) arg6.view (Rect.unit (s := S512x1024) ![0, 0] S512x1024.size inb_S512x1024_S512x1024_0_0).toLoadRect (harg6.unread x5)) (View.readAt (Elt F) arg7.view (Rect.unit (s := S512x1024) ![0, 0] S512x1024.size inb_S512x1024_S512x1024_0_0).toLoadRect (harg7.unread x6))) (View.readAt (Elt F) arg8.view (Rect.unit (s := S1024x1024) ![0, 0] S1024x1024.size inb_S1024x1024_S1024x1024_0_0).toLoadRect (harg8.unread x7))) (View.readAt (Elt F) arg9.view (Rect.unit (s := S1x1024) ![0, 0] S1x1024.size inb_S1x1024_S1x1024_0_0).toLoadRect (harg9.unread x8)) (View.readAt (Elt F) arg10.view (Rect.unit (s := S1x1024) ![0, 0] S1x1024.size inb_S1x1024_S1x1024_0_0).toLoadRect (harg10.unread x9)))⟩] := by
  unfold kernelRun0_A
  rfl

end Ops

theorem ix2_ext {n0 n1 : ℕ} {i : (⟨2, ![n0, n1]⟩ : Shape).Idx} {a : Fin n0} {b : Fin n1} (h0 : (i 0).val = a.val) (h1 : (i 1).val = b.val) :
    i = ix2 a b := by
  funext k
  match k with
  | ⟨0, _⟩ => exact Fin.ext h0
  | ⟨1, _⟩ => exact Fin.ext h1

theorem branch_apply (x : Vec Ideal S256x512 .f32) (w : Vec Ideal S512x1024 .bf16) (r : Fin 256) (e : Fin 1024) :
    branch x w (ix2 r e) = ∑ k : Fin 512, x (ix2 r k) * w (ix2 k e) := by
  pointwise [branch]

theorem gate_apply (g : Vec Ideal S256x1024 .f32) (y : FVec Ideal S256x1024 .f32) (r : Fin 256) (e : Fin 1024) :
    gate g y (ix2 r e) = gated (g (ix2 r e)) (y (ix2 r e)) := by
  pointwise [gate, gated]

theorem pre_apply (x : Vec Ideal S256x1024 .f32) (y : FVec Ideal S256x1024 .f32) (w : Vec Ideal S1024x1024 .bf16) (r : Fin 256) (e : Fin 1024) :
    pre x y w (ix2 r e) = alpha * x (ix2 r e) + ∑ k : Fin 1024, y (ix2 r k) * w (ix2 k e) := by
  pointwise [pre, alpha]

theorem rowMean_apply (z : FVec Ideal S256x1024 .f32) (r : Fin 256) :
    rowMean z (ix2 r 0) = mean fun k => z (ix2 r k) := by
  pointwise [rowMean, mean]

theorem centred_apply (z : FVec Ideal S256x1024 .f32) (r : Fin 256) (e : Fin 1024) :
    centred z (ix2 r e) = z (ix2 r e) - rowMean z (ix2 r 0) := by
  pointwise [centred]

theorem normed_apply0 (z : FVec Ideal S256x1024 .f32) (g b : Vec Ideal S1x1024 .f32) (r : Fin 256) (e : Fin 1024) :
    normed z g b (ix2 r e) = centred z (ix2 r e)
      * Ideal.rsqrt (rowMean (mulf (centred z) (centred z)) (ix2 r 0) + Ideal.ofBits .f32 0x3727C5AC#32) * g (ix2 0 e) + b (ix2 0 e) := by
  pointwise [normed]

theorem mulf_at {t : Shape} (a b : FVec Ideal t .f32) (j : t.Idx) : mulf a b j = a j * b j := rfl
theorem addf_at {t : Shape} (a b : FVec Ideal t .f32) (j : t.Idx) : addf a b j = a j + b j := rfl

theorem normed_apply (z : FVec Ideal S256x1024 .f32) (g b : Vec Ideal S1x1024 .f32) (r : Fin 256) (e : Fin 1024) :
    normed z g b (ix2 r e) = lnorm (fun k => z (ix2 r k)) (fun k => g (ix2 0 k)) (fun k => b (ix2 0 k)) e := by
  rw [normed_apply0, rowMean_apply, centred_apply, rowMean_apply]
  simp only [mulf_at, centred_apply, rowMean_apply]
  rfl

theorem z_apply (x gr gf : Vec Ideal S256x1024 .f32) (xr xf : Vec Ideal S256x512 .f32) (wr wf : Vec Ideal S512x1024 .bf16) (wo : Vec Ideal S1024x1024 .bf16)
    (r : Fin 256) (e : Fin 1024) :
    pre x (merged gr gf xr xf wr wf) wo (ix2 r e)
      = mrow (fun k => x (ix2 r k)) (fun k => gr (ix2 r k)) (fun k => gf (ix2 r k)) (fun k => xr (ix2 r k)) (fun k => xf (ix2 r k))
          (fun k n => wr (ix2 k n)) (fun k n => wf (ix2 k n)) (fun k n => wo (ix2 k n)) e := by
  rw [pre_apply]
  simp only [merged, addf_at, gate_apply, branch_apply]
  rfl

theorem whole_read {n0 n1 : ℕ} {φ : EltTy} (a : Memref sig .tc .vmem ⟨2, ![n0, n1]⟩ φ) (ha : a.IsWhole) (x : Vec Ideal ⟨2, ![n0, n1]⟩ φ)
    (inb : _) (r : Fin n0) (e : Fin n1) :
    (View.readAt (Elt Ideal) a.view (Rect.unit (s := (⟨2, ![n0, n1]⟩ : Shape)) ![0, 0] (⟨2, ![n0, n1]⟩ : Shape).size inb).toLoadRect (ha.unread x)
      : Vec Ideal ⟨2, ![n0, n1]⟩ φ) (ix2 r e) = x (ix2 r e) := by
  rw [View.readAt_eq_ld, Memref.IsWhole.read_unread]
  exact congrArg x (ix2_ext (by show 0 + 1 * r.val = _; omega) (by show 0 + 1 * e.val = _; omega))

/-- What a point leaves. -/
theorem out_apply (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole)
    (x0 x1 x2 : Vec Ideal S256x1024 .f32) (x3 x4 : Vec Ideal S256x512 .f32) (x5 x6 : Vec Ideal S512x1024 .bf16) (x7 : Vec Ideal S1024x1024 .bf16) (x8 x9 : Vec Ideal S1x1024 .f32) (r : Fin 256) (e : Fin 1024) :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 (ix2 r e)
      = lnorm (fun n => mrow (fun k => x0 (ix2 r k)) (fun k => x1 (ix2 r k)) (fun k => x2 (ix2 r k)) (fun k => x3 (ix2 r k)) (fun k => x4 (ix2 r k))
          (fun k n => x5 (ix2 k n)) (fun k n => x6 (ix2 k n)) (fun k n => x7 (ix2 k n)) n)
          (fun k => x8 (ix2 0 k)) (fun k => x9 (ix2 0 k)) e := by
  have hc : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 (ix2 r e)
      = (normed (pre (View.readAt (Elt Ideal) arg1.view (Rect.unit (s := S256x1024) ![0, 0] S256x1024.size inb_S256x1024_S256x1024_0_0).toLoadRect (harg1.unread x0)) (merged (View.readAt (Elt Ideal) arg2.view (Rect.unit (s := S256x1024) ![0, 0] S256x1024.size inb_S256x1024_S256x1024_0_0).toLoadRect (harg2.unread x1)) (View.readAt (Elt Ideal) arg3.view (Rect.unit (s := S256x1024) ![0, 0] S256x1024.size inb_S256x1024_S256x1024_0_0).toLoadRect (harg3.unread x2)) (View.readAt (Elt Ideal) arg4.view (Rect.unit (s := S256x512) ![0, 0] S256x512.size inb_S256x512_S256x512_0_0).toLoadRect (harg4.unread x3)) (View.readAt (Elt Ideal) arg5.view (Rect.unit (s := S256x512) ![0, 0] S256x512.size inb_S256x512_S256x512_0_0).toLoadRect (harg5.unread x4)) (View.readAt (Elt Ideal) arg6.view (Rect.unit (s := S512x1024) ![0, 0] S512x1024.size inb_S512x1024_S512x1024_0_0).toLoadRect (harg6.unread x5)) (View.readAt (Elt Ideal) arg7.view (Rect.unit (s := S512x1024) ![0, 0] S512x1024.size inb_S512x1024_S512x1024_0_0).toLoadRect (harg7.unread x6))) (View.readAt (Elt Ideal) arg8.view (Rect.unit (s := S1024x1024) ![0, 0] S1024x1024.size inb_S1024x1024_S1024x1024_0_0).toLoadRect (harg8.unread x7))) (View.readAt (Elt Ideal) arg9.view (Rect.unit (s := S1x1024) ![0, 0] S1x1024.size inb_S1x1024_S1x1024_0_0).toLoadRect (harg9.unread x8)) (View.readAt (Elt Ideal) arg10.view (Rect.unit (s := S1x1024) ![0, 0] S1x1024.size inb_S1x1024_S1x1024_0_0).toLoadRect (harg10.unread x9))) (ix2 r e) := by
    have hcov := cover0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 (ix2 r e)
    unfold out0_A_10
    rw [runA_L] at hcov ⊢
    generalize (normed (pre (View.readAt (Elt Ideal) arg1.view (Rect.unit (s := S256x1024) ![0, 0] S256x1024.size inb_S256x1024_S256x1024_0_0).toLoadRect (harg1.unread x0)) (merged (View.readAt (Elt Ideal) arg2.view (Rect.unit (s := S256x1024) ![0, 0] S256x1024.size inb_S256x1024_S256x1024_0_0).toLoadRect (harg2.unread x1)) (View.readAt (Elt Ideal) arg3.view (Rect.unit (s := S256x1024) ![0, 0] S256x1024.size inb_S256x1024_S256x1024_0_0).toLoadRect (harg3.unread x2)) (View.readAt (Elt Ideal) arg4.view (Rect.unit (s := S256x512) ![0, 0] S256x512.size inb_S256x512_S256x512_0_0).toLoadRect (harg4.unread x3)) (View.readAt (Elt Ideal) arg5.view (Rect.unit (s := S256x512) ![0, 0] S256x512.size inb_S256x512_S256x512_0_0).toLoadRect (harg5.unread x4)) (View.readAt (Elt Ideal) arg6.view (Rect.unit (s := S512x1024) ![0, 0] S512x1024.size inb_S512x1024_S512x1024_0_0).toLoadRect (harg6.unread x5)) (View.readAt (Elt Ideal) arg7.view (Rect.unit (s := S512x1024) ![0, 0] S512x1024.size inb_S512x1024_S512x1024_0_0).toLoadRect (harg7.unread x6))) (View.readAt (Elt Ideal) arg8.view (Rect.unit (s := S1024x1024) ![0, 0] S1024x1024.size inb_S1024x1024_S1024x1024_0_0).toLoadRect (harg8.unread x7))) (View.readAt (Elt Ideal) arg9.view (Rect.unit (s := S1x1024) ![0, 0] S1x1024.size inb_S1x1024_S1x1024_0_0).toLoadRect (harg9.unread x8)) (View.readAt (Elt Ideal) arg10.view (Rect.unit (s := S1x1024) ![0, 0] S1x1024.size inb_S1x1024_S1x1024_0_0).toLoadRect (harg10.unread x9))) = z at hcov ⊢
    refine View.read_writes_apply_of_pieces _ _ (show S256x1024.Idx → Elt Ideal EltTy.f32 from z) _ ?_ _ hcov
    intro pc hpc
    rcases List.mem_cons.mp hpc with rfl | hpc
    · intro x
      refine congrArg z (funext fun a => Fin.ext ?_)
      match a with
      | ⟨0, _⟩ => show (x 0).val = 0 + 1 * (x 0).val; omega
      | ⟨1, _⟩ => show (x 1).val = 0 + 1 * (x 1).val; omega
    · nomatch hpc
  rw [hc, normed_apply]
  simp only [z_apply, fun k => whole_read (n0 := 1) arg9 harg9 x8 inb_S1x1024_S1x1024_0_0 0 k, fun k => whole_read (n0 := 1) arg10 harg10 x9 inb_S1x1024_S1x1024_0_0 0 k]
  have w1 := whole_read arg1 harg1 x0 inb_S256x1024_S256x1024_0_0
  have w2 := whole_read arg2 harg2 x1 inb_S256x1024_S256x1024_0_0
  have w3 := whole_read arg3 harg3 x2 inb_S256x1024_S256x1024_0_0
  have w4 := whole_read arg4 harg4 x3 inb_S256x512_S256x512_0_0
  have w5 := whole_read arg5 harg5 x4 inb_S256x512_S256x512_0_0
  have w6 := whole_read arg6 harg6 x5 inb_S512x1024_S512x1024_0_0
  have w7 := whole_read arg7 harg7 x6 inb_S512x1024_S512x1024_0_0
  have w8 := whole_read arg8 harg8 x7 inb_S1024x1024_S1024x1024_0_0
  simp only [w1, w2, w3, w4, w5, w6, w7, w8]

end Cert.Kernel3Ideal.Gen
-- ==== Proof.Merge.Ref.lean ====
/-
  The reference's merge of its two branches read at one row and one lane.
-/
module

public import proofs.«01_k».proof.Proof.Gen.Reference3Ideal.Run
public import proofs.«01_k».proof.Proof.Layer
public import Idealize.ShloMosaic.Lib.Pipeline.ValueKit
public import Idealize.ShloMosaic.Lib.Pointwise

@[expose] public section

set_option maxRecDepth 16384

noncomputable section

namespace Cert.Reference3Ideal.Merge

open Cert.Reference3Ideal Cert.Reference3Ideal.Gen Idealize.ShloMosaic Idealize.ShloMosaic.TcCoe Idealize.SL.Sem
open Cert.Proof.Layer

section Ops

variable {F : FTy → Type} [FloatOps F]

/-- One branch's product. -/
def branch (x : FVec F S8x2048x512 .f32) (w : FVec F S512x1024 .f32) : FVec F S8x2048x1024 .f32 :=
  Host.dotGeneral dot_S8x2048x512_S512x1024_S8x2048x1024_2_0_01_1_n_n none x w

/-- A branch times the logistic of its gate. -/
def gate (g y : FVec F S8x2048x1024 .f32) : FVec F S8x2048x1024 .f32 :=
  mulf (Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf g)))) y

/-- The product of the merged branches. -/
def down (a : FVec F S8x2048x1024 .f32) (w : FVec F S1024x1024 .f32) : FVec F S8x2048x1024 .f32 :=
  Host.dotGeneral dot_S8x2048x1024_S1024x1024_S8x2048x1024_2_0_01_1_n_n none a w

/-- The rows before the norm. -/
def pre (x : FVec F S8x2048x1024 .f32) (y : FVec F S8x2048x1024 .f32) : FVec F S8x2048x1024 .f32 :=
  addf (mulf (broadcastInDim S8x2048x1024 ![] bcast_S_S8x2048x1024 (constant S_ .f32 0x3F9837F0#32)) x) y

/-- A row's sum. -/
def rowSum (z : FVec F S8x2048x1024 .f32) : FVec F S8x2048 .f32 :=
  Host.reduceAdd z (constant S_ .f32 0x00000000#32) reducesTo_S8x2048x1024_S8x2048_d2 h_S_

/-- A row's mean. -/
def rowMean (z : FVec F S8x2048x1024 .f32) : FVec F S8x2048x1 .f32 :=
  Host.divf (broadcastInDim S8x2048x1 ![0, 1] bcast_S8x2048_S8x2048x1_0_1 (rowSum z))
    (broadcastInDim S8x2048x1 ![] bcast_S_S8x2048x1 (constant S_ .f32 0x44800000#32))

/-- The rows less their means. -/
def centred (z : FVec F S8x2048x1024 .f32) : FVec F S8x2048x1024 .f32 :=
  subf z (broadcastInDim S8x2048x1024 ![0, 1, 2] bcast_S8x2048x1_S8x2048x1024_0_1_2 (rowMean z))

/-- The norm of centred rows `d`, of mean square `v`. -/
def scaled (d : FVec F S8x2048x1024 .f32) (v : FVec F S8x2048x1 .f32) (g b : FVec F S1024 .f32) : FVec F S16384x1024 .f32 :=
  shapeCast _ (addf (mulf (mulf d (broadcastInDim S8x2048x1024 ![0, 1, 2] bcast_S8x2048x1_S8x2048x1024_0_1_2
      (Host.rsqrt (addf v (broadcastInDim S8x2048x1 ![] bcast_S_S8x2048x1 (constant S_ .f32 0x3727C5AC#32))))))
    (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 b)))
    shapeCasts_S8x2048x1024_S16384x1024

/-- The layer norm of the rows. -/
def normed (z : FVec F S8x2048x1024 .f32) (g b : FVec F S1024 .f32) : FVec F S16384x1024 .f32 :=
  scaled (centred z) (rowMean (mulf (centred z) (centred z))) g b

/-- The merge of its arguments. -/
def layer (x gr gf : FVec F S8x2048x1024 .f32) (xr xf : FVec F S8x2048x512 .f32) (wr wf : FVec F S512x1024 .f32) (wo : FVec F S1024x1024 .f32)
    (g b : FVec F S1024 .f32) : FVec F S16384x1024 .f32 :=
  normed (pre x (down (addf (gate gr (branch xr wr)) (gate gf (branch xf wf))) wo)) g b

theorem res_eq (m : (ℓ : Loc nD τ sig) → Buf (Elt F) ℓ) (c : Dev nD) :
    Value.res_main_v45 m c = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

end Ops

theorem zero_word (u : EReal) : Ideal.ofBits .f32 0x00000000#32 - u = -u := by
  rw [show Ideal.ofBits .f32 0x00000000#32 = (0 : EReal) by simp [Ideal.ofBits, Ideal.ieee], zero_sub]

theorem branch_apply (x : FVec Ideal S8x2048x512 .f32) (w : FVec Ideal S512x1024 .f32) (p : Fin 8) (r : Fin 2048) (e : Fin 1024) :
    branch x w (ix3 p r e) = ∑ k : Fin 512, x (ix3 p r k) * w (ix2 k e) := by
  pointwise [branch]

theorem gate_apply (g y : FVec Ideal S8x2048x1024 .f32) (p : Fin 8) (r : Fin 2048) (e : Fin 1024) :
    gate g y (ix3 p r e) = gated (g (ix3 p r e)) (y (ix3 p r e)) := by
  unfold gated
  rw [zero_word]
  pointwise [gate]

theorem down_apply (a : FVec Ideal S8x2048x1024 .f32) (w : FVec Ideal S1024x1024 .f32) (p : Fin 8) (r : Fin 2048) (e : Fin 1024) :
    down a w (ix3 p r e) = ∑ n : Fin 1024, a (ix3 p r n) * w (ix2 n e) := by
  pointwise [down]

theorem addf_at {t : Shape} (a b : FVec Ideal t .f32) (j : t.Idx) : addf a b j = a j + b j := rfl

theorem pre_apply (x y : FVec Ideal S8x2048x1024 .f32) (p : Fin 8) (r : Fin 2048) (e : Fin 1024) :
    pre x y (ix3 p r e) = alpha * x (ix3 p r e) + y (ix3 p r e) := by
  pointwise [pre, alpha]

theorem rowSum_apply (z : FVec Ideal S8x2048x1024 .f32) (p : Fin 8) (r : Fin 2048) :
    rowSum z (ix2 p r) = ∑ k : Fin 1024, z (ix3 p r k) := by
  pointwise [rowSum]

theorem rowMean_apply (z : FVec Ideal S8x2048x1024 .f32) (p : Fin 8) (r : Fin 2048) :
    rowMean z (ix3 p r 0) = mean fun k => z (ix3 p r k) := by
  unfold mean
  rw [← rowSum_apply]
  pointwise [rowMean]

theorem centred_apply (z : FVec Ideal S8x2048x1024 .f32) (p : Fin 8) (r : Fin 2048) (e : Fin 1024) :
    centred z (ix3 p r e) = z (ix3 p r e) - rowMean z (ix3 p r 0) := by
  pointwise [centred]

theorem scaled_apply (d : FVec Ideal S8x2048x1024 .f32) (v : FVec Ideal S8x2048x1 .f32) (g b : FVec Ideal S1024 .f32) (i : Fin 16384) (e : Fin 1024) :
    scaled d v g b (ix2 i e) = d (ix3 ⟨i / 2048, by omega⟩ ⟨i % 2048, by omega⟩ e)
      * Ideal.rsqrt (v (ix3 ⟨i / 2048, by omega⟩ ⟨i % 2048, by omega⟩ 0) + Ideal.ofBits .f32 0x3727C5AC#32) * g (ix1 e) + b (ix1 e) := by
  pointwise [scaled]

theorem mulf_at {t : Shape} (a b : FVec Ideal t .f32) (j : t.Idx) : mulf a b j = a j * b j := rfl

theorem normed_apply (z : FVec Ideal S8x2048x1024 .f32) (g b : FVec Ideal S1024 .f32) (i : Fin 16384) (e : Fin 1024) :
    normed z g b (ix2 i e) = lnorm (fun k => z (ix3 ⟨i / 2048, by omega⟩ ⟨i % 2048, by omega⟩ k)) (fun k => g (ix1 k)) (fun k => b (ix1 k)) e := by
  unfold normed
  rw [scaled_apply, rowMean_apply, centred_apply, rowMean_apply]
  simp only [mulf_at, centred_apply, rowMean_apply]
  rfl

theorem z_apply (x gr gf : FVec Ideal S8x2048x1024 .f32) (xr xf : FVec Ideal S8x2048x512 .f32) (wr wf : FVec Ideal S512x1024 .f32) (wo : FVec Ideal S1024x1024 .f32) (p : Fin 8) (r : Fin 2048) (e : Fin 1024) :
    pre x (down (addf (gate gr (branch xr wr)) (gate gf (branch xf wf))) wo) (ix3 p r e)
      = mrow (fun k => x (ix3 p r k)) (fun k => gr (ix3 p r k)) (fun k => gf (ix3 p r k)) (fun k => xr (ix3 p r k)) (fun k => xf (ix3 p r k))
          (fun k n => wr (ix2 k n)) (fun k n => wf (ix2 k n)) (fun k n => wo (ix2 k n)) e := by
  rw [pre_apply, down_apply]
  simp only [addf_at, gate_apply, branch_apply]
  rfl

theorem layer_apply (x gr gf : FVec Ideal S8x2048x1024 .f32) (xr xf : FVec Ideal S8x2048x512 .f32) (wr wf : FVec Ideal S512x1024 .f32) (wo : FVec Ideal S1024x1024 .f32) (g b : FVec Ideal S1024 .f32)
    (i : Fin 16384) (e : Fin 1024) :
    layer x gr gf xr xf wr wf wo g b (ix2 i e)
      = lnorm (fun k => mrow (fun j => x (ix3 ⟨i / 2048, by omega⟩ ⟨i % 2048, by omega⟩ j)) (fun j => gr (ix3 ⟨i / 2048, by omega⟩ ⟨i % 2048, by omega⟩ j))
          (fun j => gf (ix3 ⟨i / 2048, by omega⟩ ⟨i % 2048, by omega⟩ j)) (fun j => xr (ix3 ⟨i / 2048, by omega⟩ ⟨i % 2048, by omega⟩ j))
          (fun j => xf (ix3 ⟨i / 2048, by omega⟩ ⟨i % 2048, by omega⟩ j)) (fun j n => wr (ix2 j n)) (fun j n => wf (ix2 j n)) (fun j n => wo (ix2 j n)) k)
          (fun k => g (ix1 k)) (fun k => b (ix1 k)) e := by
  unfold layer
  rw [normed_apply]
  simp only [z_apply]

end Cert.Reference3Ideal.Merge
-- ==== Proof.Merge.Final.lean ====
/-
  The merge kernel's result is the reference's, at every row and lane.
-/
module

public import proofs.«01_k».proof.Defs
public import proofs.«01_k».proof.Proof.Merge.Steps
public import proofs.«01_k».proof.Proof.Merge.Ref
public import proofs.«01_k».proof.Proof.Gen.Kernel3Ideal.Value
public import Idealize.ShloMosaic.Lib.Claim

@[expose] public section

set_option maxRecDepth 16384

noncomputable section

namespace Cert.Kernel3Ideal.Gen

open Idealize.ShloMosaic Idealize.ShloMosaic.TcCoe Idealize.SL.Sem Idealize.ShloMosaic.Tactic
open Cert.Proof.Layer

variable (m : (ℓ : Loc nD τ sig) → Buf (Elt Ideal) ℓ) (c : Dev nD)

/-- The layer's input. -/
abbrev Ha : FVec Ideal S8x2048x1024 .f32 := m ((c.tc : Thread nD τ).loc main_arg0)
/-- The first branch's gate. -/
abbrev Gr : FVec Ideal S8x2048x1024 .f32 := m ((c.tc : Thread nD τ).loc main_arg1)
/-- The second branch's gate. -/
abbrev Gf : FVec Ideal S8x2048x1024 .f32 := m ((c.tc : Thread nD τ).loc main_arg2)
/-- The first branch. -/
abbrev Xr : FVec Ideal S8x2048x512 .f32 := m ((c.tc : Thread nD τ).loc main_arg3)
/-- The second branch. -/
abbrev Xf : FVec Ideal S8x2048x512 .f32 := m ((c.tc : Thread nD τ).loc main_arg4)
/-- The first branch's weights. -/
abbrev Wr : FVec Ideal S512x1024 .f32 := m ((c.tc : Thread nD τ).loc main_arg5)
/-- The second branch's weights. -/
abbrev Wf : FVec Ideal S512x1024 .f32 := m ((c.tc : Thread nD τ).loc main_arg6)
/-- The weights of the merged branches. -/
abbrev Wo : FVec Ideal S1024x1024 .f32 := m ((c.tc : Thread nD τ).loc main_arg7)
/-- The norm's scale. -/
abbrev Ga : FVec Ideal S1024 .f32 := m ((c.tc : Thread nD τ).loc main_arg8)
/-- The norm's shift. -/
abbrev Ba : FVec Ideal S1024 .f32 := m ((c.tc : Thread nD τ).loc main_arg9)

/-- The gates side by side, ahead of the other streams. -/
def tokOf (gr gf : FVec Ideal S8x2048x1024 .f32) : FVec Ideal S16384x4608 .f32 :=
  concatenate S16384x4608 1 [⟨S16384x1024, shapeCast S16384x1024 gr shapeCasts_S8x2048x1024_S16384x1024⟩,
    ⟨S16384x1024, shapeCast S16384x1024 gf shapeCasts_S8x2048x1024_S16384x1024⟩,
    ⟨S16384x2560, broadcastInDim S16384x2560 ![] bcast_S_S16384x2560 (constant (F := Ideal) S_ .f32 0x00000000#32)⟩]
    concatenates_S16384x1024_S16384x1024_S16384x2560_S16384x4608_d1

theorem V_h : V m c main_v9 = shapeCast S16384x1024 (Ha m c) shapeCasts_S8x2048x1024_S16384x1024 := by
  entry_read
  rfl
theorem V_tok : V m c main_v8 = tokOf (Gr m c) (Gf m c) := by
  show StableHlo.after _ _ (Proc.devRef .tc main_v8) = _
  after_results
  all_goals rfl
theorem V_xr : V m c main_v10 = shapeCast S16384x512 (Xr m c) shapeCasts_S8x2048x512_S16384x512 := by
  entry_read
  rfl
theorem V_xf : V m c main_v11 = shapeCast S16384x512 (Xf m c) shapeCasts_S8x2048x512_S16384x512 := by
  entry_read
  rfl
theorem V_wr : V m c main_v0 = (Wr m c : S512x1024.Idx → EReal) := by
  entry_read
  rfl
theorem V_wf : V m c main_v1 = (Wf m c : S512x1024.Idx → EReal) := by
  entry_read
  rfl
theorem V_wo : V m c main_v2 = (Wo m c : S1024x1024.Idx → EReal) := by
  entry_read
  rfl
theorem V_g : V m c main_v3 = shapeCast S1x1024 (Ga m c) shapeCasts_S1024_S1x1024 := by
  entry_read
  rfl
theorem V_b : V m c main_v4 = shapeCast S1x1024 (Ba m c) shapeCasts_S1024_S1x1024 := by
  entry_read
  rfl

theorem h_apply (x : FVec Ideal S8x2048x1024 .f32) (i : Fin 16384) (e : Fin 1024) :
    shapeCast S16384x1024 x shapeCasts_S8x2048x1024_S16384x1024 (ix2 i e) = x (ix3 ⟨i / 2048, by omega⟩ ⟨i % 2048, by omega⟩ e) := by
  pointwise

theorem x_apply (x : FVec Ideal S8x2048x512 .f32) (i : Fin 16384) (e : Fin 512) :
    shapeCast S16384x512 x shapeCasts_S8x2048x512_S16384x512 (ix2 i e) = x (ix3 ⟨i / 2048, by omega⟩ ⟨i % 2048, by omega⟩ e) := by
  pointwise

theorem g_apply (x : FVec Ideal S1024 .f32) (e : Fin 1024) :
    shapeCast S1x1024 x shapeCasts_S1024_S1x1024 (ix2 0 e) = x (ix1 e) := by
  pointwise

theorem tok_r (gr gf : FVec Ideal S8x2048x1024 .f32) (i : Fin 16384) (e : Fin 1024) :
    tokOf gr gf (ix2 i ⟨e.val, by omega⟩) = gr (ix3 ⟨i / 2048, by omega⟩ ⟨i % 2048, by omega⟩ e) := by
  pointwise [tokOf]

theorem tok_f (gr gf : FVec Ideal S8x2048x1024 .f32) (i : Fin 16384) (e : Fin 1024) :
    tokOf gr gf (ix2 i ⟨1024 + e.val, by omega⟩) = gf (ix3 ⟨i / 2048, by omega⟩ ⟨i % 2048, by omega⟩ e) := by
  pointwise [tokOf]

theorem t_lt (t : Fin cfg0.N) : t.val < 64 := t.isLt.trans_eq N_0

theorem winIdx0 : ∀ t : Fin cfg0.N, win0_0.index t (0 : Fin 2) = t.val ∧ win0_0.index t (1 : Fin 2) = 0 :=
  (by decide +kernel : ∀ t : Fin grid0.N, _)
theorem winIdx1 : ∀ t : Fin cfg0.N, win0_1.index t (0 : Fin 2) = t.val ∧ win0_1.index t (1 : Fin 2) = 0 :=
  (by decide +kernel : ∀ t : Fin grid0.N, _)
theorem winIdx2 : ∀ t : Fin cfg0.N, win0_2.index t (0 : Fin 2) = t.val ∧ win0_2.index t (1 : Fin 2) = 1 :=
  (by decide +kernel : ∀ t : Fin grid0.N, _)
theorem winIdx3 : ∀ t : Fin cfg0.N, win0_3.index t (0 : Fin 2) = t.val ∧ win0_3.index t (1 : Fin 2) = 0 :=
  (by decide +kernel : ∀ t : Fin grid0.N, _)
theorem winIdx4 : ∀ t : Fin cfg0.N, win0_4.index t (0 : Fin 2) = t.val ∧ win0_4.index t (1 : Fin 2) = 0 :=
  (by decide +kernel : ∀ t : Fin grid0.N, _)
theorem winIdx5 : ∀ t : Fin cfg0.N, win0_5.index t (0 : Fin 2) = 0 ∧ win0_5.index t (1 : Fin 2) = 0 :=
  (by decide +kernel : ∀ t : Fin grid0.N, _)
theorem winIdx6 : ∀ t : Fin cfg0.N, win0_6.index t (0 : Fin 2) = 0 ∧ win0_6.index t (1 : Fin 2) = 0 :=
  (by decide +kernel : ∀ t : Fin grid0.N, _)
theorem winIdx7 : ∀ t : Fin cfg0.N, win0_7.index t (0 : Fin 2) = 0 ∧ win0_7.index t (1 : Fin 2) = 0 :=
  (by decide +kernel : ∀ t : Fin grid0.N, _)
theorem winIdx8 : ∀ t : Fin cfg0.N, win0_8.index t (0 : Fin 2) = 0 ∧ win0_8.index t (1 : Fin 2) = 0 :=
  (by decide +kernel : ∀ t : Fin grid0.N, _)
theorem winIdx9 : ∀ t : Fin cfg0.N, win0_9.index t (0 : Fin 2) = 0 ∧ win0_9.index t (1 : Fin 2) = 0 :=
  (by decide +kernel : ∀ t : Fin grid0.N, _)
theorem winIdx10 : ∀ t : Fin cfg0.N, win0_10.index t (0 : Fin 2) = t.val ∧ win0_10.index t (1 : Fin 2) = 0 :=
  (by decide +kernel : ∀ t : Fin grid0.N, _)
theorem flush10 : ∀ t : Fin cfg0.N, (cfg0.win 10).flush t = true :=
  (by decide +kernel : ∀ t : Fin grid0.N, _)

/-- A row of a point's block, in the whole array. -/
def row (t : Fin cfg0.N) (r : Fin 256) : Fin 16384 := ⟨256 * t.val + r.val, by have := t_lt t; omega⟩

theorem blk0 (t : Fin cfg0.N) (r : Fin 256) (e : Fin 1024) :
    (iblk m c 0 t : Vec Ideal S256x1024 .f32) (ix2 r e) = Ha m c (ix3 ⟨row t r / 2048, by omega⟩ ⟨row t r % 2048, by omega⟩ e) := by
  have hi := winIdx0 t
  have e1 : (iblk m c 0 t : Vec Ideal S256x1024 .f32) (ix2 r e) = V m c main_v9 (ix2 (row t r) e) := by
    refine congrArg (V m c main_v9) (funext fun a => Fin.ext ?_)
    match a with
    | ⟨0, _⟩ => show win0_0.index t (0 : Fin 2) * 256 + 1 * r.val = _; rw [hi.1]; show _ = 256 * t.val + r.val; omega
    | ⟨1, _⟩ => show win0_0.index t (1 : Fin 2) * 1024 + 1 * e.val = _; rw [hi.2]; show _ = e.val; omega
  rw [e1, V_h, h_apply]

theorem blk1 (t : Fin cfg0.N) (r : Fin 256) (e : Fin 1024) :
    (X0_1 m c t : Vec Ideal S256x1024 .f32) (ix2 r e) = Gr m c (ix3 ⟨row t r / 2048, by omega⟩ ⟨row t r % 2048, by omega⟩ e) := by
  have hi := winIdx1 t
  have e1 : (X0_1 m c t : Vec Ideal S256x1024 .f32) (ix2 r e) = V m c main_v8 (ix2 (row t r) ⟨e.val, by omega⟩) := by
    unfold X0_1 Pipeline.Window.fill
    refine (dif_pos (moved0_1 t _)).trans ?_
    refine congrArg (V m c main_v8) (funext fun a => Fin.ext ?_)
    match a with
    | ⟨0, _⟩ => show win0_1.index t (0 : Fin 2) * 256 + 1 * r.val = _; rw [hi.1]; show _ = 256 * t.val + r.val; omega
    | ⟨1, _⟩ => show win0_1.index t (1 : Fin 2) * 1024 + 1 * e.val = _; rw [hi.2]; show _ = e.val; omega
  rw [e1, V_tok, tok_r]

theorem blk2 (t : Fin cfg0.N) (r : Fin 256) (e : Fin 1024) :
    (X0_2 m c t : Vec Ideal S256x1024 .f32) (ix2 r e) = Gf m c (ix3 ⟨row t r / 2048, by omega⟩ ⟨row t r % 2048, by omega⟩ e) := by
  have hi := winIdx2 t
  have e1 : (X0_2 m c t : Vec Ideal S256x1024 .f32) (ix2 r e) = V m c main_v8 (ix2 (row t r) ⟨1024 + e.val, by omega⟩) := by
    unfold X0_2 Pipeline.Window.fill
    refine (dif_pos (moved0_2 t _)).trans ?_
    refine congrArg (V m c main_v8) (funext fun a => Fin.ext ?_)
    match a with
    | ⟨0, _⟩ => show win0_2.index t (0 : Fin 2) * 256 + 1 * r.val = _; rw [hi.1]; show _ = 256 * t.val + r.val; omega
    | ⟨1, _⟩ => show win0_2.index t (1 : Fin 2) * 1024 + 1 * e.val = _; rw [hi.2]; show _ = 1024 + e.val; omega
  rw [e1, V_tok, tok_f]

theorem blk3 (t : Fin cfg0.N) (r : Fin 256) (e : Fin 512) :
    (iblk m c 3 t : Vec Ideal S256x512 .f32) (ix2 r e) = Xr m c (ix3 ⟨row t r / 2048, by omega⟩ ⟨row t r % 2048, by omega⟩ e) := by
  have hi := winIdx3 t
  have e1 : (iblk m c 3 t : Vec Ideal S256x512 .f32) (ix2 r e) = V m c main_v10 (ix2 (row t r) e) := by
    refine congrArg (V m c main_v10) (funext fun a => Fin.ext ?_)
    match a with
    | ⟨0, _⟩ => show win0_3.index t (0 : Fin 2) * 256 + 1 * r.val = _; rw [hi.1]; show _ = 256 * t.val + r.val; omega
    | ⟨1, _⟩ => show win0_3.index t (1 : Fin 2) * 512 + 1 * e.val = _; rw [hi.2]; show _ = e.val; omega
  rw [e1, V_xr, x_apply]

theorem blk4 (t : Fin cfg0.N) (r : Fin 256) (e : Fin 512) :
    (iblk m c 4 t : Vec Ideal S256x512 .f32) (ix2 r e) = Xf m c (ix3 ⟨row t r / 2048, by omega⟩ ⟨row t r % 2048, by omega⟩ e) := by
  have hi := winIdx4 t
  have e1 : (iblk m c 4 t : Vec Ideal S256x512 .f32) (ix2 r e) = V m c main_v11 (ix2 (row t r) e) := by
    refine congrArg (V m c main_v11) (funext fun a => Fin.ext ?_)
    match a with
    | ⟨0, _⟩ => show win0_4.index t (0 : Fin 2) * 256 + 1 * r.val = _; rw [hi.1]; show _ = 256 * t.val + r.val; omega
    | ⟨1, _⟩ => show win0_4.index t (1 : Fin 2) * 512 + 1 * e.val = _; rw [hi.2]; show _ = e.val; omega
  rw [e1, V_xf, x_apply]

theorem blk5 (t : Fin cfg0.N) (k : Fin 512) (n : Fin 1024) :
    (iblk m c 5 t : Vec Ideal S512x1024 .bf16) (ix2 k n) = Wr m c (ix2 k n) := by
  have hi := winIdx5 t
  have e1 : (iblk m c 5 t : Vec Ideal S512x1024 .bf16) (ix2 k n) = V m c main_v0 (ix2 k n) := by
    refine congrArg (V m c main_v0) (funext fun a => Fin.ext ?_)
    match a with
    | ⟨0, _⟩ => show win0_5.index t (0 : Fin 2) * 512 + 1 * k.val = _; rw [hi.1]; show _ = k.val; omega
    | ⟨1, _⟩ => show win0_5.index t (1 : Fin 2) * 1024 + 1 * n.val = _; rw [hi.2]; show _ = n.val; omega
  rw [e1, V_wr]

theorem blk6 (t : Fin cfg0.N) (k : Fin 512) (n : Fin 1024) :
    (iblk m c 6 t : Vec Ideal S512x1024 .bf16) (ix2 k n) = Wf m c (ix2 k n) := by
  have hi := winIdx6 t
  have e1 : (iblk m c 6 t : Vec Ideal S512x1024 .bf16) (ix2 k n) = V m c main_v1 (ix2 k n) := by
    refine congrArg (V m c main_v1) (funext fun a => Fin.ext ?_)
    match a with
    | ⟨0, _⟩ => show win0_6.index t (0 : Fin 2) * 512 + 1 * k.val = _; rw [hi.1]; show _ = k.val; omega
    | ⟨1, _⟩ => show win0_6.index t (1 : Fin 2) * 1024 + 1 * n.val = _; rw [hi.2]; show _ = n.val; omega
  rw [e1, V_wf]

theorem blk7 (t : Fin cfg0.N) (k : Fin 1024) (n : Fin 1024) :
    (iblk m c 7 t : Vec Ideal S1024x1024 .bf16) (ix2 k n) = Wo m c (ix2 k n) := by
  have hi := winIdx7 t
  have e1 : (iblk m c 7 t : Vec Ideal S1024x1024 .bf16) (ix2 k n) = V m c main_v2 (ix2 k n) := by
    refine congrArg (V m c main_v2) (funext fun a => Fin.ext ?_)
    match a with
    | ⟨0, _⟩ => show win0_7.index t (0 : Fin 2) * 1024 + 1 * k.val = _; rw [hi.1]; show _ = k.val; omega
    | ⟨1, _⟩ => show win0_7.index t (1 : Fin 2) * 1024 + 1 * n.val = _; rw [hi.2]; show _ = n.val; omega
  rw [e1, V_wo]

theorem blk8 (t : Fin cfg0.N) (e : Fin 1024) : (iblk m c 8 t : Vec Ideal S1x1024 .f32) (ix2 0 e) = Ga m c (ix1 e) := by
  have hi := winIdx8 t
  have e1 : (iblk m c 8 t : Vec Ideal S1x1024 .f32) (ix2 0 e) = V m c main_v3 (ix2 0 e) := by
    refine congrArg (V m c main_v3) (funext fun a => Fin.ext ?_)
    match a with
    | ⟨0, _⟩ => show win0_8.index t (0 : Fin 2) * 1 + 1 * 0 = _; rw [hi.1]; rfl
    | ⟨1, _⟩ => show win0_8.index t (1 : Fin 2) * 1024 + 1 * e.val = _; rw [hi.2]; show _ = e.val; omega
  rw [e1, V_g, g_apply]

theorem blk9 (t : Fin cfg0.N) (e : Fin 1024) : (iblk m c 9 t : Vec Ideal S1x1024 .f32) (ix2 0 e) = Ba m c (ix1 e) := by
  have hi := winIdx9 t
  have e1 : (iblk m c 9 t : Vec Ideal S1x1024 .f32) (ix2 0 e) = V m c main_v4 (ix2 0 e) := by
    refine congrArg (V m c main_v4) (funext fun a => Fin.ext ?_)
    match a with
    | ⟨0, _⟩ => show win0_9.index t (0 : Fin 2) * 1 + 1 * 0 = _; rw [hi.1]; rfl
    | ⟨1, _⟩ => show win0_9.index t (1 : Fin 2) * 1024 + 1 * e.val = _; rw [hi.2]; show _ = e.val; omega
  rw [e1, V_b, g_apply]

/-- The final array at a row and lane: what the row's point left there. -/
theorem arr_apply (t : Fin cfg0.N) (r : Fin 256) (e : Fin 1024) :
    ((dats m 0 c).arrAt 10 cfg0.N : S16384x1024.Idx → EReal) (ix2 (row t r) e) = (outsAt0 m c t : S256x1024.Idx → EReal) (ix2 r e) := by
  have hi := winIdx10 t
  have hb := (Value.blocks10 m c t (flush10 t)).trans (Value.flushed10 m c t)
  have h := congrFun hb (ix2 r e)
  refine Eq.trans ?_ (h.trans ?_)
  · refine congrArg ((dats m 0 c).arrAt 10 cfg0.N : S16384x1024.Idx → EReal) (funext fun a => Fin.ext ?_)
    match a with
    | ⟨0, _⟩ => show _ = win0_10.index t (0 : Fin 2) * 256 + 1 * r.val; rw [hi.1]; show 256 * t.val + r.val = _; omega
    | ⟨1, _⟩ => show _ = win0_10.index t (1 : Fin 2) * 1024 + 1 * e.val; rw [hi.2]; show e.val = _; omega
  · rfl

theorem result_apply (i : Fin 16384) (e : Fin 1024) :
    ((dats m 0 c).arrAt 10 cfg0.N : S16384x1024.Idx → EReal) (ix2 i e)
      = Cert.Reference3Ideal.Merge.layer (F := Ideal) (Ha m c) (Gr m c) (Gf m c) (Xr m c) (Xf m c) (Wr m c) (Wf m c) (Wo m c) (Ga m c) (Ba m c) (ix2 i e) := by
  have hN : i.val / 256 < cfg0.N := by rw [show cfg0.N = 64 from N_0]; omega
  have hrow : row ⟨i.val / 256, hN⟩ ⟨i.val % 256, by omega⟩ = i := by apply Fin.ext; simp only [row]; omega
  have h := arr_apply m c ⟨i.val / 256, hN⟩ ⟨i.val % 256, by omega⟩ e
  unfold outsAt0 at h
  rw [out_apply] at h
  simp only [blk0, blk1, blk2, blk3, blk4, blk5, blk6, blk7, blk8, blk9, hrow] at h
  rw [h]
  exact (Cert.Reference3Ideal.Merge.layer_apply (Ha m c) (Gr m c) (Gf m c) (Xr m c) (Xf m c) (Wr m c) (Wf m c) (Wo m c) (Ga m c) (Ba m c) i e).symm

end Cert.Kernel3Ideal.Gen

namespace Cert.Proof.Merge

open Idealize.ShloMosaic Idealize.ShloMosaic.TcCoe Idealize.SL.Sem

theorem reference_frame : Cert.quiescent_Reference3Ideal (hReference3Ideal := Cert.Reference3Ideal.Gen.facts) := by
  intro m g _
  exact (θ_run (Cert.Reference3Ideal.defs (F := Ideal)) _ _).mono (fun r h =>
      ⟨fun c => (h c).2, Idealize.ShloMosaic.sem_eq_zero_of_no_sems (by decide) r.2⟩)
    (Cert.Reference3Ideal.Value.run (F := Ideal) m g)

theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 10 Cert.Kernel3Ideal.cfg0.N, Cert.Kernel3Ideal.Value.run_blocks m g, ?_⟩
  refine (θ_run (Cert.Reference3Ideal.defs (F := Ideal)) _ _).mono (fun r h c => ⟨(h c).1.trans ?_, (h c).2⟩)
    (Cert.Reference3Ideal.Value.run (F := Ideal) m' g')
  obtain ⟨h0, h1, h2, h3, h4, h5, h6, h7, h8, h9⟩ := hargs c
  rw [Cert.Reference3Ideal.Merge.res_eq, h0, h1, h2, h3, h4, h5, h6, h7, h8, h9]
  funext i
  have e : i = ix2 (i 0) (i 1) := by
    funext a
    match a with
    | 0 => rfl
    | 1 => rfl
  rw [e]
  exact (Cert.Kernel3Ideal.Gen.result_apply m c (i 0) (i 1)).symm

end Cert.Proof.Merge
-- ==== Proof.Proj.Steps.lean ====
/-
  What one point of the projection kernel leaves in its two blocks, read at an index: products of the point's rows with the
  prepared weights' rows.
-/
module

public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Kernel4Ideal.Gen

open Idealize.ShloMosaic Idealize.ShloMosaic.TcCoe Idealize.SL.Sem Idealize.ShloMosaic.Tactic

theorem ix2_ext {n0 n1 : ℕ} {i : (⟨2, ![n0, n1]⟩ : Shape).Idx} {a : Fin n0} {b : Fin n1} (h0 : (i 0).val = a.val) (h1 : (i 1).val = b.val) :
    i = ix2 a b := by
  funext k
  match k with
  | ⟨0, _⟩ => exact Fin.ext h0
  | ⟨1, _⟩ => exact Fin.ext h1

theorem ix3_ext {n0 n1 n2 : ℕ} {i : (⟨3, ![n0, n1, n2]⟩ : Shape).Idx} {a : Fin n0} {b : Fin n1} {d : Fin n2} (h0 : (i 0).val = a.val) (h1 : (i 1).val = b.val)
    (h2 : (i 2).val = d.val) : i = ix3 a b d := by
  funext k
  match k with
  | ⟨0, _⟩ => exact Fin.ext h0
  | ⟨1, _⟩ => exact Fin.ext h1
  | ⟨2, _⟩ => exact Fin.ext h2

/-- One chunk of the token-major stream: 256 rows against 512 rows of the weights. -/
def chunk {F : FTy → Type} [FloatOps F] (x : Vec F S256x1024 .f32) (w : Vec F S512x1024 .bf16) : FVec F S256x512 .f32 :=
  matmul dot_S256x1024_S512x1024_S256x512_1_1_0_0_n_n none (truncf .bf16 (shapeCast S256x1024 x shapeCasts_S256x1024_S256x1024) bitsLt_bf16_f32)
    (shapeCast S512x1024 w shapeCasts_S512x1024_S512x1024) (constant S256x512 .f32 0x00000000#32)

/-- The position-last block. -/
def chunkT {F : FTy → Type} [FloatOps F] (x : Vec F S256x1024 .f32) (w : Vec F S1152x1024 .bf16) : FVec F S1x1152x256 .f32 :=
  shapeCast S1x1152x256 (matmul dot_S1152x1024_S256x1024_S1152x256_1_1_0_0_n_n none (shapeCast S1152x1024 w shapeCasts_S1152x1024_S1152x1024)
    (truncf .bf16 (shapeCast S256x1024 x shapeCasts_S256x1024_S256x1024) bitsLt_bf16_f32) (constant S1152x256 .f32 0x00000000#32)) shapeCasts_S1152x256_S1x1152x256

theorem chunk_apply (x : Vec Ideal S256x1024 .f32) (w : Vec Ideal S512x1024 .bf16) (r : Fin 256) (e : Fin 512) :
    chunk x w (ix2 r e) = ∑ k : Fin 1024, x (ix2 r k) * w (ix2 e k) := by
  pointwise [chunk]

theorem chunkT_apply (x : Vec Ideal S256x1024 .f32) (w : Vec Ideal S1152x1024 .bf16) (n : Fin 1152) (r : Fin 256) :
    chunkT x w (ix3 0 n r) = ∑ k : Fin 1024, w (ix2 n k) * x (ix2 r k) := by
  pointwise [chunkT]

theorem out3_eq {F : FTy → Type} [FloatOps F] (x0 : Vec F S256x1024 .f32) (x1 : Vec F S4608x1024 .bf16) (x2 : Vec F S1152x1024 .bf16) :
    out0_3 x0 x1 x2 = View.canon [⟨r0_18, chunk (View.ld x0 r0_0) (View.ld x1 r0_17)⟩, ⟨r0_16, chunk (View.ld x0 r0_0) (View.ld x1 r0_15)⟩,
      ⟨r0_14, chunk (View.ld x0 r0_0) (View.ld x1 r0_13)⟩, ⟨r0_12, chunk (View.ld x0 r0_0) (View.ld x1 r0_11)⟩, ⟨r0_10, chunk (View.ld x0 r0_0) (View.ld x1 r0_9)⟩,
      ⟨r0_8, chunk (View.ld x0 r0_0) (View.ld x1 r0_7)⟩, ⟨r0_6, chunk (View.ld x0 r0_0) (View.ld x1 r0_5)⟩, ⟨r0_4, chunk (View.ld x0 r0_0) (View.ld x1 r0_3)⟩,
      ⟨r0_2, chunk (View.ld x0 r0_0) (View.ld x1 r0_1)⟩] := rfl

theorem out4_eq {F : FTy → Type} [FloatOps F] (x0 : Vec F S256x1024 .f32) (x1 : Vec F S4608x1024 .bf16) (x2 : Vec F S1152x1024 .bf16) :
    out0_4 x0 x1 x2 = View.canon [⟨r0_20, chunkT (View.ld x0 r0_0) (View.ld x2 r0_19)⟩] := rfl

/-- The products of the point's rows with all rows of the weights. -/
def full (x0 : Vec Ideal S256x1024 .f32) (x1 : Vec Ideal S4608x1024 .bf16) : S256x4608.Idx → EReal :=
  fun j => ∑ k : Fin 1024, x0 (ix2 (n0 := 256) (j 0) k) * x1 (ix2 (n0 := 4608) (j 1) k)

theorem chunk_full (x0 : Vec Ideal S256x1024 .f32) (x1 : Vec Ideal S4608x1024 .bf16) (o : ℕ) (inb : _) (inb' : _) (x : S256x512.Idx) :
    chunk (View.ld x0 r0_0) (View.ld x1 (Rect.unit (s := S4608x1024) ![o, 0] S512x1024.size inb)) x
      = full x0 x1 ((Rect.unit (s := S256x4608) ![0, o] S256x512.size inb').emb x) := by
  obtain ⟨r, e, rfl⟩ : ∃ (r : Fin 256) (e : Fin 512), x = ix2 r e := ⟨x 0, x 1, ix2_ext rfl rfl⟩
  have h0 : ∀ k : Fin 1024, (View.ld x0 r0_0 : Vec Ideal S256x1024 .f32) (ix2 r k) = x0 (ix2 r k) := fun k =>
    congrArg x0 (ix2_ext (by show 0 + 1 * r.val = _; omega) (by show 0 + 1 * k.val = _; omega))
  rw [chunk_apply]
  unfold full
  refine Finset.sum_congr rfl fun k _ => ?_
  rw [h0]
  refine congrArg₂ (· * ·) (congrArg x0 (ix2_ext (by show r.val = 0 + 1 * r.val; omega) rfl)) (congrArg x1 (ix2_ext ?_ ?_))
  · show o + 1 * e.val = o + 1 * e.val; rfl
  · show 0 + 1 * k.val = k.val; omega

/-- What a point leaves in the token-major stream. -/
theorem out3_apply (x0 : Vec Ideal S256x1024 .f32) (x1 : Vec Ideal S4608x1024 .bf16) (x2 : Vec Ideal S1152x1024 .bf16) (r : Fin 256) (n : Fin 4608) :
    out0_3 x0 x1 x2 (ix2 r n) = ∑ k : Fin 1024, x0 (ix2 r k) * x1 (ix2 n k) := by
  rw [out3_eq]
  refine View.canon_apply_of_pieces (show S256x4608.Idx → Elt Ideal EltTy.f32 from full x0 x1) _ ?_ _ (cover0_3 _ _ _ _ _ _ _ _ _ _)
  simp only [List.forall_mem_cons, List.not_mem_nil, false_imp_iff, implies_true, and_true]
  refine ⟨?_, ?_, ?_, ?_, ?_, ?_, ?_, ?_, ?_⟩ <;> exact chunk_full x0 x1 _ _ _

/-- What a point leaves in the position-last stream. -/
theorem out4_apply (x0 : Vec Ideal S256x1024 .f32) (x1 : Vec Ideal S4608x1024 .bf16) (x2 : Vec Ideal S1152x1024 .bf16) (n : Fin 1152) (r : Fin 256) :
    out0_4 x0 x1 x2 (ix3 0 n r) = ∑ k : Fin 1024, x2 (ix2 n k) * x0 (ix2 r k) := by
  have hc : out0_4 x0 x1 x2 (ix3 0 n r) = chunkT (View.ld x0 r0_0) (View.ld x2 r0_19) (ix3 0 n r) := by
    rw [out4_eq]
    refine View.canon_apply_of_pieces (show S1x1152x256.Idx → Elt Ideal EltTy.f32 from chunkT (View.ld x0 r0_0) (View.ld x2 r0_19)) _ ?_ _ (cover0_4 _ _)
    simp only [List.forall_mem_cons, List.not_mem_nil, false_imp_iff, implies_true, and_true]
    intro x
    refine congrArg (chunkT (View.ld x0 r0_0) (View.ld x2 r0_19)) (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  rw [hc, chunkT_apply]
  refine Finset.sum_congr rfl fun k _ => congrArg₂ (· * ·) (congrArg x2 (ix2_ext ?_ ?_)) (congrArg x0 (ix2_ext ?_ ?_))
  · show 0 + 1 * n.val = _; omega
  · show 0 + 1 * k.val = _; omega
  · show 0 + 1 * r.val = _; omega
  · show 0 + 1 * k.val = _; omega

end Cert.Kernel4Ideal.Gen
-- ==== Proof.Proj.Cols.lean ====
/-
  The order of the projection's columns: which of the input weights' columns stands where in the two streams that the
  projection leaves, and that a product may be taken before or after they are put in this order.
-/
module

public import Mathlib.Data.EReal.Operations
public import Mathlib.Algebra.BigOperators.Fin

@[expose] public section

set_option maxRecDepth 16384

noncomputable section

namespace Cert.Proof.Proj

/-- Column `n` of the token-major stream: the two gates, the recurrence's streams, zeros, the forget gate, zeros, the
    queries. -/
def sel (f : Fin 5416 → EReal) (n : Fin 4608) : EReal :=
  if h : n.val < 2048 then f ⟨3368 + n.val, by omega⟩
  else if h : n.val < 3872 then f ⟨n.val - 2048, by omega⟩
  else if h : n.val < 3968 then 0
  else if h : n.val < 3976 then f ⟨n.val - 608, by omega⟩
  else if h : n.val < 4096 then 0
  else f ⟨n.val - 2272, by omega⟩

/-- Row `n` of the position-last stream: the keys, the values, the forget gate, zeros. -/
def selT (f : Fin 5416 → EReal) (n : Fin 1152) : EReal :=
  if h : n.val < 1032 then f ⟨2336 + n.val, by omega⟩ else 0

theorem sum_sel (x : Fin 1024 → EReal) (w : Fin 1024 → Fin 5416 → EReal) (n : Fin 4608) :
    ∑ k, x k * sel (w k) n = sel (fun q => ∑ k, x k * w k q) n := by
  unfold sel
  split_ifs <;> simp

theorem sum_selT (x : Fin 1024 → EReal) (w : Fin 1024 → Fin 5416 → EReal) (n : Fin 1152) :
    ∑ k, selT (w k) n * x k = selT (fun q => ∑ k, x k * w k q) n := by
  unfold selT
  split_ifs
  · exact Finset.sum_congr rfl fun k _ => EReal.mul_comm _ _
  · simp

end Cert.Proof.Proj
-- ==== Proof.Proj.Weights.lean ====
/-
  The weights as the host code prepares them for the projection kernel: their rows are the input weights' columns in the
  streams' order.
-/
module

public import proofs.«01_k».proof.Proof.Gen.Kernel4Ideal.Frame
public import proofs.«01_k».proof.Proof.Proj.Cols
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Gen

open Idealize.ShloMosaic Idealize.ShloMosaic.TcCoe Idealize.SL.Sem Idealize.ShloMosaic.Tactic
open Cert.Proof.Proj

/-- The rows of the low-rank streams and the forget gate. -/
def loraOf (T : FVec Ideal S5416x1024 .f32) : FVec Ideal S512x1024 .f32 :=
  concatenate S512x1024 0 [⟨S64x1024, extractStridedSlice S64x1024 ![1536, 0] T slices_S5416x1024_S64x1024_1536_0⟩,
    ⟨S64x1024, extractStridedSlice S64x1024 ![1600, 0] T slices_S5416x1024_S64x1024_1600_0⟩,
    ⟨S160x1024, extractStridedSlice S160x1024 ![1664, 0] T slices_S5416x1024_S160x1024_1664_0⟩,
    ⟨S96x1024, broadcastInDim S96x1024 ![] bcast_S_S96x1024 (constant (F := Ideal) S_ .f32 0x00000000#32)⟩,
    ⟨S8x1024, extractStridedSlice S8x1024 ![3360, 0] T slices_S5416x1024_S8x1024_3360_0⟩,
    ⟨S120x1024, broadcastInDim S120x1024 ![] bcast_S_S120x1024 (constant (F := Ideal) S_ .f32 0x00000000#32)⟩]
    concatenates_S64x1024_S64x1024_S160x1024_S96x1024_S8x1024_S120x1024_S512x1024_d0

/-- The rows of the token-major stream. -/
def wtokOf (T : FVec Ideal S5416x1024 .f32) : FVec Ideal S4608x1024 .f32 :=
  concatenate S4608x1024 0 [⟨S1024x1024, extractStridedSlice S1024x1024 ![3368, 0] T slices_S5416x1024_S1024x1024_3368_0⟩,
    ⟨S1024x1024, extractStridedSlice S1024x1024 ![4392, 0] T slices_S5416x1024_S1024x1024_4392_0⟩,
    ⟨S512x1024, extractStridedSlice S512x1024 ![0, 0] T slices_S5416x1024_S512x1024_0_0⟩,
    ⟨S512x1024, extractStridedSlice S512x1024 ![512, 0] T slices_S5416x1024_S512x1024_512_0⟩,
    ⟨S512x1024, extractStridedSlice S512x1024 ![1024, 0] T slices_S5416x1024_S512x1024_1024_0⟩,
    ⟨S512x1024, loraOf T⟩,
    ⟨S512x1024, extractStridedSlice S512x1024 ![1824, 0] T slices_S5416x1024_S512x1024_1824_0⟩]
    concatenates_S1024x1024_S1024x1024_S512x1024_S512x1024_S512x1024_S512x1024_S512x1024_S4608x1024_d0

/-- The rows of the position-last stream. -/
def wtOf (T : FVec Ideal S5416x1024 .f32) : FVec Ideal S1152x1024 .f32 :=
  concatenate S1152x1024 0 [⟨S512x1024, extractStridedSlice S512x1024 ![2336, 0] T slices_S5416x1024_S512x1024_2336_0⟩,
    ⟨S512x1024, extractStridedSlice S512x1024 ![2848, 0] T slices_S5416x1024_S512x1024_2848_0⟩,
    ⟨S128x1024, concatenate S128x1024 0 [⟨S8x1024, extractStridedSlice S8x1024 ![3360, 0] T slices_S5416x1024_S8x1024_3360_0⟩,
      ⟨S120x1024, broadcastInDim S120x1024 ![] bcast_S_S120x1024 (constant (F := Ideal) S_ .f32 0x00000000#32)⟩] concatenates_S8x1024_S120x1024_S128x1024_d0⟩]
    concatenates_S512x1024_S512x1024_S128x1024_S1152x1024_d0

/-- The input weights, turned. -/
def turn (w : FVec Ideal S1024x5416 .f32) : FVec Ideal S5416x1024 .f32 :=
  transpose S5416x1024 [1, 0] w transposes_S1024x5416_S5416x1024_1_0

theorem turn_apply (w : FVec Ideal S1024x5416 .f32) (q : Fin 5416) (k : Fin 1024) : turn w (ix2 q k) = w (ix2 k q) := by
  pointwise [turn]

section Rows

variable (T : FVec Ideal S5416x1024 .f32) (k : Fin 1024)

theorem move {q q' : Fin 5416} (h : q.val = q'.val) : T (ix2 q k) = T (ix2 q' k) := by
  rw [Fin.ext h]

/-- A row of the low-rank streams and the forget gate. -/
def selL (f : Fin 5416 → EReal) (n : Fin 512) : EReal :=
  if h : n.val < 288 then f ⟨1536 + n.val, by omega⟩
  else if h : n.val < 384 then 0
  else if h : n.val < 392 then f ⟨2976 + n.val, by omega⟩
  else 0

theorem loraOf_apply (n : Fin 512) : loraOf T (ix2 n k) = selL (fun q => T (ix2 q k)) n := by
  unfold selL
  pointwise [loraOf]
  all_goals repeat' (split <;> try (exfalso; omega))
  all_goals first
    | (refine move T k ?_; first | omega | (dsimp only; omega))
    | rfl

theorem wtokOf_apply (n : Fin 4608) : wtokOf T (ix2 n k) = sel (fun q => T (ix2 q k)) n := by
  unfold sel
  pointwise [wtokOf]
  simp only [loraOf_apply, selL]
  all_goals repeat' (split <;> try (exfalso; omega))
  all_goals first
    | (refine move T k ?_; first | omega | (dsimp only; omega))
    | rfl

theorem wtOf_apply (n : Fin 1152) : wtOf T (ix2 n k) = selT (fun q => T (ix2 q k)) n := by
  unfold selT
  pointwise [wtOf]
  all_goals repeat' (split <;> try (exfalso; omega))
  all_goals first
    | (refine move T k ?_; first | omega | (dsimp only; omega))
    | rfl

end Rows

variable (m : (ℓ : Loc nD τ sig) → Buf (Elt Ideal) ℓ) (c : Dev nD)

/-- The layer's input. -/
abbrev Xa : FVec Ideal S8x2048x1024 .f32 := m ((c.tc : Thread nD τ).loc main_arg0)
/-- The input weights. -/
abbrev Wa : FVec Ideal S1024x5416 .f32 := m ((c.tc : Thread nD τ).loc main_arg1)

theorem V_x : V m c main_v20 = shapeCast S16384x1024 (Xa m c) shapeCasts_S8x2048x1024_S16384x1024 := by
  entry_read
  rfl

set_option maxHeartbeats 2000000 in
theorem V_tok : V m c main_v21 = (wtokOf (turn (Wa m c)) : S4608x1024.Idx → EReal) := by
  show StableHlo.after _ _ (Proc.devRef .tc main_v21) = _
  after_results
  all_goals rfl

set_option maxHeartbeats 2000000 in
theorem V_t : V m c main_v22 = (wtOf (turn (Wa m c)) : S1152x1024.Idx → EReal) := by
  show StableHlo.after _ _ (Proc.devRef .tc main_v22) = _
  after_results
  all_goals rfl

end Cert.Kernel4Ideal.Gen
-- ==== Proof.Proj.Ref.lean ====
/-
  The reference's projection, read at an index of each of its two streams.
-/
module

public import proofs.«01_k».proof.Proof.Gen.Reference4Ideal.Run
public import proofs.«01_k».proof.Proof.Proj.Cols
public import Idealize.ShloMosaic.Lib.Pipeline.ValueKit
public import Idealize.ShloMosaic.Lib.Pointwise

@[expose] public section

set_option maxRecDepth 16384

noncomputable section

namespace Cert.Reference4Ideal.Proj

open Cert.Reference4Ideal Cert.Reference4Ideal.Gen Idealize.ShloMosaic Idealize.ShloMosaic.TcCoe Idealize.SL.Sem
open Cert.Proof.Proj

section Ops

variable {F : FTy → Type} [FloatOps F]

/-- The product. -/
def prod (x : FVec F S8x2048x1024 .f32) (w : FVec F S1024x5416 .f32) : FVec F S8x2048x5416 .f32 :=
  Host.dotGeneral dot_S8x2048x1024_S1024x5416_S8x2048x5416_2_0_01_1_n_n none x w

/-- The attention's columns. -/
def fox (p : FVec F S8x2048x5416 .f32) : FVec F S8x2048x1544 .f32 :=
  extractStridedSlice S8x2048x1544 ![0, 0, 1824] p slices_S8x2048x5416_S8x2048x1544_0_0_1824

/-- The columns in the token-major stream's order. -/
def ordered (p : FVec F S8x2048x5416 .f32) : FVec F S8x2048x4608 .f32 :=
  concatenate S8x2048x4608 2 [⟨S8x2048x2048, extractStridedSlice S8x2048x2048 ![0, 0, 3368] p slices_S8x2048x5416_S8x2048x2048_0_0_3368⟩,
    ⟨S8x2048x1824, extractStridedSlice S8x2048x1824 ![0, 0, 0] p slices_S8x2048x5416_S8x2048x1824_0_0_0⟩,
    ⟨S8x2048x96, broadcastInDim S8x2048x96 ![] bcast_S_S8x2048x96 (constant (F := F) S_ .f32 0x00000000#32)⟩,
    ⟨S8x2048x8, extractStridedSlice S8x2048x8 ![0, 0, 1536] (fox p) slices_S8x2048x1544_S8x2048x8_0_0_1536⟩,
    ⟨S8x2048x120, broadcastInDim S8x2048x120 ![] bcast_S_S8x2048x120 (constant (F := F) S_ .f32 0x00000000#32)⟩,
    ⟨S8x2048x512, extractStridedSlice S8x2048x512 ![0, 0, 0] (fox p) slices_S8x2048x1544_S8x2048x512_0_0_0⟩]
    concatenates_S8x2048x2048_S8x2048x1824_S8x2048x96_S8x2048x8_S8x2048x120_S8x2048x512_S8x2048x4608_d2

/-- The token-major stream. -/
def tok (p : FVec F S8x2048x5416 .f32) : FVec F S16384x4608 .f32 :=
  shapeCast S16384x4608 (ordered p) shapeCasts_S8x2048x4608_S16384x4608

/-- The position-last stream's columns. -/
def orderedT (p : FVec F S8x2048x5416 .f32) : FVec F S8x2048x1152 .f32 :=
  concatenate S8x2048x1152 2 [⟨S8x2048x1032, extractStridedSlice S8x2048x1032 ![0, 0, 512] (fox p) slices_S8x2048x1544_S8x2048x1032_0_0_512⟩,
    ⟨S8x2048x120, broadcastInDim S8x2048x120 ![] bcast_S_S8x2048x120 (constant (F := F) S_ .f32 0x00000000#32)⟩]
    concatenates_S8x2048x1032_S8x2048x120_S8x2048x1152_d2

/-- The position-last stream. -/
def turned (p : FVec F S8x2048x5416 .f32) : FVec F S8x1152x2048 .f32 :=
  transpose S8x1152x2048 [0, 2, 1] (orderedT p) transposes_S8x2048x1152_S8x1152x2048_0_2_1

end Ops

theorem prod_apply (x : FVec Ideal S8x2048x1024 .f32) (w : FVec Ideal S1024x5416 .f32) (b : Fin 8) (r : Fin 2048) (q : Fin 5416) :
    prod x w (ix3 b r q) = ∑ k : Fin 1024, x (ix3 b r k) * w (ix2 k q) := by
  pointwise [prod]

section Columns

variable (p : FVec Ideal S8x2048x5416 .f32) (b : Fin 8) (r : Fin 2048)

theorem move {q q' : Fin 5416} (h : q.val = q'.val) : p (ix3 b r q) = p (ix3 b r q') := by
  rw [Fin.ext h]

theorem ordered_apply (n : Fin 4608) : ordered p (ix3 b r n) = sel (fun q => p (ix3 b r q)) n := by
  unfold sel
  pointwise [ordered, fox]
  all_goals repeat' (split <;> try (exfalso; omega))
  all_goals first
    | (refine move p b r ?_; first | omega | (dsimp only; omega))
    | rfl

theorem orderedT_apply (n : Fin 1152) : orderedT p (ix3 b r n) = selT (fun q => p (ix3 b r q)) n := by
  unfold selT
  pointwise [orderedT, fox]
  all_goals repeat' (split <;> try (exfalso; omega))
  all_goals first
    | (refine move p b r ?_; first | omega | (dsimp only; omega))
    | rfl

end Columns

theorem tok_at (p : FVec Ideal S8x2048x5416 .f32) (i : Fin 16384) (n : Fin 4608) :
    tok p (ix2 i n) = ordered p (ix3 ⟨i / 2048, by omega⟩ ⟨i % 2048, by omega⟩ n) := by
  pointwise [tok]

theorem turned_at (p : FVec Ideal S8x2048x5416 .f32) (b : Fin 8) (n : Fin 1152) (r : Fin 2048) :
    turned p (ix3 b n r) = orderedT p (ix3 b r n) := by
  pointwise [turned]

theorem tok_apply (x : FVec Ideal S8x2048x1024 .f32) (w : FVec Ideal S1024x5416 .f32) (i : Fin 16384) (n : Fin 4608) :
    tok (prod x w) (ix2 i n) = sel (fun q => ∑ k : Fin 1024, x (ix3 ⟨i / 2048, by omega⟩ ⟨i % 2048, by omega⟩ k) * w (ix2 k q)) n := by
  rw [tok_at, ordered_apply]
  simp only [prod_apply]

theorem turned_apply (x : FVec Ideal S8x2048x1024 .f32) (w : FVec Ideal S1024x5416 .f32) (b : Fin 8) (n : Fin 1152) (r : Fin 2048) :
    turned (prod x w) (ix3 b n r) = selT (fun q => ∑ k : Fin 1024, x (ix3 b r k) * w (ix2 k q)) n := by
  rw [turned_at, orderedT_apply]
  simp only [prod_apply]

/-- The run, its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = tok (F := Ideal) (prod (F := Ideal) (m ((c.tc : Thread nD τ).loc main_arg0)) (m ((c.tc : Thread nD τ).loc main_arg1)))
      ∧ r.2.mem ((c.tc : Thread nD τ).loc main_v13) = turned (F := Ideal) (prod (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

end Cert.Reference4Ideal.Proj
-- ==== Proof.Proj.Final.lean ====
/-
  The projection kernel's two streams are the reference's, at every index.
-/
module

public import proofs.«01_k».proof.Defs
public import proofs.«01_k».proof.Proof.Proj.Steps
public import proofs.«01_k».proof.Proof.Proj.Weights
public import proofs.«01_k».proof.Proof.Proj.Ref
public import proofs.«01_k».proof.Proof.Gen.Kernel4Ideal.Value
public import Idealize.ShloMosaic.Lib.Claim

@[expose] public section

set_option maxRecDepth 16384

noncomputable section

namespace Cert.Kernel4Ideal.Gen

open Idealize.ShloMosaic Idealize.ShloMosaic.TcCoe Idealize.SL.Sem Idealize.ShloMosaic.Tactic
open Cert.Proof.Proj

variable (m : (ℓ : Loc nD τ sig) → Buf (Elt Ideal) ℓ) (c : Dev nD)

theorem x_apply (x : FVec Ideal S8x2048x1024 .f32) (i : Fin 16384) (e : Fin 1024) :
    shapeCast S16384x1024 x shapeCasts_S8x2048x1024_S16384x1024 (ix2 i e) = x (ix3 ⟨i / 2048, by omega⟩ ⟨i % 2048, by omega⟩ e) := by
  pointwise

theorem t_lt (t : Fin cfg0.N) : t.val < 64 := t.isLt.trans_eq N_0

theorem winIdx0 : ∀ t : Fin cfg0.N, win0_0.index t (0 : Fin 2) = t.val ∧ win0_0.index t (1 : Fin 2) = 0 :=
  (by decide +kernel : ∀ t : Fin grid0.N, _)
theorem winIdx1 : ∀ t : Fin cfg0.N, win0_1.index t (0 : Fin 2) = 0 ∧ win0_1.index t (1 : Fin 2) = 0 :=
  (by decide +kernel : ∀ t : Fin grid0.N, _)
theorem winIdx2 : ∀ t : Fin cfg0.N, win0_2.index t (0 : Fin 2) = 0 ∧ win0_2.index t (1 : Fin 2) = 0 :=
  (by decide +kernel : ∀ t : Fin grid0.N, _)
theorem winIdx3 : ∀ t : Fin cfg0.N, win0_3.index t (0 : Fin 2) = t.val ∧ win0_3.index t (1 : Fin 2) = 0 :=
  (by decide +kernel : ∀ t : Fin grid0.N, _)
theorem winIdx4 : ∀ t : Fin cfg0.N, win0_4.index t (0 : Fin 3) = t.val / 8 ∧ win0_4.index t (1 : Fin 3) = 0 ∧ win0_4.index t (2 : Fin 3) = t.val % 8 :=
  (by decide +kernel : ∀ t : Fin grid0.N, _)
theorem flush3 : ∀ t : Fin cfg0.N, (cfg0.win 3).flush t = true :=
  (by decide +kernel : ∀ t : Fin grid0.N, _)
theorem flush4 : ∀ t : Fin cfg0.N, (cfg0.win 4).flush t = true :=
  (by decide +kernel : ∀ t : Fin grid0.N, _)

/-- A row of a point's block, in the whole array. -/
def row (t : Fin cfg0.N) (r : Fin 256) : Fin 16384 := ⟨256 * t.val + r.val, by have := t_lt t; omega⟩

theorem blk0 (t : Fin cfg0.N) (r : Fin 256) (e : Fin 1024) :
    (iblk m c 0 t : Vec Ideal S256x1024 .f32) (ix2 r e) = Xa m c (ix3 ⟨row t r / 2048, by omega⟩ ⟨row t r % 2048, by omega⟩ e) := by
  have hi := winIdx0 t
  have e1 : (iblk m c 0 t : Vec Ideal S256x1024 .f32) (ix2 r e) = V m c main_v20 (ix2 (row t r) e) := by
    refine congrArg (V m c main_v20) (funext fun a => Fin.ext ?_)
    match a with
    | ⟨0, _⟩ => show win0_0.index t (0 : Fin 2) * 256 + 1 * r.val = _; rw [hi.1]; show _ = 256 * t.val + r.val; omega
    | ⟨1, _⟩ => show win0_0.index t (1 : Fin 2) * 1024 + 1 * e.val = _; rw [hi.2]; show _ = e.val; omega
  rw [e1, V_x, x_apply]

theorem blk1 (t : Fin cfg0.N) (n : Fin 4608) (k : Fin 1024) :
    (iblk m c 1 t : Vec Ideal S4608x1024 .bf16) (ix2 n k) = sel (fun q => Wa m c (ix2 k q)) n := by
  have hi := winIdx1 t
  have e1 : (iblk m c 1 t : Vec Ideal S4608x1024 .bf16) (ix2 n k) = V m c main_v21 (ix2 n k) := by
    refine congrArg (V m c main_v21) (funext fun a => Fin.ext ?_)
    match a with
    | ⟨0, _⟩ => show win0_1.index t (0 : Fin 2) * 4608 + 1 * n.val = _; rw [hi.1]; show _ = n.val; omega
    | ⟨1, _⟩ => show win0_1.index t (1 : Fin 2) * 1024 + 1 * k.val = _; rw [hi.2]; show _ = k.val; omega
  rw [e1, V_tok, wtokOf_apply]
  simp only [turn_apply]

theorem blk2 (t : Fin cfg0.N) (n : Fin 1152) (k : Fin 1024) :
    (iblk m c 2 t : Vec Ideal S1152x1024 .bf16) (ix2 n k) = selT (fun q => Wa m c (ix2 k q)) n := by
  have hi := winIdx2 t
  have e1 : (iblk m c 2 t : Vec Ideal S1152x1024 .bf16) (ix2 n k) = V m c main_v22 (ix2 n k) := by
    refine congrArg (V m c main_v22) (funext fun a => Fin.ext ?_)
    match a with
    | ⟨0, _⟩ => show win0_2.index t (0 : Fin 2) * 1152 + 1 * n.val = _; rw [hi.1]; show _ = n.val; omega
    | ⟨1, _⟩ => show win0_2.index t (1 : Fin 2) * 1024 + 1 * k.val = _; rw [hi.2]; show _ = k.val; omega
  rw [e1, V_t, wtOf_apply]
  simp only [turn_apply]

/-- The token-major stream at a row and column: what the row's point left there. -/
theorem arr3_apply (t : Fin cfg0.N) (r : Fin 256) (n : Fin 4608) :
    ((dats m 0 c).arrAt 3 cfg0.N : S16384x4608.Idx → EReal) (ix2 (row t r) n)
      = out0_3 (F := Ideal) (iblk m c 0 t) (iblk m c 1 t) (iblk m c 2 t) (ix2 r n) := by
  have hi := winIdx3 t
  have hb := (Value.blocks3 m c t (flush3 t)).trans (Value.flushed3 m c t)
  have h := congrFun hb (ix2 r n)
  refine Eq.trans ?_ (h.trans ?_)
  · refine congrArg ((dats m 0 c).arrAt 3 cfg0.N : S16384x4608.Idx → EReal) (funext fun a => Fin.ext ?_)
    match a with
    | ⟨0, _⟩ => show _ = win0_3.index t (0 : Fin 2) * 256 + 1 * r.val; rw [hi.1]; show 256 * t.val + r.val = _; omega
    | ⟨1, _⟩ => show _ = win0_3.index t (1 : Fin 2) * 4608 + 1 * n.val; rw [hi.2]; show n.val = _; omega
  · rfl

/-- The position-last stream at an index: what the position's point left there. -/
theorem arr4_apply (t : Fin cfg0.N) (n : Fin 1152) (r : Fin 256) :
    ((dats m 0 c).arrAt 4 cfg0.N : S8x1152x2048.Idx → EReal) (ix3 ⟨row t r / 2048, by omega⟩ n ⟨row t r % 2048, by omega⟩)
      = out0_4 (F := Ideal) (iblk m c 0 t) (iblk m c 1 t) (iblk m c 2 t) (ix3 0 n r) := by
  have hi := winIdx4 t
  have hb := (Value.blocks4 m c t (flush4 t)).trans (Value.flushed4 m c t)
  have h := congrFun hb (ix3 0 n r)
  refine Eq.trans ?_ (h.trans ?_)
  · refine congrArg ((dats m 0 c).arrAt 4 cfg0.N : S8x1152x2048.Idx → EReal) (funext fun a => Fin.ext ?_)
    match a with
    | ⟨0, _⟩ => show _ = win0_4.index t (0 : Fin 3) * 1 + 1 * 0; rw [hi.1]; show (256 * t.val + r.val) / 2048 = _; omega
    | ⟨1, _⟩ => show _ = win0_4.index t (1 : Fin 3) * 1152 + 1 * n.val; rw [hi.2.1]; show n.val = _; omega
    | ⟨2, _⟩ => show _ = win0_4.index t (2 : Fin 3) * 256 + 1 * r.val; rw [hi.2.2]; show (256 * t.val + r.val) % 2048 = _; omega
  · rfl

theorem result3_apply (i : Fin 16384) (n : Fin 4608) :
    ((dats m 0 c).arrAt 3 cfg0.N : S16384x4608.Idx → EReal) (ix2 i n)
      = Cert.Reference4Ideal.Proj.tok (Cert.Reference4Ideal.Proj.prod (F := Ideal) (Xa m c) (Wa m c)) (ix2 i n) := by
  have hN : i.val / 256 < cfg0.N := by rw [show cfg0.N = 64 from N_0]; omega
  have hrow : row ⟨i.val / 256, hN⟩ ⟨i.val % 256, by omega⟩ = i := by apply Fin.ext; simp only [row]; omega
  have h := arr3_apply m c ⟨i.val / 256, hN⟩ ⟨i.val % 256, by omega⟩ n
  rw [out3_apply] at h
  simp only [blk0, blk1, hrow] at h
  rw [h, sum_sel]
  exact (Cert.Reference4Ideal.Proj.tok_apply (Xa m c) (Wa m c) i n).symm

theorem result4_apply (b : Fin 8) (n : Fin 1152) (p : Fin 2048) :
    ((dats m 0 c).arrAt 4 cfg0.N : S8x1152x2048.Idx → EReal) (ix3 b n p)
      = Cert.Reference4Ideal.Proj.turned (Cert.Reference4Ideal.Proj.prod (F := Ideal) (Xa m c) (Wa m c)) (ix3 b n p) := by
  have hN : 8 * b.val + p.val / 256 < cfg0.N := by rw [show cfg0.N = 64 from N_0]; omega
  have hb : (⟨row ⟨8 * b.val + p.val / 256, hN⟩ ⟨p.val % 256, by omega⟩ / 2048, by omega⟩ : Fin 8) = b := by
    apply Fin.ext; simp only [row]; omega
  have hp : (⟨row ⟨8 * b.val + p.val / 256, hN⟩ ⟨p.val % 256, by omega⟩ % 2048, by omega⟩ : Fin 2048) = p := by
    apply Fin.ext; simp only [row]; omega
  have h := arr4_apply m c ⟨8 * b.val + p.val / 256, hN⟩ n ⟨p.val % 256, by omega⟩
  rw [out4_apply] at h
  simp only [blk0, blk2, hb, hp] at h
  rw [h, sum_selT]
  exact (Cert.Reference4Ideal.Proj.turned_apply (Xa m c) (Wa m c) b n p).symm

end Cert.Kernel4Ideal.Gen

namespace Cert.Proof.Proj

open Idealize.ShloMosaic Idealize.ShloMosaic.TcCoe Idealize.SL.Sem

theorem reference_frame : Cert.quiescent_Reference4Ideal (hReference4Ideal := Cert.Reference4Ideal.Gen.facts) := by
  intro m g _
  exact (θ_run (Cert.Reference4Ideal.defs (F := Ideal)) _ _).mono (fun r h =>
      ⟨fun c => (h c).2.2, Idealize.ShloMosaic.sem_eq_zero_of_no_sems (by decide) r.2⟩)
    (Cert.Reference4Ideal.Value.run (F := Ideal) m g)

theorem algebraic : Cert.algebraic_Kernel4Ideal_Reference4Ideal (hKernel4Ideal := Cert.Kernel4Ideal.Gen.facts) (hReference4Ideal := Cert.Reference4Ideal.Gen.facts) := by
  intro m g m' g' _ hargs
  refine ⟨fun c => (Cert.Kernel4Ideal.Gen.dats m 0 c).arrAt 3 Cert.Kernel4Ideal.cfg0.N, fun c => (Cert.Kernel4Ideal.Gen.dats m 0 c).arrAt 4 Cert.Kernel4Ideal.cfg0.N,
    Cert.Kernel4Ideal.Value.run_blocks m g, ?_⟩
  refine (θ_run (Cert.Reference4Ideal.defs (F := Ideal)) _ _).mono (fun r h c => ⟨(h c).1.trans ?_, (h c).2.1.trans ?_, (h c).2.2⟩)
    (Cert.Reference4Ideal.Proj.run m' g')
  · obtain ⟨h0, h1⟩ := hargs c
    rw [h0, h1]
    funext i
    have e : i = ix2 (i 0) (i 1) := by
      funext a
      match a with
      | 0 => rfl
      | 1 => rfl
    rw [e]
    exact (Cert.Kernel4Ideal.Gen.result3_apply m c (i 0) (i 1)).symm
  · obtain ⟨h0, h1⟩ := hargs c
    rw [h0, h1]
    funext i
    have e : i = ix3 (i 0) (i 1) (i 2) := by
      funext a
      match a with
      | 0 => rfl
      | 1 => rfl
      | 2 => rfl
    rw [e]
    exact (Cert.Kernel4Ideal.Gen.result4_apply m c (i 0) (i 1) (i 2)).symm

end Cert.Proof.Proj
-- ==== Proof.Gate.Ref.lean ====
/-
  The reference's forget gate, read at an index.
-/
module

public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Reference5Ideal.Gate

open Cert.Reference5Ideal Cert.Reference5Ideal.Gen Idealize.ShloMosaic Idealize.ShloMosaic.TcCoe Idealize.SL.Sem

section Ops

variable {F : FTy → Type} [FloatOps F]

/-- The gate before its sigmoid, its sign turned. -/
def opp (f : FVec F S8x2048x8 .f32) (b : FVec F S8 .f32) : FVec F S8x2048x8 .f32 :=
  Host.negf (addf f (broadcastInDim S8x2048x8 ![0, 1, 2] bcast_S1x1x8_S8x2048x8_0_1_2 (broadcastInDim S1x1x8 ![2] bcast_S8_S1x1x8_2 b)))

/-- The same less zero. -/
def opp0 (f : FVec F S8x2048x8 .f32) (b : FVec F S8 .f32) : FVec F S8x2048x8 .f32 :=
  subf (opp f b) (broadcastInDim S8x2048x8 ![] bcast_S_S8x2048x8 (constant (F := F) S_ .f32 0x00000000#32))

/-- The decays. -/
def decay (f : FVec F S8x2048x8 .f32) (b : FVec F S8 .f32) : FVec F S8x8x2048 .f32 :=
  transpose S8x8x2048 [0, 2, 1] (Host.negf (select (cmpf .une (opp0 f b) (opp0 f b)) (addf (opp f b) (broadcastInDim S8x2048x8 ![] bcast_S_S8x2048x8 (constant (F := F) S_ .f32 0x00000000#32))) (addf (maximumf (opp f b) (broadcastInDim S8x2048x8 ![] bcast_S_S8x2048x8 (constant (F := F) S_ .f32 0x00000000#32))) (Host.log1p (Host.exp (Host.negf (Host.absf (opp0 f b)))))))) transposes_S8x2048x8_S8x8x2048_0_2_1

end Ops

/-- One number of the gate: the logarithm of its sigmoid. -/
def gate (z : EReal) : EReal :=
  -(max (-z) 0 + Ideal.log1p (Ideal.exp (-(FloatOps.absf (F := Ideal) (φ := .f32) (-z)))))

theorem decay_apply (f : FVec Ideal S8x2048x8 .f32) (b : FVec Ideal S8 .f32) (n : Fin 8) (h : Fin 8) (p : Fin 2048) :
    decay f b (ix3 n h p) = gate (f (ix3 n p h) + b (ix1 h)) := by
  unfold gate
  pointwise [decay, opp0, opp]
  all_goals simp

/-- The run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = decay (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

end Cert.Reference5Ideal.Gate
-- ==== Proof.Gate.Final.lean ====
/-
  The forget gate's call: the decays that it returns are the reference's, at every index.
-/
module

public import proofs.«01_k».proof.Defs
public import proofs.«01_k».proof.Proof.Gate.Ref
public import proofs.«01_k».proof.Proof.Gen.Kernel5Ideal.Value
public import Idealize.ShloMosaic.Lib.Claim

@[expose] public section

set_option maxRecDepth 16384

noncomputable section

namespace Cert.Kernel5Ideal.Gen

open Idealize.ShloMosaic Idealize.ShloMosaic.TcCoe Idealize.SL.Sem Idealize.ShloMosaic.Tactic
open Cert.Reference5Ideal.Gate (gate decay decay_apply)

theorem ix2_ext {n0 n1 : ℕ} {i : (⟨2, ![n0, n1]⟩ : Shape).Idx} {a : Fin n0} {b : Fin n1} (h0 : (i 0).val = a.val) (h1 : (i 1).val = b.val) :
    i = ix2 a b := by
  funext k
  match k with
  | ⟨0, _⟩ => exact Fin.ext h0
  | ⟨1, _⟩ => exact Fin.ext h1

theorem ix3_ext {n0 n1 n2 : ℕ} {i : (⟨3, ![n0, n1, n2]⟩ : Shape).Idx} {a : Fin n0} {b : Fin n1} {d : Fin n2} (h0 : (i 0).val = a.val) (h1 : (i 1).val = b.val)
    (h2 : (i 2).val = d.val) : i = ix3 a b d := by
  funext k
  match k with
  | ⟨0, _⟩ => exact Fin.ext h0
  | ⟨1, _⟩ => exact Fin.ext h1
  | ⟨2, _⟩ => exact Fin.ext h2

theorem pay_apply (x : Vec Ideal S1x128x2048 .f32) (b : Vec Ideal S8x1 .f32) (h : Fin 8) (p : Fin 2048) :
    k0_pay2 x b (ix3 0 h p) = gate (x (ix3 0 ⟨h.val, by omega⟩ p) + b (ix2 h 0)) := by
  unfold gate
  pointwise [k0_pay2, k0_pay1]
  all_goals simp only [zero_sub]

/-- What a point leaves of the decays. -/
theorem out6_apply (x0 : Vec Ideal S1x128x2048 .f32) (x1 : Vec Ideal S2048x128 .f32) (x2 : Vec Ideal S8x128 .f32) (x3 : Vec Ideal S1x128 .f32)
    (x4 : Vec Ideal S128x256 .bf16) (x5 : Vec Ideal S256x128 .bf16) (h : Fin 8) (p : Fin 2048) :
    out0_6 x0 x1 x2 x3 x4 x5 (ix3 0 h p) = gate (x0 (ix3 0 ⟨h.val, by omega⟩ p) + x2 (ix2 h 0)) := by
  have hc : out0_6 x0 x1 x2 x3 x4 x5 (ix3 0 h p) = k0_pay2 (View.ld x0 r0_0) (View.ld x2 r0_1) (ix3 0 h p) := by
    unfold out0_6
    refine View.canon_apply_of_pieces (show S1x8x2048.Idx → Elt Ideal EltTy.f32 from k0_pay2 (View.ld x0 r0_0) (View.ld x2 r0_1)) _ ?_ _ (cover0_6 _ _)
    simp only [List.forall_mem_cons, List.not_mem_nil, false_imp_iff, implies_true, and_true]
    intro x
    refine congrArg (k0_pay2 (View.ld x0 r0_0) (View.ld x2 r0_1)) (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  rw [hc, pay_apply]
  refine congrArg gate (congrArg₂ (· + ·) (congrArg x0 (ix3_ext ?_ ?_ ?_)) (congrArg x2 (ix2_ext ?_ ?_)))
  · rfl
  · show 0 + 1 * h.val = h.val; omega
  · show 0 + 1 * p.val = _; omega
  · show 0 + 1 * h.val = _; omega
  · rfl

variable (m : (ℓ : Loc nD τ sig) → Buf (Elt Ideal) ℓ) (c : Dev nD)

/-- The forget gate's columns. -/
abbrev Fa : FVec Ideal S8x2048x8 .f32 := m ((c.tc : Thread nD τ).loc main_arg0)
/-- The gate's shift. -/
abbrev Ba : FVec Ideal S8 .f32 := m ((c.tc : Thread nD τ).loc main_arg1)

/-- The position-last array that the host code builds: the gate's rows after keys' and values' rows, zeros. -/
def last (f : FVec Ideal S8x2048x8 .f32) : FVec Ideal S8x1152x2048 .f32 :=
  concatenate S8x1152x2048 1 [⟨S8x1024x2048, broadcastInDim S8x1024x2048 ![] bcast_S_S8x1024x2048 (constant (F := Ideal) S_ .f32 0x00000000#32)⟩,
    ⟨S8x8x2048, transpose S8x8x2048 [0, 2, 1] f transposes_S8x2048x8_S8x8x2048_0_2_1⟩,
    ⟨S8x120x2048, broadcastInDim S8x120x2048 ![] bcast_S_S8x120x2048 (constant (F := Ideal) S_ .f32 0x00000000#32)⟩]
    concatenates_S8x1024x2048_S8x8x2048_S8x120x2048_S8x1152x2048_d1

/-- The shift, one row for each head. -/
def shift (b : FVec Ideal S8 .f32) : FVec Ideal S8x128 .f32 :=
  broadcastInDim S8x128 ![0, 1] bcast_S8x1_S8x128_0_1 (shapeCast S8x1 b shapeCasts_S8_S8x1)

theorem last_apply (f : FVec Ideal S8x2048x8 .f32) (n : Fin 8) (h : Fin 8) (p : Fin 2048) :
    last f (ix3 n ⟨1024 + h.val, by omega⟩ p) = f (ix3 n p h) := by
  pointwise [last]

theorem shift_apply (b : FVec Ideal S8 .f32) (h : Fin 8) (l : Fin 128) : shift b (ix2 h l) = b (ix1 h) := by
  pointwise [shift]

set_option maxHeartbeats 2000000 in
theorem V_f : V m c main_v7 = last (Fa m c) := by
  show StableHlo.after (List.flatten [hostOps0, hostOps0_1, hostOps0_2]) _ (Proc.devRef .tc main_v7) = _
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results
  all_goals rfl

theorem V_b : V m c main_v21 = shift (Ba m c) := by
  show StableHlo.after (List.flatten [hostOps0, hostOps0_1, hostOps0_2]) _ (Proc.devRef .tc main_v21) = _
  simp only [hostOps0, hostOps0_1, hostOps0_2, List.flatten_cons, List.flatten_nil, List.cons_append, List.nil_append, List.append_nil,
    StableHlo.TRef.binary, StableHlo.TRef.nullary, StableHlo.TRef.unary, StableHlo.TRef.toBuf, StableHlo.TRef.ofBuf, cast_eq]
  after_results
  all_goals rfl

theorem winIdx0 : ∀ t : Fin cfg0.N, win0_0.index t (0 : Fin 3) = t.val ∧ win0_0.index t (1 : Fin 3) = 8 ∧ win0_0.index t (2 : Fin 3) = 0 :=
  (by decide +kernel : ∀ t : Fin grid0.N, _)
theorem winIdx2 : ∀ t : Fin cfg0.N, win0_2.index t (0 : Fin 2) = 0 ∧ win0_2.index t (1 : Fin 2) = 0 :=
  (by decide +kernel : ∀ t : Fin grid0.N, _)
theorem winIdx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem flush6 : ∀ t : Fin cfg0.N, (cfg0.win 6).flush t = true :=
  (by decide +kernel : ∀ t : Fin grid0.N, _)

theorem blk0 (t : Fin cfg0.N) (n : Fin 8) (hn : t.val = n.val) (h : Fin 8) (p : Fin 2048) :
    (iblk m c 0 t : Vec Ideal S1x128x2048 .f32) (ix3 0 ⟨h.val, by omega⟩ p) = Fa m c (ix3 n p h) := by
  have hi := winIdx0 t
  have e1 : (iblk m c 0 t : Vec Ideal S1x128x2048 .f32) (ix3 0 ⟨h.val, by omega⟩ p) = V m c main_v7 (ix3 n ⟨1024 + h.val, by omega⟩ p) := by
    refine congrArg (V m c main_v7) (funext fun a => Fin.ext ?_)
    match a with
    | ⟨0, _⟩ => show win0_0.index t (0 : Fin 3) * 1 + 1 * 0 = _; rw [hi.1]; show _ = n.val; omega
    | ⟨1, _⟩ => show win0_0.index t (1 : Fin 3) * 128 + 1 * h.val = _; rw [hi.2.1]; show _ = 1024 + h.val; omega
    | ⟨2, _⟩ => show win0_0.index t (2 : Fin 3) * 2048 + 1 * p.val = _; rw [hi.2.2]; show _ = p.val; omega
  rw [e1, V_f, last_apply]

theorem blk2 (t : Fin cfg0.N) (h : Fin 8) (l : Fin 128) :
    (iblk m c 2 t : Vec Ideal S8x128 .f32) (ix2 h l) = Ba m c (ix1 h) := by
  have hi := winIdx2 t
  have e1 : (iblk m c 2 t : Vec Ideal S8x128 .f32) (ix2 h l) = V m c main_v21 (ix2 h l) := by
    refine congrArg (V m c main_v21) (funext fun a => Fin.ext ?_)
    match a with
    | ⟨0, _⟩ => show win0_2.index t (0 : Fin 2) * 8 + 1 * h.val = _; rw [hi.1]; show _ = h.val; omega
    | ⟨1, _⟩ => show win0_2.index t (1 : Fin 2) * 128 + 1 * l.val = _; rw [hi.2]; show _ = l.val; omega
  rw [e1, V_b, shift_apply]

/-- The decays at an index: what the member's point left there. -/
theorem arr6_apply (t : Fin cfg0.N) (n : Fin 8) (hn : t.val = n.val) (h : Fin 8) (p : Fin 2048) :
    ((dats m 0 c).arrAt 6 cfg0.N : S8x8x2048.Idx → EReal) (ix3 n h p)
      = out0_6 (F := Ideal) (iblk m c 0 t) (iblk m c 1 t) (iblk m c 2 t) (iblk m c 3 t) (iblk m c 4 t) (iblk m c 5 t) (ix3 0 h p) := by
  have hi := winIdx6 t
  have hb := (Value.blocks6 m c t (flush6 t)).trans (Value.flushed6 m c t)
  have hx := congrFun hb (ix3 0 h p)
  refine Eq.trans ?_ (hx.trans ?_)
  · refine congrArg ((dats m 0 c).arrAt 6 cfg0.N : S8x8x2048.Idx → EReal) (funext fun a => Fin.ext ?_)
    match a with
    | ⟨0, _⟩ => show _ = win0_6.index t (0 : Fin 3) * 1 + 1 * 0; rw [hi.1]; show n.val = _; omega
    | ⟨1, _⟩ => show _ = win0_6.index t (1 : Fin 3) * 8 + 1 * h.val; rw [hi.2.1]; show h.val = _; omega
    | ⟨2, _⟩ => show _ = win0_6.index t (2 : Fin 3) * 2048 + 1 * p.val; rw [hi.2.2]; show p.val = _; omega
  · rfl

theorem result_apply (n : Fin 8) (h : Fin 8) (p : Fin 2048) :
    ((dats m 0 c).arrAt 6 cfg0.N : S8x8x2048.Idx → EReal) (ix3 n h p) = decay (F := Ideal) (Fa m c) (Ba m c) (ix3 n h p) := by
  have hN : n.val < cfg0.N := by rw [show cfg0.N = 8 from N_0]; omega
  rw [arr6_apply m c ⟨n.val, hN⟩ n rfl h p, out6_apply, blk0 m c ⟨n.val, hN⟩ n rfl h p, blk2]
  exact (decay_apply (Fa m c) (Ba m c) n h p).symm

end Cert.Kernel5Ideal.Gen

namespace Cert.Proof.Gate

open Idealize.ShloMosaic Idealize.ShloMosaic.TcCoe Idealize.SL.Sem

theorem reference_frame : Cert.quiescent_Reference5Ideal (hReference5Ideal := Cert.Reference5Ideal.Gen.facts) := by
  intro m g _
  exact (θ_run (Cert.Reference5Ideal.defs (F := Ideal)) _ _).mono (fun r h =>
      ⟨fun c => (h c).2, Idealize.ShloMosaic.sem_eq_zero_of_no_sems (by decide) r.2⟩)
    (Cert.Reference5Ideal.Value.run (F := Ideal) m g)

theorem algebraic : Cert.algebraic_Kernel5Ideal_Reference5Ideal (hKernel5Ideal := Cert.Kernel5Ideal.Gen.facts) (hReference5Ideal := Cert.Reference5Ideal.Gen.facts) := by
  intro m g m' g' _ hargs
  refine ⟨fun c => (Cert.Kernel5Ideal.Gen.dats m 0 c).arrAt 6 Cert.Kernel5Ideal.cfg0.N,
    (θ_run (Cert.Kernel5Ideal.defs (F := Ideal)) _ _).mono (fun r h c => ⟨(h c).1, (h c).2.2.2⟩) (Cert.Kernel5Ideal.Value.run_blocks m g), ?_⟩
  refine (θ_run (Cert.Reference5Ideal.defs (F := Ideal)) _ _).mono (fun r h c => ⟨(h c).1.trans ?_, (h c).2⟩)
    (Cert.Reference5Ideal.Gate.run m' g')
  obtain ⟨h0, h1⟩ := hargs c
  rw [h0, h1]
  funext i
  have e : i = ix3 (i 0) (i 1) (i 2) := by
    funext a
    match a with
    | 0 => rfl
    | 1 => rfl
    | 2 => rfl
  rw [e]
  exact (Cert.Kernel5Ideal.Gen.result_apply m c (i 0) (i 1) (i 2)).symm

end Cert.Proof.Gate
-- ==== Proof.Proj.SampleCols.lean ====
/-
  The order of the columns in the stream that the sampled tokens' projection leaves position-last.
-/
module

public import proofs.«01_k».proof.Proof.Proj.Cols

@[expose] public section

set_option maxRecDepth 16384

noncomputable section

namespace Cert.Proof.Proj

/-- Row `n` of the sampled tokens' position-last stream: the queries, the keys, the values, the forget gate, zeros. -/
def selS (f : Fin 5416 → EReal) (n : Fin 1664) : EReal :=
  if h : n.val < 1544 then f ⟨1824 + n.val, by omega⟩ else 0

theorem sum_selS (x : Fin 1024 → EReal) (w : Fin 1024 → Fin 5416 → EReal) (n : Fin 1664) :
    ∑ k, selS (w k) n * x k = selS (fun q => ∑ k, x k * w k q) n := by
  unfold selS
  split_ifs
  · exact Finset.sum_congr rfl fun k _ => EReal.mul_comm _ _
  · simp

end Cert.Proof.Proj
-- ==== Proof.Proj.SampleSteps.lean ====
/-
  What the projection kernel leaves for the sampled tokens: products of the tokens' rows with the prepared weights' rows.
  The token-major weights are the ones of the prompt's projection.
-/
module

public import proofs.«01_k».proof.Proof.Gen.Kernel6Ideal.Frame
public import proofs.«01_k».proof.Proof.Proj.SampleCols
public import proofs.«01_k».proof.Proof.Proj.Weights
public import proofs.«01_k».proof.Proof.Proj.Steps
public import Idealize.ShloMosaic.Lib.Pipeline.ValueKit
public import Idealize.ShloMosaic.Lib.Pointwise

@[expose] public section

set_option maxRecDepth 16384

noncomputable section

namespace Cert.Kernel6Ideal.Gen

open Idealize.ShloMosaic Idealize.ShloMosaic.TcCoe Idealize.SL.Sem Idealize.ShloMosaic.Tactic
open Cert.Proof.Proj
open Cert.Kernel4Ideal.Gen (ix2_ext ix3_ext wtokOf wtokOf_apply turn turn_apply move)

/-- One chunk of the token-major stream: 128 rows against 512 rows of the weights. -/
def chunk {F : FTy → Type} [FloatOps F] (x : Vec F S128x1024 .f32) (w : Vec F S512x1024 .bf16) : FVec F S128x512 .f32 :=
  matmul dot_S128x1024_S512x1024_S128x512_1_1_0_0_n_n none (truncf .bf16 (shapeCast S128x1024 x shapeCasts_S128x1024_S128x1024) bitsLt_bf16_f32)
    (shapeCast S512x1024 w shapeCasts_S512x1024_S512x1024) (constant S128x512 .f32 0x00000000#32)

/-- The position-last block. -/
def chunkT {F : FTy → Type} [FloatOps F] (x : Vec F S128x1024 .f32) (w : Vec F S1664x1024 .bf16) : FVec F S1x1664x128 .f32 :=
  shapeCast S1x1664x128 (matmul dot_S1664x1024_S128x1024_S1664x128_1_1_0_0_n_n none (shapeCast S1664x1024 w shapeCasts_S1664x1024_S1664x1024)
    (truncf .bf16 (shapeCast S128x1024 x shapeCasts_S128x1024_S128x1024) bitsLt_bf16_f32) (constant S1664x128 .f32 0x00000000#32)) shapeCasts_S1664x128_S1x1664x128

theorem chunk_apply (x : Vec Ideal S128x1024 .f32) (w : Vec Ideal S512x1024 .bf16) (r : Fin 128) (e : Fin 512) :
    chunk x w (ix2 r e) = ∑ k : Fin 1024, x (ix2 r k) * w (ix2 e k) := by
  pointwise [chunk]

theorem chunkT_apply (x : Vec Ideal S128x1024 .f32) (w : Vec Ideal S1664x1024 .bf16) (n : Fin 1664) (r : Fin 128) :
    chunkT x w (ix3 0 n r) = ∑ k : Fin 1024, w (ix2 n k) * x (ix2 r k) := by
  pointwise [chunkT]

theorem out3_eq {F : FTy → Type} [FloatOps F] (x0 : Vec F S128x1024 .f32) (x1 : Vec F S4608x1024 .bf16) (x2 : Vec F S1664x1024 .bf16) :
    out0_3 x0 x1 x2 = View.canon [⟨r0_18, chunk (View.ld x0 r0_0) (View.ld x1 r0_17)⟩, ⟨r0_16, chunk (View.ld x0 r0_0) (View.ld x1 r0_15)⟩,
      ⟨r0_14, chunk (View.ld x0 r0_0) (View.ld x1 r0_13)⟩, ⟨r0_12, chunk (View.ld x0 r0_0) (View.ld x1 r0_11)⟩, ⟨r0_10, chunk (View.ld x0 r0_0) (View.ld x1 r0_9)⟩,
      ⟨r0_8, chunk (View.ld x0 r0_0) (View.ld x1 r0_7)⟩, ⟨r0_6, chunk (View.ld x0 r0_0) (View.ld x1 r0_5)⟩, ⟨r0_4, chunk (View.ld x0 r0_0) (View.ld x1 r0_3)⟩,
      ⟨r0_2, chunk (View.ld x0 r0_0) (View.ld x1 r0_1)⟩] := rfl

theorem out4_eq {F : FTy → Type} [FloatOps F] (x0 : Vec F S128x1024 .f32) (x1 : Vec F S4608x1024 .bf16) (x2 : Vec F S1664x1024 .bf16) :
    out0_4 x0 x1 x2 = View.canon [⟨r0_20, chunkT (View.ld x0 r0_0) (View.ld x2 r0_19)⟩] := rfl

/-- The tokens' rows are loaded whole. -/
theorem ld_x (x0 : Vec Ideal S128x1024 .f32) : View.ld x0 r0_0 = x0 := by
  funext x
  refine congrArg x0 (funext fun a => Fin.ext ?_)
  match a with
  | ⟨0, _⟩ => show 0 + 1 * (x 0).val = (x 0).val; omega
  | ⟨1, _⟩ => show 0 + 1 * (x 1).val = (x 1).val; omega

/-- The position-last weights are loaded whole. -/
theorem ld_t (x2 : Vec Ideal S1664x1024 .bf16) : View.ld x2 r0_19 = x2 := by
  funext x
  refine congrArg x2 (funext fun a => Fin.ext ?_)
  match a with
  | ⟨0, _⟩ => show 0 + 1 * (x 0).val = (x 0).val; omega
  | ⟨1, _⟩ => show 0 + 1 * (x 1).val = (x 1).val; omega

/-- The products of the tokens' rows with all rows of the weights. -/
def full (x0 : Vec Ideal S128x1024 .f32) (x1 : Vec Ideal S4608x1024 .bf16) : S128x4608.Idx → EReal :=
  fun j => ∑ k : Fin 1024, x0 (ix2 (n0 := 128) (j 0) k) * x1 (ix2 (n0 := 4608) (j 1) k)

theorem chunk_full (x0 : Vec Ideal S128x1024 .f32) (x1 : Vec Ideal S4608x1024 .bf16) (o : ℕ) (inb : _) (inb' : _) (x : S128x512.Idx) :
    chunk (View.ld x0 r0_0) (View.ld x1 (Rect.unit (s := S4608x1024) ![o, 0] S512x1024.size inb)) x
      = full x0 x1 ((Rect.unit (s := S128x4608) ![0, o] S128x512.size inb').emb x) := by
  obtain ⟨r, e, rfl⟩ : ∃ (r : Fin 128) (e : Fin 512), x = ix2 r e := ⟨x 0, x 1, ix2_ext rfl rfl⟩
  rw [ld_x, chunk_apply]
  unfold full
  refine Finset.sum_congr rfl fun k _ => ?_
  refine congrArg₂ (· * ·) (congrArg x0 (ix2_ext (by show r.val = 0 + 1 * r.val; omega) rfl)) (congrArg x1 (ix2_ext ?_ ?_))
  · show o + 1 * e.val = o + 1 * e.val; rfl
  · show 0 + 1 * k.val = k.val; omega

/-- What the point leaves in the token-major stream. -/
theorem out3_apply (x0 : Vec Ideal S128x1024 .f32) (x1 : Vec Ideal S4608x1024 .bf16) (x2 : Vec Ideal S1664x1024 .bf16) (r : Fin 128) (n : Fin 4608) :
    out0_3 x0 x1 x2 (ix2 r n) = ∑ k : Fin 1024, x0 (ix2 r k) * x1 (ix2 n k) := by
  rw [out3_eq]
  refine View.canon_apply_of_pieces (show S128x4608.Idx → Elt Ideal EltTy.f32 from full x0 x1) _ ?_ _ (cover0_3 _ _ _ _ _ _ _ _ _ _)
  simp only [List.forall_mem_cons, List.not_mem_nil, false_imp_iff, implies_true, and_true]
  refine ⟨?_, ?_, ?_, ?_, ?_, ?_, ?_, ?_, ?_⟩ <;> exact chunk_full x0 x1 _ _ _

/-- What the point leaves in the position-last stream. -/
theorem out4_apply (x0 : Vec Ideal S128x1024 .f32) (x1 : Vec Ideal S4608x1024 .bf16) (x2 : Vec Ideal S1664x1024 .bf16) (n : Fin 1664) (r : Fin 128) :
    out0_4 x0 x1 x2 (ix3 0 n r) = ∑ k : Fin 1024, x2 (ix2 n k) * x0 (ix2 r k) := by
  have hc : out0_4 x0 x1 x2 (ix3 0 n r) = chunkT (View.ld x0 r0_0) (View.ld x2 r0_19) (ix3 0 n r) := by
    rw [out4_eq]
    refine View.canon_apply_of_pieces (show S1x1664x128.Idx → Elt Ideal EltTy.f32 from chunkT (View.ld x0 r0_0) (View.ld x2 r0_19)) _ ?_ _ (cover0_4 _ _)
    simp only [List.forall_mem_cons, List.not_mem_nil, false_imp_iff, implies_true, and_true]
    intro x
    refine congrArg (chunkT (View.ld x0 r0_0) (View.ld x2 r0_19)) (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  rw [hc, ld_x, ld_t, chunkT_apply]

/-- The rows of the position-last stream. -/
def wsOf (T : FVec Ideal S5416x1024 .f32) : FVec Ideal S1664x1024 .f32 :=
  concatenate S1664x1024 0 [⟨S512x1024, extractStridedSlice S512x1024 ![1824, 0] T slices_S5416x1024_S512x1024_1824_0⟩,
    ⟨S512x1024, extractStridedSlice S512x1024 ![2336, 0] T slices_S5416x1024_S512x1024_2336_0⟩,
    ⟨S512x1024, extractStridedSlice S512x1024 ![2848, 0] T slices_S5416x1024_S512x1024_2848_0⟩,
    ⟨S128x1024, concatenate S128x1024 0 [⟨S8x1024, extractStridedSlice S8x1024 ![3360, 0] T slices_S5416x1024_S8x1024_3360_0⟩,
      ⟨S120x1024, broadcastInDim S120x1024 ![] bcast_S_S120x1024 (constant (F := Ideal) S_ .f32 0x00000000#32)⟩] concatenates_S8x1024_S120x1024_S128x1024_d0⟩]
    concatenates_S512x1024_S512x1024_S512x1024_S128x1024_S1664x1024_d0

theorem wsOf_apply (T : FVec Ideal S5416x1024 .f32) (k : Fin 1024) (n : Fin 1664) : wsOf T (ix2 n k) = selS (fun q => T (ix2 q k)) n := by
  unfold selS
  pointwise [wsOf]
  all_goals repeat' (split <;> try (exfalso; omega))
  all_goals first
    | (refine move T k ?_; first | omega | (dsimp only; omega))
    | rfl

variable (m : (ℓ : Loc nD τ sig) → Buf (Elt Ideal) ℓ) (c : Dev nD)

/-- The sampled tokens. -/
abbrev Xa : FVec Ideal S128x1x1024 .f32 := m ((c.tc : Thread nD τ).loc main_arg0)
/-- The input weights. -/
abbrev Wa : FVec Ideal S1024x5416 .f32 := m ((c.tc : Thread nD τ).loc main_arg1)

theorem V_x : V m c main_v20 = shapeCast S128x1024 (Xa m c) shapeCasts_S128x1x1024_S128x1024 := by
  entry_read
  rfl

set_option maxHeartbeats 2000000 in
theorem V_tok : V m c main_v21 = (wtokOf (turn (Wa m c)) : S4608x1024.Idx → EReal) := by
  show StableHlo.after _ _ (Proc.devRef .tc main_v21) = _
  after_results
  all_goals rfl

set_option maxHeartbeats 2000000 in
theorem V_t : V m c main_v22 = (wsOf (turn (Wa m c)) : S1664x1024.Idx → EReal) := by
  show StableHlo.after _ _ (Proc.devRef .tc main_v22) = _
  after_results
  all_goals rfl

end Cert.Kernel6Ideal.Gen
-- ==== Proof.Whole.lean ====
/-
  Windows that are their whole array: an index of the block is the same index of the array.
-/
module

public import Idealize.ShloMosaic.PureOps
public import Idealize.ShloMosaic.Lib.Pipeline.ValueKit

@[expose] public section

set_option maxRecDepth 16384

noncomputable section

namespace Cert.Proof.Whole

open Idealize.ShloMosaic

theorem ix2_ext {n0 n1 : ℕ} {i : (⟨2, ![n0, n1]⟩ : Shape).Idx} {a : Fin n0} {b : Fin n1} (h0 : (i 0).val = a.val) (h1 : (i 1).val = b.val) :
    i = ix2 a b := by
  funext k
  match k with
  | ⟨0, _⟩ => exact Fin.ext h0
  | ⟨1, _⟩ => exact Fin.ext h1

theorem ix3_ext {n0 n1 n2 : ℕ} {i : (⟨3, ![n0, n1, n2]⟩ : Shape).Idx} {a : Fin n0} {b : Fin n1} {d : Fin n2} (h0 : (i 0).val = a.val) (h1 : (i 1).val = b.val)
    (h2 : (i 2).val = d.val) : i = ix3 a b d := by
  funext k
  match k with
  | ⟨0, _⟩ => exact Fin.ext h0
  | ⟨1, _⟩ => exact Fin.ext h1
  | ⟨2, _⟩ => exact Fin.ext h2

/-- A block of two axes that starts at the array's first index lies in the array where it lies in itself. -/
theorem whole2 {a b n0 n1 : ℕ} {i : (⟨2, ![n0, n1]⟩ : Shape).Idx} (r : Fin n0) (s : Fin n1) (ha : a = 0) (hb : b = 0)
    (h0 : (i 0).val = a * n0 + 1 * r.val) (h1 : (i 1).val = b * n1 + 1 * s.val) : i = ix2 r s := by
  subst ha hb
  exact ix2_ext (by omega) (by omega)

/-- The same of three axes. -/
theorem whole3 {a b d n0 n1 n2 : ℕ} {i : (⟨3, ![n0, n1, n2]⟩ : Shape).Idx} (r : Fin n0) (s : Fin n1) (u : Fin n2) (ha : a = 0) (hb : b = 0) (hd : d = 0)
    (h0 : (i 0).val = a * n0 + 1 * r.val) (h1 : (i 1).val = b * n1 + 1 * s.val) (h2 : (i 2).val = d * n2 + 1 * u.val) : i = ix3 r s u := by
  subst ha hb hd
  exact ix3_ext (by omega) (by omega) (by omega)

end Cert.Proof.Whole
-- ==== Proof.Proj.SampleRef.lean ====
/-
  The reference's projection of the sampled tokens, read at an index of each of its two streams.
-/
module

public import proofs.«01_k».proof.Proof.Gen.Reference6Ideal.Run
public import proofs.«01_k».proof.Proof.Proj.SampleCols
public import Idealize.ShloMosaic.Lib.Pipeline.ValueKit
public import Idealize.ShloMosaic.Lib.Pointwise

@[expose] public section

set_option maxRecDepth 16384

noncomputable section

namespace Cert.Reference6Ideal.Proj

open Cert.Reference6Ideal Cert.Reference6Ideal.Gen Idealize.ShloMosaic Idealize.ShloMosaic.TcCoe Idealize.SL.Sem
open Cert.Proof.Proj

section Ops

variable {F : FTy → Type} [FloatOps F]

/-- The product. -/
def prod (x : FVec F S128x1x1024 .f32) (w : FVec F S1024x5416 .f32) : FVec F S128x1x5416 .f32 :=
  Host.dotGeneral dot_S128x1x1024_S1024x5416_S128x1x5416_2_0_01_1_n_n none x w

/-- The attention's columns. -/
def fox (p : FVec F S128x1x5416 .f32) : FVec F S128x1x1544 .f32 :=
  extractStridedSlice S128x1x1544 ![0, 0, 1824] p slices_S128x1x5416_S128x1x1544_0_0_1824

/-- The columns in the token-major stream's order. -/
def ordered (p : FVec F S128x1x5416 .f32) : FVec F S128x1x4608 .f32 :=
  concatenate S128x1x4608 2 [⟨S128x1x2048, extractStridedSlice S128x1x2048 ![0, 0, 3368] p slices_S128x1x5416_S128x1x2048_0_0_3368⟩,
    ⟨S128x1x1824, extractStridedSlice S128x1x1824 ![0, 0, 0] p slices_S128x1x5416_S128x1x1824_0_0_0⟩,
    ⟨S128x1x96, broadcastInDim S128x1x96 ![] bcast_S_S128x1x96 (constant (F := F) S_ .f32 0x00000000#32)⟩,
    ⟨S128x1x8, extractStridedSlice S128x1x8 ![0, 0, 1536] (fox p) slices_S128x1x1544_S128x1x8_0_0_1536⟩,
    ⟨S128x1x120, broadcastInDim S128x1x120 ![] bcast_S_S128x1x120 (constant (F := F) S_ .f32 0x00000000#32)⟩,
    ⟨S128x1x512, extractStridedSlice S128x1x512 ![0, 0, 0] (fox p) slices_S128x1x1544_S128x1x512_0_0_0⟩]
    concatenates_S128x1x2048_S128x1x1824_S128x1x96_S128x1x8_S128x1x120_S128x1x512_S128x1x4608_d2

/-- The token-major stream. -/
def tok (p : FVec F S128x1x5416 .f32) : FVec F S128x4608 .f32 :=
  shapeCast S128x4608 (ordered p) shapeCasts_S128x1x4608_S128x4608

/-- The position-last stream's columns. -/
def orderedT (p : FVec F S128x1x5416 .f32) : FVec F S128x1x1664 .f32 :=
  concatenate S128x1x1664 2 [⟨S128x1x1544, fox p⟩,
    ⟨S128x1x120, broadcastInDim S128x1x120 ![] bcast_S_S128x1x120 (constant (F := F) S_ .f32 0x00000000#32)⟩]
    concatenates_S128x1x1544_S128x1x120_S128x1x1664_d2

/-- The position-last stream. -/
def turned (p : FVec F S128x1x5416 .f32) : FVec F S1x1664x128 .f32 :=
  transpose S1x1664x128 [1, 2, 0] (orderedT p) transposes_S128x1x1664_S1x1664x128_1_2_0

end Ops

theorem prod_apply (x : FVec Ideal S128x1x1024 .f32) (w : FVec Ideal S1024x5416 .f32) (b : Fin 128) (q : Fin 5416) :
    prod x w (ix3 b 0 q) = ∑ k : Fin 1024, x (ix3 b 0 k) * w (ix2 k q) := by
  pointwise [prod]

section Columns

variable (p : FVec Ideal S128x1x5416 .f32) (b : Fin 128)

theorem move {q q' : Fin 5416} (h : q.val = q'.val) : p (ix3 b 0 q) = p (ix3 b 0 q') := by
  rw [Fin.ext h]

theorem tok_at (n : Fin 4608) : tok p (ix2 b n) = sel (fun q => p (ix3 b 0 q)) n := by
  have h : tok p (ix2 b n) = ordered p (ix3 b 0 n) := by
    pointwise [tok]
  rw [h]
  unfold sel
  pointwise [ordered, fox]
  all_goals repeat' (split <;> try (exfalso; omega))
  all_goals first
    | (refine move p b ?_; first | omega | (dsimp only; omega))
    | rfl

theorem turned_at (n : Fin 1664) : turned p (ix3 0 n b) = selS (fun q => p (ix3 b 0 q)) n := by
  have h : turned p (ix3 0 n b) = orderedT p (ix3 b 0 n) := by
    pointwise [turned]
  rw [h]
  unfold selS
  pointwise [orderedT, fox]
  all_goals repeat' (split <;> try (exfalso; omega))
  all_goals first
    | (refine move p b ?_; first | omega | (dsimp only; omega))
    | rfl

end Columns

/-- The run, its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = tok (F := Ideal) (prod (F := Ideal) (m ((c.tc : Thread nD τ).loc main_arg0)) (m ((c.tc : Thread nD τ).loc main_arg1)))
      ∧ r.2.mem ((c.tc : Thread nD τ).loc main_v12) = turned (F := Ideal) (prod (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

end Cert.Reference6Ideal.Proj
-- ==== Proof.Proj.SampleFinal.lean ====
/-
  The projection kernel's two streams of the sampled tokens are the reference's, at every index.
-/
module

public import proofs.«01_k».proof.Defs
public import proofs.«01_k».proof.Proof.Proj.SampleSteps
public import proofs.«01_k».proof.Proof.Whole
public import proofs.«01_k».proof.Proof.Proj.SampleRef
public import proofs.«01_k».proof.Proof.Gen.Kernel6Ideal.Value
public import Idealize.ShloMosaic.Lib.Claim

@[expose] public section

set_option maxRecDepth 16384

noncomputable section

namespace Cert.Kernel6Ideal.Gen

open Idealize.ShloMosaic Idealize.ShloMosaic.TcCoe Idealize.SL.Sem Idealize.ShloMosaic.Tactic
open Cert.Proof.Proj Cert.Proof.Whole
open Cert.Kernel4Ideal.Gen (wtokOf_apply turn_apply)

variable (m : (ℓ : Loc nD τ sig) → Buf (Elt Ideal) ℓ) (c : Dev nD)

theorem x_apply (x : FVec Ideal S128x1x1024 .f32) (i : Fin 128) (e : Fin 1024) :
    shapeCast S128x1024 x shapeCasts_S128x1x1024_S128x1024 (ix2 i e) = x (ix3 i 0 e) := by
  pointwise

/-- The kernel's only point. -/
def pt : Fin cfg0.N := ⟨0, by rw [show cfg0.N = 1 from N_0]; decide⟩

theorem blk0 (r : Fin 128) (e : Fin 1024) : (iblk m c 0 pt : Vec Ideal S128x1024 .f32) (ix2 r e) = Xa m c (ix3 r 0 e) := by
  have e1 : (iblk m c 0 pt : Vec Ideal S128x1024 .f32) (ix2 r e) = V m c main_v20 (ix2 r e) :=
    congrArg (V m c main_v20) (whole2 (a := win0_0.index pt (0 : Fin 2)) (b := win0_0.index pt (1 : Fin 2)) r e (by decide +kernel) (by decide +kernel) rfl rfl)
  rw [e1, V_x, x_apply]

theorem blk1 (n : Fin 4608) (k : Fin 1024) : (iblk m c 1 pt : Vec Ideal S4608x1024 .bf16) (ix2 n k) = sel (fun q => Wa m c (ix2 k q)) n := by
  have e1 : (iblk m c 1 pt : Vec Ideal S4608x1024 .bf16) (ix2 n k) = V m c main_v21 (ix2 n k) :=
    congrArg (V m c main_v21) (whole2 (a := win0_1.index pt (0 : Fin 2)) (b := win0_1.index pt (1 : Fin 2)) n k (by decide +kernel) (by decide +kernel) rfl rfl)
  rw [e1, V_tok, wtokOf_apply]
  simp only [turn_apply]

theorem blk2 (n : Fin 1664) (k : Fin 1024) : (iblk m c 2 pt : Vec Ideal S1664x1024 .bf16) (ix2 n k) = selS (fun q => Wa m c (ix2 k q)) n := by
  have e1 : (iblk m c 2 pt : Vec Ideal S1664x1024 .bf16) (ix2 n k) = V m c main_v22 (ix2 n k) :=
    congrArg (V m c main_v22) (whole2 (a := win0_2.index pt (0 : Fin 2)) (b := win0_2.index pt (1 : Fin 2)) n k (by decide +kernel) (by decide +kernel) rfl rfl)
  rw [e1, V_t, wsOf_apply]
  simp only [turn_apply]

theorem result3_apply (i : Fin 128) (n : Fin 4608) :
    ((dats m 0 c).arrAt 3 cfg0.N : S128x4608.Idx → EReal) (ix2 i n)
      = Cert.Reference6Ideal.Proj.tok (Cert.Reference6Ideal.Proj.prod (F := Ideal) (Xa m c) (Wa m c)) (ix2 i n) := by
  have h := congrFun ((Value.blocks3 m c pt (by decide +kernel)).trans (Value.flushed3 m c pt)) (ix2 i n)
  have e1 : ((dats m 0 c).arrAt 3 cfg0.N : S128x4608.Idx → EReal) (ix2 i n)
      = out0_3 (F := Ideal) (iblk m c 0 pt) (iblk m c 1 pt) (iblk m c 2 pt) (ix2 i n) := by
    refine Eq.trans (congrArg ((dats m 0 c).arrAt 3 cfg0.N : S128x4608.Idx → EReal) ?_) h
    exact (whole2 (a := win0_3.index pt (0 : Fin 2)) (b := win0_3.index pt (1 : Fin 2)) i n (by decide +kernel) (by decide +kernel) rfl rfl).symm
  rw [e1, out3_apply]
  simp only [blk0, blk1]
  rw [sum_sel, Cert.Reference6Ideal.Proj.tok_at]
  simp only [Cert.Reference6Ideal.Proj.prod_apply]

theorem result4_apply (n : Fin 1664) (i : Fin 128) :
    ((dats m 0 c).arrAt 4 cfg0.N : S1x1664x128.Idx → EReal) (ix3 0 n i)
      = Cert.Reference6Ideal.Proj.turned (Cert.Reference6Ideal.Proj.prod (F := Ideal) (Xa m c) (Wa m c)) (ix3 0 n i) := by
  have h := congrFun ((Value.blocks4 m c pt (by decide +kernel)).trans (Value.flushed4 m c pt)) (ix3 0 n i)
  have e1 : ((dats m 0 c).arrAt 4 cfg0.N : S1x1664x128.Idx → EReal) (ix3 0 n i)
      = out0_4 (F := Ideal) (iblk m c 0 pt) (iblk m c 1 pt) (iblk m c 2 pt) (ix3 0 n i) := by
    refine Eq.trans (congrArg ((dats m 0 c).arrAt 4 cfg0.N : S1x1664x128.Idx → EReal) ?_) h
    exact (whole3 (a := win0_4.index pt (0 : Fin 3)) (b := win0_4.index pt (1 : Fin 3)) (d := win0_4.index pt (2 : Fin 3)) 0 n i
      (by decide +kernel) (by decide +kernel) (by decide +kernel) rfl rfl rfl).symm
  rw [e1, out4_apply]
  simp only [blk0, blk2]
  rw [sum_selS, Cert.Reference6Ideal.Proj.turned_at]
  simp only [Cert.Reference6Ideal.Proj.prod_apply]

end Cert.Kernel6Ideal.Gen

namespace Cert.Proof.ProjSample

open Idealize.ShloMosaic Idealize.ShloMosaic.TcCoe Idealize.SL.Sem

theorem reference_frame : Cert.quiescent_Reference6Ideal (hReference6Ideal := Cert.Reference6Ideal.Gen.facts) := by
  intro m g _
  exact (θ_run (Cert.Reference6Ideal.defs (F := Ideal)) _ _).mono (fun r h =>
      ⟨fun c => (h c).2.2, Idealize.ShloMosaic.sem_eq_zero_of_no_sems (by decide) r.2⟩)
    (Cert.Reference6Ideal.Value.run (F := Ideal) m g)

theorem algebraic : Cert.algebraic_Kernel6Ideal_Reference6Ideal (hKernel6Ideal := Cert.Kernel6Ideal.Gen.facts) (hReference6Ideal := Cert.Reference6Ideal.Gen.facts) := by
  intro m g m' g' _ hargs
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N,
    Cert.Kernel6Ideal.Value.run_blocks m g, ?_⟩
  refine (θ_run (Cert.Reference6Ideal.defs (F := Ideal)) _ _).mono (fun r h c => ⟨(h c).1.trans ?_, (h c).2.1.trans ?_, (h c).2.2⟩)
    (Cert.Reference6Ideal.Proj.run m' g')
  · obtain ⟨h0, h1⟩ := hargs c
    rw [h0, h1]
    funext i
    rw [show i = ix2 (i 0) (i 1) from Cert.Kernel4Ideal.Gen.ix2_ext rfl rfl]
    exact (Cert.Kernel6Ideal.Gen.result3_apply m c (i 0) (i 1)).symm
  · obtain ⟨h0, h1⟩ := hargs c
    rw [h0, h1]
    funext i
    have h : (i 0).val = 0 := Nat.lt_one_iff.mp (i 0).isLt
    rw [show i = ix3 0 (i 1) (i 2) from Cert.Kernel4Ideal.Gen.ix3_ext h rfl rfl]
    exact (Cert.Kernel6Ideal.Gen.result4_apply m c (i 1) (i 2)).symm

end Cert.Proof.ProjSample
-- ==== Proof.Ffn.SampleSteps.lean ====
/-
  What the feed-forward kernel leaves for the sampled tokens. A row is treated as a row of the prompt's block is, so what
  stands before the norm is read off the prompt's, for a block of which every row is this one.
-/
module

public import proofs.«01_k».proof.Proof.Gen.Kernel7Ideal.Frame
public import proofs.«01_k».proof.Proof.Ffn.Steps
public import proofs.«01_k».proof.Proof.Whole
public import Idealize.ShloMosaic.Lib.Pipeline.ValueKit
public import Idealize.ShloMosaic.Lib.Pointwise

@[expose] public section

set_option maxRecDepth 16384

noncomputable section

namespace Cert.Kernel7Ideal.Gen

open Idealize.ShloMosaic Idealize.ShloMosaic.TcCoe Idealize.ShloMosaic.Tactic
open Cert.Proof.Layer Cert.Proof.Whole
open Cert.Kernel2Ideal.Gen (addf_at mulf_at)

section Ops

variable {F : FTy → Type} [FloatOps F]

/-- Hidden units before the activation, 256 of them. -/
def hid (x : Vec F S128x1024 .f32) (w : Vec F S1024x256 .bf16) : FVec F S128x256 .f32 :=
  matmul dot_S128x1024_S1024x256_S128x256_1_0_0_1_n_n none
    (truncf .bf16 (shapeCast S128x1024 x shapeCasts_S128x1024_S128x1024) bitsLt_bf16_f32)
    (shapeCast S1024x256 w shapeCasts_S1024x256_S1024x256) (constant S128x256 .f32 0x00000000#32)

/-- The gated activation. -/
def act (u v : FVec F S128x256 .f32) : FVec F S128x256 .f32 :=
  mulf (mulf u (divf (broadcast S128x256 (Scalar.ofBits .f32 0x3F800000#32)) (addf (broadcast S128x256 (Scalar.ofBits .f32 0x3F800000#32))
    (exp (subf (broadcast S128x256 (Scalar.ofBits .f32 0x00000000#32)) u))))) v

/-- The product of one block of hidden units. -/
def chunk (x : Vec F S128x1024 .f32) (wg wu : Vec F S1024x256 .bf16) (wd : Vec F S256x1024 .bf16) : FVec F S128x1024 .f32 :=
  matmul dot_S128x256_S256x1024_S128x1024_1_0_0_1_n_n none
    (truncf .bf16 (act (hid x wg) (hid x wu)) bitsLt_bf16_f32)
    (shapeCast S256x1024 wd shapeCasts_S256x1024_S256x1024) (constant S128x1024 .f32 0x00000000#32)

/-- A row's mean, a column. -/
def rowMean (z : FVec F S128x1024 .f32) : FVec F S128x1 .f32 :=
  divf (shapeCast S128x1 (multiReduction .add [1] S128 z 0x00000000#32 reduces_S128x1024_S128 (.inl rfl) rfl) shapeCasts_S128_S128x1)
    (broadcast S128x1 (Scalar.ofBits .f32 0x44800000#32))

/-- The rows less their means. -/
def centred (z : FVec F S128x1024 .f32) : FVec F S128x1024 .f32 :=
  subf z (broadcastTo S128x1024 (rowMean z) broadcasts_S128x1_S128x1024)

/-- The layer norm of a block of rows. -/
def normed (z : FVec F S128x1024 .f32) (g b : Vec F S1x1024 .f32) : FVec F S128x1024 .f32 :=
  addf (mulf (mulf (centred z) (broadcastTo S128x1024
      (rsqrt (addf (rowMean (mulf (centred z) (centred z))) (broadcast S128x1 (Scalar.ofBits .f32 0x3727C5AC#32)))) broadcasts_S128x1_S128x1024))
    (broadcastTo S128x1024 (shapeCast S1x1024 g shapeCasts_S1x1024_S1x1024) broadcasts_S1x1024_S128x1024))
    (broadcastTo S128x1024 (shapeCast S1x1024 b shapeCasts_S1x1024_S1x1024) broadcasts_S1x1024_S128x1024)

/-- The rows before the norm. -/
def pre (x0 : Vec F S128x1024 .f32) (x1 : Vec F S1024x5632 .bf16) (x2 : Vec F S2816x1024 .bf16) : FVec F S128x1024 .f32 :=
  addf (addf (addf (addf (addf (addf (addf (addf (addf (addf (addf (mulf (broadcast S128x1024 (Scalar.ofBits .f32 0x3F9837F0#32)) (shapeCast S128x1024 (View.ld x0 r0_0) shapeCasts_S128x1024_S128x1024))
    (chunk (View.ld x0 r0_0) (View.ld x1 r0_1) (View.ld x1 r0_2) (View.ld x2 r0_3)))
    (chunk (View.ld x0 r0_0) (View.ld x1 r0_4) (View.ld x1 r0_5) (View.ld x2 r0_6)))
    (chunk (View.ld x0 r0_0) (View.ld x1 r0_7) (View.ld x1 r0_8) (View.ld x2 r0_9)))
    (chunk (View.ld x0 r0_0) (View.ld x1 r0_10) (View.ld x1 r0_11) (View.ld x2 r0_12)))
    (chunk (View.ld x0 r0_0) (View.ld x1 r0_13) (View.ld x1 r0_14) (View.ld x2 r0_15)))
    (chunk (View.ld x0 r0_0) (View.ld x1 r0_16) (View.ld x1 r0_17) (View.ld x2 r0_18)))
    (chunk (View.ld x0 r0_0) (View.ld x1 r0_19) (View.ld x1 r0_20) (View.ld x2 r0_21)))
    (chunk (View.ld x0 r0_0) (View.ld x1 r0_22) (View.ld x1 r0_23) (View.ld x2 r0_24)))
    (chunk (View.ld x0 r0_0) (View.ld x1 r0_25) (View.ld x1 r0_26) (View.ld x2 r0_27)))
    (chunk (View.ld x0 r0_0) (View.ld x1 r0_28) (View.ld x1 r0_29) (View.ld x2 r0_30)))
    (chunk (View.ld x0 r0_0) (View.ld x1 r0_31) (View.ld x1 r0_32) (View.ld x2 r0_33))

theorem out_eq (x0 : Vec F S128x1024 .f32) (x1 : Vec F S1024x5632 .bf16) (x2 : Vec F S2816x1024 .bf16) (x3 x4 : Vec F S1x1024 .f32) :
    out0_5 x0 x1 x2 x3 x4 = View.canon [⟨r0_0, normed (pre x0 x1 x2) (View.ld x3 r0_34) (View.ld x4 r0_34)⟩] := rfl

end Ops

theorem hid_apply (x : Vec Ideal S128x1024 .f32) (w : Vec Ideal S1024x256 .bf16) (r : Fin 128) (j : Fin 256) :
    hid x w (ix2 r j) = ∑ d : Fin 1024, x (ix2 r d) * w (ix2 d j) := by
  pointwise [hid]

theorem act_apply (u v : FVec Ideal S128x256 .f32) (r : Fin 128) (j : Fin 256) :
    act u v (ix2 r j) = glu (u (ix2 r j)) (v (ix2 r j)) := by
  pointwise [act, glu]

theorem chunk_apply (x : Vec Ideal S128x1024 .f32) (wg wu : Vec Ideal S1024x256 .bf16) (wd : Vec Ideal S256x1024 .bf16) (r : Fin 128) (e : Fin 1024) :
    chunk x wg wu wd (ix2 r e) = ∑ j : Fin 256, act (hid x wg) (hid x wu) (ix2 r j) * wd (ix2 j e) := by
  pointwise [chunk]

theorem rowMean_apply (z : FVec Ideal S128x1024 .f32) (r : Fin 128) :
    rowMean z (ix2 r 0) = mean fun k => z (ix2 r k) := by
  pointwise [rowMean, mean]

theorem centred_apply (z : FVec Ideal S128x1024 .f32) (r : Fin 128) (e : Fin 1024) :
    centred z (ix2 r e) = z (ix2 r e) - rowMean z (ix2 r 0) := by
  pointwise [centred]

theorem normed_apply0 (z : FVec Ideal S128x1024 .f32) (g b : Vec Ideal S1x1024 .f32) (r : Fin 128) (e : Fin 1024) :
    normed z g b (ix2 r e) = centred z (ix2 r e)
      * Ideal.rsqrt (rowMean (mulf (centred z) (centred z)) (ix2 r 0) + Ideal.ofBits .f32 0x3727C5AC#32) * g (ix2 0 e) + b (ix2 0 e) := by
  pointwise [normed]

theorem normed_apply (z : FVec Ideal S128x1024 .f32) (g b : Vec Ideal S1x1024 .f32) (r : Fin 128) (e : Fin 1024) :
    normed z g b (ix2 r e) = lnorm (fun k => z (ix2 r k)) (fun k => g (ix2 0 k)) (fun k => b (ix2 0 k)) e := by
  rw [normed_apply0, rowMean_apply, centred_apply, rowMean_apply]
  simp only [mulf_at, centred_apply, rowMean_apply]
  rfl

/-- A block of the prompt of which every row is row `r`. -/
def rows (x : Vec Ideal S128x1024 .f32) (r : Fin 128) : Vec Ideal Cert.Kernel2Ideal.S512x1024 .f32 :=
  fun i => x (ix2 (n1 := 1024) r (i 1))

/-- The tokens' rows are loaded whole. -/
theorem ld_x (x : Vec Ideal S128x1024 .f32) : View.ld x r0_0 = x := by
  funext i
  refine congrArg x (funext fun a => Fin.ext ?_)
  match a with
  | ⟨0, _⟩ => show 0 + 1 * (i 0).val = (i 0).val; omega
  | ⟨1, _⟩ => show 0 + 1 * (i 1).val = (i 1).val; omega

/-- So is the prompt's block. -/
theorem ld_x2 (x : Vec Ideal Cert.Kernel2Ideal.S512x1024 .f32) : View.ld x Cert.Kernel2Ideal.Gen.r0_0 = x := by
  funext i
  refine congrArg x (funext fun a => Fin.ext ?_)
  match a with
  | ⟨0, _⟩ => show 0 + 1 * (i 0).val = (i 0).val; omega
  | ⟨1, _⟩ => show 0 + 1 * (i 1).val = (i 1).val; omega

/-- And the norm's scale and shift. -/
theorem ld_g (x : Vec Ideal S1x1024 .f32) : View.ld x r0_34 = x := by
  funext i
  refine congrArg x (funext fun a => Fin.ext ?_)
  match a with
  | ⟨0, _⟩ => show 0 + 1 * (i 0).val = (i 0).val; omega
  | ⟨1, _⟩ => show 0 + 1 * (i 1).val = (i 1).val; omega

theorem chunk_row (x : Vec Ideal S128x1024 .f32) (wg wu : Vec Ideal S1024x256 .bf16) (wd : Vec Ideal S256x1024 .bf16) (r : Fin 128) (e : Fin 1024) :
    chunk (View.ld x r0_0) wg wu wd (ix2 r e)
      = Cert.Kernel2Ideal.Gen.chunk (F := Ideal) (View.ld (rows x r) Cert.Kernel2Ideal.Gen.r0_0) wg wu wd (ix2 0 e) := by
  rw [ld_x, ld_x2, chunk_apply, Cert.Kernel2Ideal.Gen.chunk_apply]
  refine Finset.sum_congr rfl fun j _ => ?_
  rw [act_apply, hid_apply, hid_apply, Cert.Kernel2Ideal.Gen.act_apply, Cert.Kernel2Ideal.Gen.hid_apply, Cert.Kernel2Ideal.Gen.hid_apply]
  rfl

theorem residual_row (x : Vec Ideal S128x1024 .f32) (r : Fin 128) (e : Fin 1024) :
    mulf (broadcast S128x1024 (Scalar.ofBits (F := Ideal) .f32 0x3F9837F0#32)) (shapeCast S128x1024 (View.ld x r0_0 : Vec Ideal S128x1024 .f32) shapeCasts_S128x1024_S128x1024) (ix2 r e)
      = mulf (broadcast Cert.Kernel2Ideal.S512x1024 (Scalar.ofBits (F := Ideal) .f32 0x3F9837F0#32))
          (shapeCast Cert.Kernel2Ideal.S512x1024 (View.ld (rows x r) Cert.Kernel2Ideal.Gen.r0_0 : Vec Ideal Cert.Kernel2Ideal.S512x1024 .f32)
            Cert.Kernel2Ideal.Gen.shapeCasts_S512x1024_S512x1024) (ix2 0 e) := by
  have h1 : mulf (broadcast S128x1024 (Scalar.ofBits (F := Ideal) .f32 0x3F9837F0#32)) (shapeCast S128x1024 x shapeCasts_S128x1024_S128x1024) (ix2 r e)
      = alpha * x (ix2 r e) := by
    pointwise [alpha]
  have h2 : ∀ y : Vec Ideal Cert.Kernel2Ideal.S512x1024 .f32, mulf (broadcast Cert.Kernel2Ideal.S512x1024 (Scalar.ofBits (F := Ideal) .f32 0x3F9837F0#32))
      (shapeCast Cert.Kernel2Ideal.S512x1024 y Cert.Kernel2Ideal.Gen.shapeCasts_S512x1024_S512x1024) (ix2 0 e) = alpha * y (ix2 0 e) := by
    intro y
    pointwise [alpha]
  rw [ld_x, ld_x2, h1, h2]
  rfl

theorem pre_apply (x0 : Vec Ideal S128x1024 .f32) (x1 : Vec Ideal S1024x5632 .bf16) (x2 : Vec Ideal S2816x1024 .bf16) (r : Fin 128) (e : Fin 1024) :
    pre x0 x1 x2 (ix2 r e) = zrow (fun d => x0 (ix2 r d)) (fun d n => x1 (ix2 d n)) (fun n => x2 (ix2 n e)) e := by
  refine Eq.trans ?_ (Cert.Kernel2Ideal.Gen.pre_apply (rows x0 r) x1 x2 0 e)
  unfold pre Cert.Kernel2Ideal.Gen.pre
  simp only [addf_at, chunk_row, residual_row]

/-- What the point leaves. -/
theorem out_apply (x0 : Vec Ideal S128x1024 .f32) (x1 : Vec Ideal S1024x5632 .bf16) (x2 : Vec Ideal S2816x1024 .bf16) (x3 x4 : Vec Ideal S1x1024 .f32)
    (r : Fin 128) (e : Fin 1024) :
    out0_5 x0 x1 x2 x3 x4 (ix2 r e)
      = lnorm (fun k => zrow (fun d => x0 (ix2 r d)) (fun d n => x1 (ix2 d n)) (fun n => x2 (ix2 n k)) k)
          (fun k => x3 (ix2 0 k)) (fun k => x4 (ix2 0 k)) e := by
  have hc : out0_5 x0 x1 x2 x3 x4 (ix2 r e) = normed (pre x0 x1 x2) (View.ld x3 r0_34) (View.ld x4 r0_34) (ix2 r e) := by
    rw [out_eq]
    refine View.canon_apply_of_pieces (show S128x1024.Idx → Elt Ideal EltTy.f32 from normed (pre x0 x1 x2) (View.ld x3 r0_34) (View.ld x4 r0_34)) _ ?_ _ (cover0_5 _ _)
    simp only [List.forall_mem_cons, List.not_mem_nil, false_imp_iff, implies_true, and_true]
    intro x
    refine congrArg (normed (pre x0 x1 x2) (View.ld x3 r0_34) (View.ld x4 r0_34)) (funext fun a => Fin.ext ?_)
    match a with
    | ⟨0, _⟩ => show (x 0).val = 0 + 1 * (x 0).val; omega
    | ⟨1, _⟩ => show (x 1).val = 0 + 1 * (x 1).val; omega
  rw [hc, ld_g, ld_g, normed_apply]
  simp only [pre_apply]

end Cert.Kernel7Ideal.Gen
-- ==== Proof.Ffn.SampleRef.lean ====
/-
  The reference's feed-forward layer of the sampled tokens. A row is treated as a row of the prompt is, so its product is
  read off the prompt's, for an input of which every row is this one.
-/
module

public import proofs.«01_k».proof.Proof.Gen.Reference7Ideal.Run
public import proofs.«01_k».proof.Proof.Ffn.Ref
public import Idealize.ShloMosaic.Lib.Pipeline.ValueKit
public import Idealize.ShloMosaic.Lib.Pointwise

@[expose] public section

set_option maxRecDepth 16384

noncomputable section

namespace Cert.Reference7Ideal.Ffn

open Cert.Reference7Ideal Cert.Reference7Ideal.Gen Idealize.ShloMosaic Idealize.ShloMosaic.TcCoe Idealize.SL.Sem
open Cert.Proof.Layer
open Cert.Reference2Ideal.Ffn (zero_word mulf_at)

section Ops

variable {F : FTy → Type} [FloatOps F]

/-- The hidden units before the activation, gates and values. -/
def hid (x : FVec F S128x1x1024 .f32) (w : FVec F S1024x5632 .f32) : FVec F S128x1x5632 .f32 :=
  Host.dotGeneral dot_S128x1x1024_S1024x5632_S128x1x5632_2_0_01_1_n_n none x w

/-- The gated activation. -/
def act (u : FVec F S128x1x5632 .f32) : FVec F S128x1x2816 .f32 :=
  mulf (mulf (extractStridedSlice S128x1x2816 ![0, 0, 0] u slices_S128x1x5632_S128x1x2816_0_0_0)
    (Host.divf (broadcastInDim S128x1x2816 ![] bcast_S_S128x1x2816 (constant S_ .f32 0x3F800000#32))
      (addf (broadcastInDim S128x1x2816 ![] bcast_S_S128x1x2816 (constant S_ .f32 0x3F800000#32))
        (Host.exp (Host.negf (extractStridedSlice S128x1x2816 ![0, 0, 0] u slices_S128x1x5632_S128x1x2816_0_0_0))))))
    (extractStridedSlice S128x1x2816 ![0, 0, 2816] u slices_S128x1x5632_S128x1x2816_0_0_2816)

/-- The product of the activations. -/
def down (a : FVec F S128x1x2816 .f32) (w : FVec F S2816x1024 .f32) : FVec F S128x1x1024 .f32 :=
  Host.dotGeneral dot_S128x1x2816_S2816x1024_S128x1x1024_2_0_01_1_n_n none a w

/-- The rows before the norm. -/
def pre (x : FVec F S128x1x1024 .f32) (y : FVec F S128x1x1024 .f32) : FVec F S128x1x1024 .f32 :=
  addf (mulf (broadcastInDim S128x1x1024 ![] bcast_S_S128x1x1024 (constant S_ .f32 0x3F9837F0#32)) x) y

/-- A row's sum. -/
def rowSum (z : FVec F S128x1x1024 .f32) : FVec F S128x1 .f32 :=
  Host.reduceAdd z (constant S_ .f32 0x00000000#32) reducesTo_S128x1x1024_S128x1_d2 h_S_

/-- A row's mean. -/
def rowMean (z : FVec F S128x1x1024 .f32) : FVec F S128x1x1 .f32 :=
  Host.divf (broadcastInDim S128x1x1 ![0, 1] bcast_S128x1_S128x1x1_0_1 (rowSum z))
    (broadcastInDim S128x1x1 ![] bcast_S_S128x1x1 (constant S_ .f32 0x44800000#32))

/-- The rows less their means. -/
def centred (z : FVec F S128x1x1024 .f32) : FVec F S128x1x1024 .f32 :=
  subf z (broadcastInDim S128x1x1024 ![0, 1, 2] bcast_S128x1x1_S128x1x1024_0_1_2 (rowMean z))

/-- The norm of centred rows `d`, of mean square `v`. -/
def scaled (d : FVec F S128x1x1024 .f32) (v : FVec F S128x1x1 .f32) (g b : FVec F S1024 .f32) : FVec F S128x1024 .f32 :=
  shapeCast _ (addf (mulf (mulf d (broadcastInDim S128x1x1024 ![0, 1, 2] bcast_S128x1x1_S128x1x1024_0_1_2
      (Host.rsqrt (addf v (broadcastInDim S128x1x1 ![] bcast_S_S128x1x1 (constant S_ .f32 0x3727C5AC#32))))))
    (broadcastInDim S128x1x1024 ![0, 1, 2] bcast_S1x1x1024_S128x1x1024_0_1_2 (broadcastInDim S1x1x1024 ![2] bcast_S1024_S1x1x1024_2 g)))
    (broadcastInDim S128x1x1024 ![0, 1, 2] bcast_S1x1x1024_S128x1x1024_0_1_2 (broadcastInDim S1x1x1024 ![2] bcast_S1024_S1x1x1024_2 b)))
    shapeCasts_S128x1x1024_S128x1024

/-- The layer norm of the rows. -/
def normed (z : FVec F S128x1x1024 .f32) (g b : FVec F S1024 .f32) : FVec F S128x1024 .f32 :=
  scaled (centred z) (rowMean (mulf (centred z) (centred z))) g b

/-- The layer of its arguments. -/
def layer (x : FVec F S128x1x1024 .f32) (w : FVec F S1024x5632 .f32) (d : FVec F S2816x1024 .f32) (g b : FVec F S1024 .f32) : FVec F S128x1024 .f32 :=
  normed (pre x (down (act (hid x w)) d)) g b

theorem res_eq (m : (ℓ : Loc nD τ sig) → Buf (Elt F) ℓ) (c : Dev nD) :
    Value.res_main_v33 m c = layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Ops

theorem hid_apply (x : FVec Ideal S128x1x1024 .f32) (w : FVec Ideal S1024x5632 .f32) (p : Fin 128) (n : Fin 5632) :
    hid x w (ix3 p 0 n) = ∑ k : Fin 1024, x (ix3 p 0 k) * w (ix2 k n) := by
  pointwise [hid]

theorem act_apply (u : FVec Ideal S128x1x5632 .f32) (p : Fin 128) (n : Fin 2816) :
    act u (ix3 p 0 n) = glu (u (ix3 p 0 ⟨n.val, by omega⟩)) (u (ix3 p 0 ⟨2816 + n.val, by omega⟩)) := by
  unfold glu
  rw [zero_word]
  pointwise [act]

theorem down_apply (a : FVec Ideal S128x1x2816 .f32) (w : FVec Ideal S2816x1024 .f32) (p : Fin 128) (e : Fin 1024) :
    down a w (ix3 p 0 e) = ∑ n : Fin 2816, a (ix3 p 0 n) * w (ix2 n e) := by
  pointwise [down]

theorem pre_apply (x y : FVec Ideal S128x1x1024 .f32) (p : Fin 128) (e : Fin 1024) :
    pre x y (ix3 p 0 e) = alpha * x (ix3 p 0 e) + y (ix3 p 0 e) := by
  pointwise [pre, alpha]

theorem rowSum_apply (z : FVec Ideal S128x1x1024 .f32) (p : Fin 128) :
    rowSum z (ix2 p 0) = ∑ k : Fin 1024, z (ix3 p 0 k) := by
  pointwise [rowSum]

theorem rowMean_apply (z : FVec Ideal S128x1x1024 .f32) (p : Fin 128) :
    rowMean z (ix3 p 0 0) = mean fun k => z (ix3 p 0 k) := by
  unfold mean
  rw [← rowSum_apply]
  pointwise [rowMean]

theorem centred_apply (z : FVec Ideal S128x1x1024 .f32) (p : Fin 128) (e : Fin 1024) :
    centred z (ix3 p 0 e) = z (ix3 p 0 e) - rowMean z (ix3 p 0 0) := by
  pointwise [centred]

theorem scaled_apply (d : FVec Ideal S128x1x1024 .f32) (v : FVec Ideal S128x1x1 .f32) (g b : FVec Ideal S1024 .f32) (i : Fin 128) (e : Fin 1024) :
    scaled d v g b (ix2 i e) = d (ix3 i 0 e)
      * Ideal.rsqrt (v (ix3 i 0 0) + Ideal.ofBits .f32 0x3727C5AC#32) * g (ix1 e) + b (ix1 e) := by
  pointwise [scaled]

/-- A prompt of which every row is the token `p`. -/
def rows (x : FVec Ideal S128x1x1024 .f32) (p : Fin 128) : FVec Ideal Cert.Reference2Ideal.S8x2048x1024 .f32 :=
  fun i => x (ix3 (n2 := 1024) p 0 (i 2))

theorem z_apply (x : FVec Ideal S128x1x1024 .f32) (w : FVec Ideal S1024x5632 .f32) (d : FVec Ideal S2816x1024 .f32) (p : Fin 128) (e : Fin 1024) :
    pre x (down (act (hid x w)) d) (ix3 p 0 e)
      = zrow (fun k => x (ix3 p 0 k)) (fun k n => w (ix2 k n)) (fun n => d (ix2 n e)) e := by
  refine Eq.trans ?_ (Cert.Reference2Ideal.Ffn.z_apply (rows x p) w d 0 0 e)
  rw [pre_apply, down_apply, Cert.Reference2Ideal.Ffn.pre_apply, Cert.Reference2Ideal.Ffn.down_apply]
  refine congrArg (alpha * x (ix3 p 0 e) + ·) (Finset.sum_congr rfl fun n _ => ?_)
  rw [act_apply, hid_apply, hid_apply, Cert.Reference2Ideal.Ffn.act_apply, Cert.Reference2Ideal.Ffn.hid_apply, Cert.Reference2Ideal.Ffn.hid_apply]
  rfl

theorem layer_apply (x : FVec Ideal S128x1x1024 .f32) (w : FVec Ideal S1024x5632 .f32) (d : FVec Ideal S2816x1024 .f32) (g b : FVec Ideal S1024 .f32)
    (i : Fin 128) (e : Fin 1024) :
    layer x w d g b (ix2 i e)
      = lnorm (fun k => zrow (fun j => x (ix3 i 0 j)) (fun j n => w (ix2 j n)) (fun n => d (ix2 n k)) k)
          (fun k => g (ix1 k)) (fun k => b (ix1 k)) e := by
  unfold layer normed
  rw [scaled_apply, rowMean_apply, centred_apply, rowMean_apply]
  simp only [mulf_at, centred_apply, rowMean_apply, z_apply]
  rfl

end Cert.Reference7Ideal.Ffn
-- ==== Proof.Ffn.SampleFinal.lean ====
/-
  The feed-forward kernel's result for the sampled tokens is the reference's, at every token and lane.
-/
module

public import proofs.«01_k».proof.Defs
public import proofs.«01_k».proof.Proof.Ffn.SampleSteps
public import proofs.«01_k».proof.Proof.Ffn.SampleRef
public import proofs.«01_k».proof.Proof.Gen.Kernel7Ideal.Value
public import Idealize.ShloMosaic.Lib.Claim

@[expose] public section

set_option maxRecDepth 16384

noncomputable section

namespace Cert.Kernel7Ideal.Gen

open Idealize.ShloMosaic Idealize.ShloMosaic.TcCoe Idealize.SL.Sem Idealize.ShloMosaic.Tactic
open Cert.Proof.Layer Cert.Proof.Whole

variable (m : (ℓ : Loc nD τ sig) → Buf (Elt Ideal) ℓ) (c : Dev nD)

/-- The sampled tokens after the first norm. -/
abbrev Ha : FVec Ideal S128x1x1024 .f32 := m ((c.tc : Thread nD τ).loc main_arg0)
/-- The weights into the hidden units. -/
abbrev Ua : FVec Ideal S1024x5632 .f32 := m ((c.tc : Thread nD τ).loc main_arg1)
/-- The weights out of the hidden units. -/
abbrev Da : FVec Ideal S2816x1024 .f32 := m ((c.tc : Thread nD τ).loc main_arg2)
/-- The norm's scale. -/
abbrev Ga : FVec Ideal S1024 .f32 := m ((c.tc : Thread nD τ).loc main_arg3)
/-- The norm's shift. -/
abbrev Ba : FVec Ideal S1024 .f32 := m ((c.tc : Thread nD τ).loc main_arg4)

theorem V_h : V m c main_v4 = shapeCast S128x1024 (Ha m c) shapeCasts_S128x1x1024_S128x1024 := by
  entry_read
  rfl

theorem V_u : V m c main_v0 = (Ua m c : S1024x5632.Idx → EReal) := by
  entry_read
  rfl

theorem V_d : V m c main_v1 = (Da m c : S2816x1024.Idx → EReal) := by
  entry_read
  rfl

theorem V_g : V m c main_v2 = shapeCast S1x1024 (Ga m c) shapeCasts_S1024_S1x1024 := by
  entry_read
  rfl

theorem V_b : V m c main_v3 = shapeCast S1x1024 (Ba m c) shapeCasts_S1024_S1x1024 := by
  entry_read
  rfl

theorem h_apply (x : FVec Ideal S128x1x1024 .f32) (i : Fin 128) (e : Fin 1024) :
    shapeCast S128x1024 x shapeCasts_S128x1x1024_S128x1024 (ix2 i e) = x (ix3 i 0 e) := by
  pointwise

theorem g_apply (x : FVec Ideal S1024 .f32) (e : Fin 1024) :
    shapeCast S1x1024 x shapeCasts_S1024_S1x1024 (ix2 0 e) = x (ix1 e) := by
  pointwise

/-- The kernel's only point. -/
def pt : Fin cfg0.N := ⟨0, by rw [show cfg0.N = 1 from N_0]; decide⟩

theorem blk0 (r : Fin 128) (e : Fin 1024) : (iblk m c 0 pt : Vec Ideal S128x1024 .f32) (ix2 r e) = Ha m c (ix3 r 0 e) := by
  have e1 : (iblk m c 0 pt : Vec Ideal S128x1024 .f32) (ix2 r e) = V m c main_v4 (ix2 r e) :=
    congrArg (V m c main_v4) (whole2 (a := win0_0.index pt (0 : Fin 2)) (b := win0_0.index pt (1 : Fin 2)) r e (by decide +kernel) (by decide +kernel) rfl rfl)
  rw [e1, V_h, h_apply]

theorem blk1 (k : Fin 1024) (n : Fin 5632) : (iblk m c 1 pt : Vec Ideal S1024x5632 .bf16) (ix2 k n) = Ua m c (ix2 k n) := by
  have e1 : (iblk m c 1 pt : Vec Ideal S1024x5632 .bf16) (ix2 k n) = V m c main_v0 (ix2 k n) :=
    congrArg (V m c main_v0) (whole2 (a := win0_1.index pt (0 : Fin 2)) (b := win0_1.index pt (1 : Fin 2)) k n (by decide +kernel) (by decide +kernel) rfl rfl)
  rw [e1, V_u]

theorem blk2 (k : Fin 2816) (n : Fin 1024) : (iblk m c 2 pt : Vec Ideal S2816x1024 .bf16) (ix2 k n) = Da m c (ix2 k n) := by
  have e1 : (iblk m c 2 pt : Vec Ideal S2816x1024 .bf16) (ix2 k n) = V m c main_v1 (ix2 k n) :=
    congrArg (V m c main_v1) (whole2 (a := win0_2.index pt (0 : Fin 2)) (b := win0_2.index pt (1 : Fin 2)) k n (by decide +kernel) (by decide +kernel) rfl rfl)
  rw [e1, V_d]

theorem blk3 (e : Fin 1024) : (iblk m c 3 pt : Vec Ideal S1x1024 .f32) (ix2 0 e) = Ga m c (ix1 e) := by
  have e1 : (iblk m c 3 pt : Vec Ideal S1x1024 .f32) (ix2 0 e) = V m c main_v2 (ix2 0 e) :=
    congrArg (V m c main_v2) (whole2 (a := win0_3.index pt (0 : Fin 2)) (b := win0_3.index pt (1 : Fin 2)) 0 e (by decide +kernel) (by decide +kernel) rfl rfl)
  rw [e1, V_g, g_apply]

theorem blk4 (e : Fin 1024) : (iblk m c 4 pt : Vec Ideal S1x1024 .f32) (ix2 0 e) = Ba m c (ix1 e) := by
  have e1 : (iblk m c 4 pt : Vec Ideal S1x1024 .f32) (ix2 0 e) = V m c main_v3 (ix2 0 e) :=
    congrArg (V m c main_v3) (whole2 (a := win0_4.index pt (0 : Fin 2)) (b := win0_4.index pt (1 : Fin 2)) 0 e (by decide +kernel) (by decide +kernel) rfl rfl)
  rw [e1, V_b, g_apply]

theorem result_apply (i : Fin 128) (e : Fin 1024) :
    ((dats m 0 c).arrAt 5 cfg0.N : S128x1024.Idx → EReal) (ix2 i e)
      = Cert.Reference7Ideal.Ffn.layer (F := Ideal) (Ha m c) (Ua m c) (Da m c) (Ga m c) (Ba m c) (ix2 i e) := by
  have h := congrFun ((Value.blocks5 m c pt (by decide +kernel)).trans (Value.flushed5 m c pt)) (ix2 i e)
  have e1 : ((dats m 0 c).arrAt 5 cfg0.N : S128x1024.Idx → EReal) (ix2 i e)
      = out0_5 (F := Ideal) (iblk m c 0 pt) (iblk m c 1 pt) (iblk m c 2 pt) (iblk m c 3 pt) (iblk m c 4 pt) (ix2 i e) := by
    refine Eq.trans (congrArg ((dats m 0 c).arrAt 5 cfg0.N : S128x1024.Idx → EReal) ?_) h
    exact (whole2 (a := win0_5.index pt (0 : Fin 2)) (b := win0_5.index pt (1 : Fin 2)) i e (by decide +kernel) (by decide +kernel) rfl rfl).symm
  rw [e1, out_apply]
  simp only [blk0, blk1, blk2, blk3, blk4]
  exact (Cert.Reference7Ideal.Ffn.layer_apply (Ha m c) (Ua m c) (Da m c) (Ga m c) (Ba m c) i e).symm

end Cert.Kernel7Ideal.Gen

namespace Cert.Proof.FfnSample

open Idealize.ShloMosaic Idealize.ShloMosaic.TcCoe Idealize.SL.Sem

theorem reference_frame : Cert.quiescent_Reference7Ideal (hReference7Ideal := Cert.Reference7Ideal.Gen.facts) := by
  intro m g _
  exact (θ_run (Cert.Reference7Ideal.defs (F := Ideal)) _ _).mono (fun r h =>
      ⟨fun c => (h c).2, Idealize.ShloMosaic.sem_eq_zero_of_no_sems (by decide) r.2⟩)
    (Cert.Reference7Ideal.Value.run (F := Ideal) m g)

theorem algebraic : Cert.algebraic_Kernel7Ideal_Reference7Ideal (hKernel7Ideal := Cert.Kernel7Ideal.Gen.facts) (hReference7Ideal := Cert.Reference7Ideal.Gen.facts) := by
  intro m g m' g' _ hargs
  refine ⟨fun c => (Cert.Kernel7Ideal.Gen.dats m 0 c).arrAt 5 Cert.Kernel7Ideal.cfg0.N, Cert.Kernel7Ideal.Value.run_blocks m g, ?_⟩
  refine (θ_run (Cert.Reference7Ideal.defs (F := Ideal)) _ _).mono (fun r h c => ⟨(h c).1.trans ?_, (h c).2⟩)
    (Cert.Reference7Ideal.Value.run (F := Ideal) m' g')
  obtain ⟨h0, h1, h2, h3, h4⟩ := hargs c
  rw [Cert.Reference7Ideal.Ffn.res_eq, h0, h1, h2, h3, h4]
  funext i
  rw [show i = ix2 (i 0) (i 1) from Cert.Proof.Whole.ix2_ext rfl rfl]
  exact (Cert.Kernel7Ideal.Gen.result_apply m c (i 0) (i 1)).symm

end Cert.Proof.FfnSample
-- ==== Proof.lean ====
/-
  The certificate of seven calls of the layer. Each kernel, its idealization and its reference run and leave their
  arguments and counters as they were; of the idealizations only the attention's has a replaced constant, the mask. For
  finite queries, keys and decays the attention ends with the reference's results; the feed-forward part with its norm,
  the merge of the branches with its norm, the input projection and the forget gate's decays end with their references'
  results for every input, and so do the projection and the feed-forward part of the sampled tokens. The values' steps are in Proof/Attn/, Proof/Ffn/, Proof/Merge/, Proof/Proj/ and Proof/Gate/.
-/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Attn.Final
public import proofs.«01_k».proof.Proof.Ffn.Final
public import proofs.«01_k».proof.Proof.Merge.Final
public import proofs.«01_k».proof.Proof.Proj.Final
public import proofs.«01_k».proof.Proof.Gate.Final
public import proofs.«01_k».proof.Proof.Proj.SampleFinal
public import proofs.«01_k».proof.Proof.Ffn.SampleFinal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, pre_facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Kernel2.Gen.frame m g,
  fun m g _ => Cert.Kernel2Ideal.Gen.frame m g,
  Ffn.reference_frame,
  fun m g _ => Cert.Kernel3.Gen.frame m g,
  fun m g _ => Cert.Kernel3Ideal.Gen.frame m g,
  Merge.reference_frame,
  fun m g _ => Cert.Kernel4.Gen.frame m g,
  fun m g _ => Cert.Kernel4Ideal.Gen.frame m g,
  Proj.reference_frame,
  fun m g _ => Cert.Kernel5.Gen.frame m g,
  fun m g _ => Cert.Kernel5Ideal.Gen.frame m g,
  Gate.reference_frame,
  fun m g _ => Cert.Kernel6.Gen.frame m g,
  fun m g _ => Cert.Kernel6Ideal.Gen.frame m g,
  ProjSample.reference_frame,
  fun m g _ => Cert.Kernel7.Gen.frame m g,
  fun m g _ => Cert.Kernel7Ideal.Gen.frame m g,
  FfnSample.reference_frame,
  IdealRules.named_const.statement Cert.KernelIdeal.κ "mask" .f32 0xF149F2CA#32 ⊥ rfl,
  algebraic,
  trivial,
  Ffn.algebraic,
  trivial,
  Merge.algebraic,
  trivial,
  Proj.algebraic,
  trivial,
  Gate.algebraic,
  trivial,
  ProjSample.algebraic,
  trivial,
  FfnSample.algebraic⟩

end Cert.Proof

end
